-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x3072x32000 : Shape := ⟨3, ![2, 3072, 32000]⟩
abbrev S2x3072x50 : Shape := ⟨3, ![2, 3072, 50]⟩
abbrev S2x3072x4096 : Shape := ⟨3, ![2, 3072, 4096]⟩
abbrev S2x3072 : Shape := ⟨2, ![2, 3072]⟩
abbrev S_ : Shape := ⟨0, ![]⟩

class Facts : Prop where
  natLt_8_32 : 8 < 32
  bcast_S_S2x3072x4096 : S_.BroadcastsInDim S2x3072x4096 (![] : Fin 0 → Fin S2x3072x4096.rank)
  reducesTo_S2x3072x4096_S_d0_1_2 : S2x3072x4096.ReducesTo [0, 1, 2] S_
  h_S_ : 0 < S_.numel

variable [Facts]

def fn {F : FTy → Type} [FloatOps F] (main_arg0 : FVec F S2x3072x32000 .fp8e5m2) (main_arg1 : FVec F S2x3072x50 .f32) (main_arg2 : FVec F S2x3072x4096 .fp8e4m3) (main_arg3 : FVec F S2x3072 .f32) (main_arg4 : IVec S2x3072x4096 8) (main_arg5 : FVec F S2x3072 .f32) (main_arg6 : IVec S2x3072 32) : IVec S_ 1 :=
  let main_v0 : IVec S2x3072x4096 32 := (extsi 32 · natLt_8_32) main_arg4
  let main_c : IVec S_ 32 := constantI S_ 32 124#32
  let main_v1 : IVec S2x3072x4096 32 := broadcastInDim S2x3072x4096 ![] bcast_S_S2x3072x4096 main_c
  let main_v2 : IVec S2x3072x4096 32 := andi main_v0 main_v1
  let main_c_0 : IVec S_ 32 := constantI S_ 32 124#32
  let main_v3 : IVec S2x3072x4096 32 := broadcastInDim S2x3072x4096 ![] bcast_S_S2x3072x4096 main_c_0
  let main_v4 : IVec S2x3072x4096 1 := cmpi .ne main_v2 main_v3
  let main_c_1 : IVec S_ 1 := constantI S_ 1 1#1
  let main_v5 : IVec S_ 1 := (fun x v => Host.reduce IntOp.andi x v reducesTo_S2x3072x4096_S_d0_1_2 h_S_) main_v4 main_c_1
  main_v5
-- ==== Kernel.lean ====
abbrev S2x3072x32000 : Shape := ⟨3, ![2, 3072, 32000]⟩
abbrev S2x3072x50 : Shape := ⟨3, ![2, 3072, 50]⟩
abbrev S2x3072x4096 : Shape := ⟨3, ![2, 3072, 4096]⟩
abbrev S2x3072 : Shape := ⟨2, ![2, 3072]⟩
abbrev S6144x4096 : Shape := ⟨2, ![6144, 4096]⟩
abbrev S6144x1 : Shape := ⟨2, ![6144, 1]⟩
abbrev S512x4096 : Shape := ⟨2, ![512, 4096]⟩
abbrev S512x1 : Shape := ⟨2, ![512, 1]⟩
abbrev S6144 : Shape := ⟨1, ![6144]⟩
abbrev S_ : Shape := ⟨0, ![]⟩
abbrev S51 : Shape := ⟨1, ![51]⟩
abbrev S1x51 : Shape := ⟨2, ![1, 51]⟩
abbrev S6144x51 : Shape := ⟨2, ![6144, 51]⟩
abbrev S6144x50 : Shape := ⟨2, ![6144, 50]⟩
abbrev S50x6144 : Shape := ⟨2, ![50, 6144]⟩
abbrev S50x6144x1 : Shape := ⟨3, ![50, 6144, 1]⟩
abbrev S6144x32000 : Shape := ⟨2, ![6144, 32000]⟩
abbrev S1536x4x4096 : Shape := ⟨3, ![1536, 4, 4096]⟩
abbrev S1536x4096x4 : Shape := ⟨3, ![1536, 4096, 4]⟩
abbrev S1536x4096 : Shape := ⟨2, ![1536, 4096]⟩
abbrev S32000x4096 : Shape := ⟨2, ![32000, 4096]⟩
abbrev S1024x640 : Shape := ⟨2, ![1024, 640]⟩
abbrev S1x1024x1 : Shape := ⟨3, ![1, 1024, 1]⟩
abbrev S1024x4096 : Shape := ⟨2, ![1024, 4096]⟩
abbrev S640x4096 : Shape := ⟨2, ![640, 4096]⟩
abbrev S64x4096 : Shape := ⟨2, ![64, 4096]⟩
abbrev S1024x1 : Shape := ⟨2, ![1024, 1]⟩
abbrev S1 : Shape := ⟨1, ![1]⟩
abbrev S1x4096 : Shape := ⟨2, ![1, 4096]⟩

abbrev nBuf : Space → Nat
  | .hbm => 50
  | .vmem => 15
  | .smem => 4
  | _ => 0

abbrev bufTy : (tb : Table) → Fin (tcTables nBuf tb) → BufTy
  | .hbm, ⟨0, _⟩ => ⟨S2x3072x32000, .fp8e5m2⟩
  | .hbm, ⟨1, _⟩ => ⟨S2x3072x50, .f32⟩
  | .hbm, ⟨2, _⟩ => ⟨S2x3072x4096, .fp8e4m3⟩
  | .hbm, ⟨3, _⟩ => ⟨S2x3072, .f32⟩
  | .hbm, ⟨4, _⟩ => ⟨S2x3072x4096, .i8⟩
  | .hbm, ⟨5, _⟩ => ⟨S2x3072, .f32⟩
  | .hbm, ⟨6, _⟩ => ⟨S2x3072, .i32⟩
  | .hbm, ⟨7, _⟩ => ⟨S6144x4096, .fp8e4m3⟩
  | .hbm, ⟨8, _⟩ => ⟨S6144x1, .f32⟩
  | .hbm, ⟨9, _⟩ => ⟨S6144x4096, .bf16⟩
  | .hbm, ⟨10, _⟩ => ⟨S6144, .i32⟩
  | .hbm, ⟨11, _⟩ => ⟨S6144, .i32⟩
  | .hbm, ⟨12, _⟩ => ⟨S6144, .i32⟩
  | .hbm, ⟨13, _⟩ => ⟨S_, .i32⟩
  | .hbm, ⟨14, _⟩ => ⟨S6144, .i32⟩
  | .hbm, ⟨15, _⟩ => ⟨S6144, .i1⟩
  | .hbm, ⟨16, _⟩ => ⟨S_, .i32⟩
  | .hbm, ⟨17, _⟩ => ⟨S6144, .i32⟩
  | .hbm, ⟨18, _⟩ => ⟨S6144, .i32⟩
  | .hbm, ⟨19, _⟩ => ⟨S6144, .i32⟩
  | .hbm, ⟨20, _⟩ => ⟨S6144x1, .i32⟩
  | .hbm, ⟨21, _⟩ => ⟨S51, .i32⟩
  | .hbm, ⟨22, _⟩ => ⟨S_, .i32⟩
  | .hbm, ⟨23, _⟩ => ⟨S51, .i32⟩
  | .hbm, ⟨24, _⟩ => ⟨S51, .i32⟩
  | .hbm, ⟨25, _⟩ => ⟨S1x51, .i32⟩
  | .hbm, ⟨26, _⟩ => ⟨S6144x1, .i32⟩
  | .hbm, ⟨27, _⟩ => ⟨S6144x51, .i32⟩
  | .hbm, ⟨28, _⟩ => ⟨S6144x51, .i32⟩
  | .hbm, ⟨29, _⟩ => ⟨S6144x51, .i1⟩
  | .hbm, ⟨30, _⟩ => ⟨S6144x51, .i32⟩
  | .hbm, ⟨31, _⟩ => ⟨S_, .i32⟩
  | .hbm, ⟨32, _⟩ => ⟨S6144, .f32⟩
  | .hbm, ⟨33, _⟩ => ⟨S_, .i32⟩
  | .hbm, ⟨34, _⟩ => ⟨S6144, .i32⟩
  | .hbm, ⟨35, _⟩ => ⟨S6144, .i1⟩
  | .hbm, ⟨36, _⟩ => ⟨S_, .i32⟩
  | .hbm, ⟨37, _⟩ => ⟨S6144, .i32⟩
  | .hbm, ⟨38, _⟩ => ⟨S6144, .i32⟩
  | .hbm, ⟨39, _⟩ => ⟨S6144, .i32⟩
  | .hbm, ⟨40, _⟩ => ⟨S6144x1, .i32⟩
  | .hbm, ⟨41, _⟩ => ⟨S6144, .f32⟩
  | .hbm, ⟨42, _⟩ => ⟨S6144x50, .f32⟩
  | .hbm, ⟨43, _⟩ => ⟨S50x6144, .f32⟩
  | .hbm, ⟨44, _⟩ => ⟨S50x6144x1, .f32⟩
  | .hbm, ⟨45, _⟩ => ⟨S6144x32000, .fp8e5m2⟩
  | .hbm, ⟨46, _⟩ => ⟨S1536x4x4096, .i8⟩
  | .hbm, ⟨47, _⟩ => ⟨S1536x4096x4, .i8⟩
  | .hbm, ⟨48, _⟩ => ⟨S1536x4096, .i32⟩
  | .hbm, ⟨49, _⟩ => ⟨S32000x4096, .f32⟩
  | .local _ .vmem, ⟨0, _⟩ => ⟨S512x4096, .fp8e4m3⟩
  | .local _ .vmem, ⟨1, _⟩ => ⟨S512x4096, .fp8e4m3⟩
  | .local _ .vmem, ⟨2, _⟩ => ⟨S512x1, .f32⟩
  | .local _ .vmem, ⟨3, _⟩ => ⟨S512x1, .f32⟩
  | .local _ .vmem, ⟨4, _⟩ => ⟨S512x4096, .bf16⟩
  | .local _ .vmem, ⟨5, _⟩ => ⟨S512x4096, .bf16⟩
  | .local _ .vmem, ⟨6, _⟩ => ⟨S1024x640, .fp8e5m2⟩
  | .local _ .vmem, ⟨7, _⟩ => ⟨S1024x640, .fp8e5m2⟩
  | .local _ .vmem, ⟨8, _⟩ => ⟨S1x1024x1, .f32⟩
  | .local _ .vmem, ⟨9, _⟩ => ⟨S1x1024x1, .f32⟩
  | .local _ .vmem, ⟨10, _⟩ => ⟨S1024x4096, .bf16⟩
  | .local _ .vmem, ⟨11, _⟩ => ⟨S1024x4096, .bf16⟩
  | .local _ .vmem, ⟨12, _⟩ => ⟨S640x4096, .f32⟩
  | .local _ .vmem, ⟨13, _⟩ => ⟨S640x4096, .f32⟩
  | .local _ .vmem, ⟨14, _⟩ => ⟨S64x4096, .i32⟩
  | .local _ .smem, ⟨0, _⟩ => ⟨S6144, .i32⟩
  | .local _ .smem, ⟨1, _⟩ => ⟨S6144, .i32⟩
  | .local _ .smem, ⟨2, _⟩ => ⟨S51, .i32⟩
  | .local _ .smem, ⟨3, _⟩ => ⟨S6144, .f32⟩
  | _, _ => ⟨S2x3072x32000, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨3, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1_0 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_call1_call0_v0 : Ref sig .tc := ⟨.hbm, 25, rfl⟩
abbrev main_call1_call0_v1 : Ref sig .tc := ⟨.hbm, 26, rfl⟩
abbrev main_call1_call0_v2 : Ref sig .tc := ⟨.hbm, 27, rfl⟩
abbrev main_call1_call0_v3 : Ref sig .tc := ⟨.hbm, 28, rfl⟩
abbrev main_call1_call0_v4 : Ref sig .tc := ⟨.hbm, 29, rfl⟩
abbrev main_call1_call0_v5 : Ref sig .tc := ⟨.hbm, 30, rfl⟩
abbrev main_call1_call0_c : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v4 : Ref sig .tc := ⟨.smem, 0, rfl⟩
abbrev main_v11 : Ref sig .tc := ⟨.smem, 1, rfl⟩
abbrev main_v15 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc1_stg3_0 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![50, 6], ![false, false]⟩

abbrev pre1 : Pipeline.Prefetch sig := ⟨3, ![main_v4.idx, main_v11.idx, main_v15.idx], fun | 0 => main_v4.names | 1 => main_v11.names | 2 => main_v15.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k1_cond2 (i : grid1.Coords) : BitVec 1 :=
  let arg1 : BitVec 32 := BitVec.ofNat 32 (i 1).val
  let c5_i32 : BitVec 32 := 5#32
  let v18 : BitVec 1 := Scalar.cmpi .eq arg1 c5_i32
  let v19 : BitVec 32 := Scalar.extui v18
  let c0_i32_11 : BitVec 32 := 0#32
  let v20 : BitVec 1 := Scalar.cmpi .ne v19 c0_i32_11
  v20

def k1_off1 (i : grid1.Coords) : Fin 1 → Nat :=
  let arg0 : BitVec 32 := BitVec.ofNat 32 (i 0).val
  let v21 : Index := Scalar.indexCast arg0
  ![v21.toNat]
def k1_off2 (i : grid1.Coords) : Fin 1 → Nat :=
  let arg0 : BitVec 32 := BitVec.ofNat 32 (i 0).val
  let c1_i32 : BitVec 32 := 1#32
  let v23 : BitVec 32 := Scalar.addi arg0 c1_i32
  let v24 : Index := Scalar.indexCast v23
  ![v24.toNat]
@[reducible] def k1_t1_loop (v22 : BitVec 32) (v25 : BitVec 32) : Scf.Loop 32 :=
  let c0_i32_18 : BitVec 32 := 0#32
  let v26 : BitVec 32 := Scalar.subi v25 v22
  let c63_i32 : BitVec 32 := 63#32
  let v27 : BitVec 32 := Scalar.addi v26 c63_i32
  let c64_i32 : BitVec 32 := 64#32
  let v28 : BitVec 32 := Scalar.divsi v27 c64_i32
  let c0_i32_12 : BitVec 32 := 0#32
  let v29 : BitVec 32 := Scalar.subi v28 c0_i32_12
  let c1_i32_13 : BitVec 32 := 1#32
  let c1_i32_14 : BitVec 32 := 1#32
  let v30 : BitVec 32 := Scalar.subi c1_i32_13 c1_i32_14
  let v31 : BitVec 32 := Scalar.addi v29 v30
  let c1_i32_15 : BitVec 32 := 1#32
  let v32 : BitVec 32 := Scalar.divsi v31 c1_i32_15
  let v33 : BitVec 32 := Scalar.subi v32 c0_i32_18
  let c1_i32_19 : BitVec 32 := 1#32
  let v35 : BitVec 32 := Scalar.divsi v33 c1_i32_19
  let v36 : BitVec 32 := Scalar.muli v35 c1_i32_19
  let v37 : BitVec 32 := Scalar.addi c0_i32_18 v36
  let c1_i32_20 : BitVec 32 := 1#32
  ⟨c0_i32_18, v37, c1_i32_20⟩

@[reducible] def k1_t2_loop (v22 : BitVec 32) (v25 : BitVec 32) (k1_t1 : Fin (k1_t1_loop v22 v25).trips) : Scf.Loop 32 :=
  let c0_i32_30 : BitVec 32 := 0#32
  let c0_i32_17 : BitVec 32 := 0#32
  let c0_i32_18 : BitVec 32 := 0#32
  let c1_i32_20 : BitVec 32 := 1#32
  let arg13 : BitVec 32 := Scf.iv c0_i32_18 c1_i32_20 k1_t1
  let c1_i32_16 : BitVec 32 := 1#32
  let v38 : BitVec 32 := Scalar.muli arg13 c1_i32_16
  let v39 : BitVec 32 := Scalar.addi c0_i32_17 v38
  let c64_i32_22 : BitVec 32 := 64#32
  let v40 : BitVec 32 := Scalar.muli v39 c64_i32_22
  let v41 : BitVec 32 := Scalar.addi v22 v40
  let v42 : BitVec 32 := Scalar.subi v25 v41
  let c64_i32_23 : BitVec 32 := 64#32
  let v43 : BitVec 32 := Scalar.minsi v42 c64_i32_23
  let c0_i32_24 : BitVec 32 := 0#32
  let v44 : BitVec 32 := Scalar.subi v43 c0_i32_24
  let c1_i32_25 : BitVec 32 := 1#32
  let c1_i32_26 : BitVec 32 := 1#32
  let v45 : BitVec 32 := Scalar.subi c1_i32_25 c1_i32_26
  let v46 : BitVec 32 := Scalar.addi v44 v45
  let c1_i32_27 : BitVec 32 := 1#32
  let v47 : BitVec 32 := Scalar.divsi v46 c1_i32_27
  let v48 : BitVec 32 := Scalar.subi v47 c0_i32_30
  let c1_i32_31 : BitVec 32 := 1#32
  let v50 : BitVec 32 := Scalar.divsi v48 c1_i32_31
  let v51 : BitVec 32 := Scalar.muli v50 c1_i32_31
  let v52 : BitVec 32 := Scalar.addi c0_i32_30 v51
  let c1_i32_32 : BitVec 32 := 1#32
  ⟨c0_i32_30, v52, c1_i32_32⟩
def k1_off3 (v22 : BitVec 32) (v25 : BitVec 32) (k1_t1 : Fin (k1_t1_loop v22 v25).trips) (k1_t2 : Fin (k1_t2_loop v22 v25 k1_t1).trips) : Fin 1 → Nat :=
  let c0_i32_17 : BitVec 32 := 0#32
  let c0_i32_18 : BitVec 32 := 0#32
  let c1_i32_20 : BitVec 32 := 1#32
  let arg13 : BitVec 32 := Scf.iv c0_i32_18 c1_i32_20 k1_t1
  let c1_i32_16 : BitVec 32 := 1#32
  let v38 : BitVec 32 := Scalar.muli arg13 c1_i32_16
  let v39 : BitVec 32 := Scalar.addi c0_i32_17 v38
  let c64_i32_22 : BitVec 32 := 64#32
  let v40 : BitVec 32 := Scalar.muli v39 c64_i32_22
  let v41 : BitVec 32 := Scalar.addi v22 v40
  let c0_i32_29 : BitVec 32 := 0#32
  let c0_i32_30 : BitVec 32 := 0#32
  let c1_i32_32 : BitVec 32 := 1#32
  let arg14 : BitVec 32 := Scf.iv c0_i32_30 c1_i32_32 k1_t2
  let c1_i32_28 : BitVec 32 := 1#32
  let v71 : BitVec 32 := Scalar.muli arg14 c1_i32_28
  let v72 : BitVec 32 := Scalar.addi c0_i32_29 v71
  let v73 : BitVec 32 := Scalar.addi v41 v72
  let v74 : Index := Scalar.indexCast v73
  ![v74.toNat]
def k1_off4 (v22 : BitVec 32) (v25 : BitVec 32) (k1_t1 : Fin (k1_t1_loop v22 v25).trips) (k1_t2 : Fin (k1_t2_loop v22 v25 k1_t1).trips) : Fin 2 → Nat :=
  let c0_i32_29 : BitVec 32 := 0#32
  let c0_i32_30 : BitVec 32 := 0#32
  let c1_i32_32 : BitVec 32 := 1#32
  let arg14 : BitVec 32 := Scf.iv c0_i32_30 c1_i32_32 k1_t2
  let c1_i32_28 : BitVec 32 := 1#32
  let v71 : BitVec 32 := Scalar.muli arg14 c1_i32_28
  let v72 : BitVec 32 := Scalar.addi c0_i32_29 v71
  let c0_i32_54 : BitVec 32 := 0#32
  ![v72.toNat, 0]
def k1_off5 (v75 : BitVec 32) : Fin 2 → Nat :=
  let c2_i32 : BitVec 32 := 2#32
  let v76 : BitVec 32 := Scalar.shrui v75 c2_i32
  let c0_i32_55 : BitVec 32 := 0#32
  ![v76.toNat, 0]

def k1_chk2 (i : grid1.Coords) (v75 : BitVec 32) : Prop :=
  (∀ (k1_h2 : k1_cond2 i = 1#1), ∀ a, (k1_off5 v75) a + S1x4096.size a ≤ S1536x4096.size a)
theorem k1_off5_inb : ∀ (i : grid1.Coords) (v75 : BitVec 32) (k1_hw2 : k1_chk2 i v75), ∀ (k1_h2 : k1_cond2 i = 1#1), ∀ a, (k1_off5 v75) a + S1x4096.size a ≤ S1536x4096.size a := fun i v75 k1_hw2 k1_h2 => k1_hw2 k1_h2

@[reducible] def k1_t3_loop (v22 : BitVec 32) (v25 : BitVec 32) (k1_t1 : Fin (k1_t1_loop v22 v25).trips) : Scf.Loop 32 :=
  let c0_i32_30 : BitVec 32 := 0#32
  let c0_i32_17 : BitVec 32 := 0#32
  let c0_i32_18 : BitVec 32 := 0#32
  let c1_i32_20 : BitVec 32 := 1#32
  let arg13 : BitVec 32 := Scf.iv c0_i32_18 c1_i32_20 k1_t1
  let c1_i32_16 : BitVec 32 := 1#32
  let v38 : BitVec 32 := Scalar.muli arg13 c1_i32_16
  let v39 : BitVec 32 := Scalar.addi c0_i32_17 v38
  let c64_i32_22 : BitVec 32 := 64#32
  let v40 : BitVec 32 := Scalar.muli v39 c64_i32_22
  let v41 : BitVec 32 := Scalar.addi v22 v40
  let v42 : BitVec 32 := Scalar.subi v25 v41
  let c64_i32_23 : BitVec 32 := 64#32
  let v43 : BitVec 32 := Scalar.minsi v42 c64_i32_23
  let c0_i32_24 : BitVec 32 := 0#32
  let v44 : BitVec 32 := Scalar.subi v43 c0_i32_24
  let c1_i32_25 : BitVec 32 := 1#32
  let c1_i32_26 : BitVec 32 := 1#32
  let v45 : BitVec 32 := Scalar.subi c1_i32_25 c1_i32_26
  let v46 : BitVec 32 := Scalar.addi v44 v45
  let c1_i32_27 : BitVec 32 := 1#32
  let v47 : BitVec 32 := Scalar.divsi v46 c1_i32_27
  let v48 : BitVec 32 := Scalar.subi v47 c0_i32_30
  let c1_i32_31 : BitVec 32 := 1#32
  let v50 : BitVec 32 := Scalar.divsi v48 c1_i32_31
  let v51 : BitVec 32 := Scalar.muli v50 c1_i32_31
  let v52 : BitVec 32 := Scalar.addi c0_i32_30 v51
  let v49 : BitVec 32 := Scalar.addi c0_i32_30 v48
  let c1_i32_33 : BitVec 32 := 1#32
  ⟨v52, v49, c1_i32_33⟩
def k1_off6 (v22 : BitVec 32) (v25 : BitVec 32) (k1_t1 : Fin (k1_t1_loop v22 v25).trips) (k1_t3 : Fin (k1_t3_loop v22 v25 k1_t1).trips) : Fin 1 → Nat :=
  let c0_i32_17 : BitVec 32 := 0#32
  let c0_i32_18 : BitVec 32 := 0#32
  let c1_i32_20 : BitVec 32 := 1#32
  let arg13 : BitVec 32 := Scf.iv c0_i32_18 c1_i32_20 k1_t1
  let c1_i32_16 : BitVec 32 := 1#32
  let v38 : BitVec 32 := Scalar.muli arg13 c1_i32_16
  let v39 : BitVec 32 := Scalar.addi c0_i32_17 v38
  let c64_i32_22 : BitVec 32 := 64#32
  let v40 : BitVec 32 := Scalar.muli v39 c64_i32_22
  let v41 : BitVec 32 := Scalar.addi v22 v40
  let c0_i32_29 : BitVec 32 := 0#32
  let c0_i32_30 : BitVec 32 := 0#32
  let v42 : BitVec 32 := Scalar.subi v25 v41
  let c64_i32_23 : BitVec 32 := 64#32
  let v43 : BitVec 32 := Scalar.minsi v42 c64_i32_23
  let c0_i32_24 : BitVec 32 := 0#32
  let v44 : BitVec 32 := Scalar.subi v43 c0_i32_24
  let c1_i32_25 : BitVec 32 := 1#32
  let c1_i32_26 : BitVec 32 := 1#32
  let v45 : BitVec 32 := Scalar.subi c1_i32_25 c1_i32_26
  let v46 : BitVec 32 := Scalar.addi v44 v45
  let c1_i32_27 : BitVec 32 := 1#32
  let v47 : BitVec 32 := Scalar.divsi v46 c1_i32_27
  let v48 : BitVec 32 := Scalar.subi v47 c0_i32_30
  let c1_i32_31 : BitVec 32 := 1#32
  let v50 : BitVec 32 := Scalar.divsi v48 c1_i32_31
  let v51 : BitVec 32 := Scalar.muli v50 c1_i32_31
  let v52 : BitVec 32 := Scalar.addi c0_i32_30 v51
  let c1_i32_33 : BitVec 32 := 1#32
  let arg14 : BitVec 32 := Scf.iv v52 c1_i32_33 k1_t3
  let c1_i32_28 : BitVec 32 := 1#32
  let v71 : BitVec 32 := Scalar.muli arg14 c1_i32_28
  let v72 : BitVec 32 := Scalar.addi c0_i32_29 v71
  let v73 : BitVec 32 := Scalar.addi v41 v72
  let v74 : Index := Scalar.indexCast v73
  ![v74.toNat]
def k1_off7 (v22 : BitVec 32) (v25 : BitVec 32) (k1_t1 : Fin (k1_t1_loop v22 v25).trips) (k1_t3 : Fin (k1_t3_loop v22 v25 k1_t1).trips) : Fin 2 → Nat :=
  let c0_i32_29 : BitVec 32 := 0#32
  let c0_i32_30 : BitVec 32 := 0#32
  let c0_i32_17 : BitVec 32 := 0#32
  let c0_i32_18 : BitVec 32 := 0#32
  let c1_i32_20 : BitVec 32 := 1#32
  let arg13 : BitVec 32 := Scf.iv c0_i32_18 c1_i32_20 k1_t1
  let c1_i32_16 : BitVec 32 := 1#32
  let v38 : BitVec 32 := Scalar.muli arg13 c1_i32_16
  let v39 : BitVec 32 := Scalar.addi c0_i32_17 v38
  let c64_i32_22 : BitVec 32 := 64#32
  let v40 : BitVec 32 := Scalar.muli v39 c64_i32_22
  let v41 : BitVec 32 := Scalar.addi v22 v40
  let v42 : BitVec 32 := Scalar.subi v25 v41
  let c64_i32_23 : BitVec 32 := 64#32
  let v43 : BitVec 32 := Scalar.minsi v42 c64_i32_23
  let c0_i32_24 : BitVec 32 := 0#32
  let v44 : BitVec 32 := Scalar.subi v43 c0_i32_24
  let c1_i32_25 : BitVec 32 := 1#32
  let c1_i32_26 : BitVec 32 := 1#32
  let v45 : BitVec 32 := Scalar.subi c1_i32_25 c1_i32_26
  let v46 : BitVec 32 := Scalar.addi v44 v45
  let c1_i32_27 : BitVec 32 := 1#32
  let v47 : BitVec 32 := Scalar.divsi v46 c1_i32_27
  let v48 : BitVec 32 := Scalar.subi v47 c0_i32_30
  let c1_i32_31 : BitVec 32 := 1#32
  let v50 : BitVec 32 := Scalar.divsi v48 c1_i32_31
  let v51 : BitVec 32 := Scalar.muli v50 c1_i32_31
  let v52 : BitVec 32 := Scalar.addi c0_i32_30 v51
  let c1_i32_33 : BitVec 32 := 1#32
  let arg14 : BitVec 32 := Scf.iv v52 c1_i32_33 k1_t3
  let c1_i32_28 : BitVec 32 := 1#32
  let v71 : BitVec 32 := Scalar.muli arg14 c1_i32_28
  let v72 : BitVec 32 := Scalar.addi c0_i32_29 v71
  let c0_i32_54 : BitVec 32 := 0#32
  ![v72.toNat, 0]
def k1_off8 (v75 : BitVec 32) : Fin 2 → Nat :=
  let c2_i32 : BitVec 32 := 2#32
  let v76 : BitVec 32 := Scalar.shrui v75 c2_i32
  let c0_i32_55 : BitVec 32 := 0#32
  ![v76.toNat, 0]

def k1_chk3 (i : grid1.Coords) (v75 : BitVec 32) : Prop :=
  (∀ (k1_h2 : k1_cond2 i = 1#1), ∀ a, (k1_off8 v75) a + S1x4096.size a ≤ S1536x4096.size a)
theorem k1_off8_inb : ∀ (i : grid1.Coords) (v75 : BitVec 32) (k1_hw3 : k1_chk3 i v75), ∀ (k1_h2 : k1_cond2 i = 1#1), ∀ a, (k1_off8 v75) a + S1x4096.size a ≤ S1536x4096.size a := fun i v75 k1_hw3 k1_h2 => k1_hw3 k1_h2

@[reducible] def k1_t4_loop (v22 : BitVec 32) (v25 : BitVec 32) (k1_t1 : Fin (k1_t1_loop v22 v25).trips) : Scf.Loop 32 :=
  let c0_i32_40 : BitVec 32 := 0#32
  let c0_i32_17 : BitVec 32 := 0#32
  let c0_i32_18 : BitVec 32 := 0#32
  let c1_i32_20 : BitVec 32 := 1#32
  let arg13 : BitVec 32 := Scf.iv c0_i32_18 c1_i32_20 k1_t1
  let c1_i32_16 : BitVec 32 := 1#32
  let v38 : BitVec 32 := Scalar.muli arg13 c1_i32_16
  let v39 : BitVec 32 := Scalar.addi c0_i32_17 v38
  let c64_i32_22 : BitVec 32 := 64#32
  let v40 : BitVec 32 := Scalar.muli v39 c64_i32_22
  let v41 : BitVec 32 := Scalar.addi v22 v40
  let v42 : BitVec 32 := Scalar.subi v25 v41
  let c64_i32_23 : BitVec 32 := 64#32
  let v43 : BitVec 32 := Scalar.minsi v42 c64_i32_23
  let c0_i32_34 : BitVec 32 := 0#32
  let v53 : BitVec 32 := Scalar.subi v43 c0_i32_34
  let c1_i32_35 : BitVec 32 := 1#32
  let c1_i32_36 : BitVec 32 := 1#32
  let v54 : BitVec 32 := Scalar.subi c1_i32_35 c1_i32_36
  let v55 : BitVec 32 := Scalar.addi v53 v54
  let c1_i32_37 : BitVec 32 := 1#32
  let v56 : BitVec 32 := Scalar.divsi v55 c1_i32_37
  let v57 : BitVec 32 := Scalar.subi v56 c0_i32_40
  let c1_i32_41 : BitVec 32 := 1#32
  let v59 : BitVec 32 := Scalar.divsi v57 c1_i32_41
  let v60 : BitVec 32 := Scalar.muli v59 c1_i32_41
  let v61 : BitVec 32 := Scalar.addi c0_i32_40 v60
  let c1_i32_42 : BitVec 32 := 1#32
  ⟨c0_i32_40, v61, c1_i32_42⟩
def k1_off9 (v22 : BitVec 32) (v25 : BitVec 32) (k1_t1 : Fin (k1_t1_loop v22 v25).trips) (k1_t4 : Fin (k1_t4_loop v22 v25 k1_t1).trips) : Fin 2 → Nat :=
  let c0_i32_39 : BitVec 32 := 0#32
  let c0_i32_40 : BitVec 32 := 0#32
  let c1_i32_42 : BitVec 32 := 1#32
  let arg14 : BitVec 32 := Scf.iv c0_i32_40 c1_i32_42 k1_t4
  let c1_i32_38 : BitVec 32 := 1#32
  let v71 : BitVec 32 := Scalar.muli arg14 c1_i32_38
  let v72 : BitVec 32 := Scalar.addi c0_i32_39 v71
  let c0_i32_54 : BitVec 32 := 0#32
  ![v72.toNat, 0]
@[reducible] def k1_t5_loop (v22 : BitVec 32) (v25 : BitVec 32) (k1_t1 : Fin (k1_t1_loop v22 v25).trips) : Scf.Loop 32 :=
  let c0_i32_40 : BitVec 32 := 0#32
  let c0_i32_17 : BitVec 32 := 0#32
  let c0_i32_18 : BitVec 32 := 0#32
  let c1_i32_20 : BitVec 32 := 1#32
  let arg13 : BitVec 32 := Scf.iv c0_i32_18 c1_i32_20 k1_t1
  let c1_i32_16 : BitVec 32 := 1#32
  let v38 : BitVec 32 := Scalar.muli arg13 c1_i32_16
  let v39 : BitVec 32 := Scalar.addi c0_i32_17 v38
  let c64_i32_22 : BitVec 32 := 64#32
  let v40 : BitVec 32 := Scalar.muli v39 c64_i32_22
  let v41 : BitVec 32 := Scalar.addi v22 v40
  let v42 : BitVec 32 := Scalar.subi v25 v41
  let c64_i32_23 : BitVec 32 := 64#32
  let v43 : BitVec 32 := Scalar.minsi v42 c64_i32_23
  let c0_i32_34 : BitVec 32 := 0#32
  let v53 : BitVec 32 := Scalar.subi v43 c0_i32_34
  let c1_i32_35 : BitVec 32 := 1#32
  let c1_i32_36 : BitVec 32 := 1#32
  let v54 : BitVec 32 := Scalar.subi c1_i32_35 c1_i32_36
  let v55 : BitVec 32 := Scalar.addi v53 v54
  let c1_i32_37 : BitVec 32 := 1#32
  let v56 : BitVec 32 := Scalar.divsi v55 c1_i32_37
  let v57 : BitVec 32 := Scalar.subi v56 c0_i32_40
  let c1_i32_41 : BitVec 32 := 1#32
  let v59 : BitVec 32 := Scalar.divsi v57 c1_i32_41
  let v60 : BitVec 32 := Scalar.muli v59 c1_i32_41
  let v61 : BitVec 32 := Scalar.addi c0_i32_40 v60
  let v58 : BitVec 32 := Scalar.addi c0_i32_40 v57
  let c1_i32_43 : BitVec 32 := 1#32
  ⟨v61, v58, c1_i32_43⟩
def k1_off10 (v22 : BitVec 32) (v25 : BitVec 32) (k1_t1 : Fin (k1_t1_loop v22 v25).trips) (k1_t5 : Fin (k1_t5_loop v22 v25 k1_t1).trips) : Fin 2 → Nat :=
  let c0_i32_39 : BitVec 32 := 0#32
  let c0_i32_40 : BitVec 32 := 0#32
  let c0_i32_17 : BitVec 32 := 0#32
  let c0_i32_18 : BitVec 32 := 0#32
  let c1_i32_20 : BitVec 32 := 1#32
  let arg13 : BitVec 32 := Scf.iv c0_i32_18 c1_i32_20 k1_t1
  let c1_i32_16 : BitVec 32 := 1#32
  let v38 : BitVec 32 := Scalar.muli arg13 c1_i32_16
  let v39 : BitVec 32 := Scalar.addi c0_i32_17 v38
  let c64_i32_22 : BitVec 32 := 64#32
  let v40 : BitVec 32 := Scalar.muli v39 c64_i32_22
  let v41 : BitVec 32 := Scalar.addi v22 v40
  let v42 : BitVec 32 := Scalar.subi v25 v41
  let c64_i32_23 : BitVec 32 := 64#32
  let v43 : BitVec 32 := Scalar.minsi v42 c64_i32_23
  let c0_i32_34 : BitVec 32 := 0#32
  let v53 : BitVec 32 := Scalar.subi v43 c0_i32_34
  let c1_i32_35 : BitVec 32 := 1#32
  let c1_i32_36 : BitVec 32 := 1#32
  let v54 : BitVec 32 := Scalar.subi c1_i32_35 c1_i32_36
  let v55 : BitVec 32 := Scalar.addi v53 v54
  let c1_i32_37 : BitVec 32 := 1#32
  let v56 : BitVec 32 := Scalar.divsi v55 c1_i32_37
  let v57 : BitVec 32 := Scalar.subi v56 c0_i32_40
  let c1_i32_41 : BitVec 32 := 1#32
  let v59 : BitVec 32 := Scalar.divsi v57 c1_i32_41
  let v60 : BitVec 32 := Scalar.muli v59 c1_i32_41
  let v61 : BitVec 32 := Scalar.addi c0_i32_40 v60
  let c1_i32_43 : BitVec 32 := 1#32
  let arg14 : BitVec 32 := Scf.iv v61 c1_i32_43 k1_t5
  let c1_i32_38 : BitVec 32 := 1#32
  let v71 : BitVec 32 := Scalar.muli arg14 c1_i32_38
  let v72 : BitVec 32 := Scalar.addi c0_i32_39 v71
  let c0_i32_54 : BitVec 32 := 0#32
  ![v72.toNat, 0]
@[reducible] def k1_t6_loop (v22 : BitVec 32) (v25 : BitVec 32) (k1_t1 : Fin (k1_t1_loop v22 v25).trips) : Scf.Loop 32 :=
  let c0_i32_50 : BitVec 32 := 0#32
  let c0_i32_17 : BitVec 32 := 0#32
  let c0_i32_18 : BitVec 32 := 0#32
  let c1_i32_20 : BitVec 32 := 1#32
  let arg13 : BitVec 32 := Scf.iv c0_i32_18 c1_i32_20 k1_t1
  let c1_i32_16 : BitVec 32 := 1#32
  let v38 : BitVec 32 := Scalar.muli arg13 c1_i32_16
  let v39 : BitVec 32 := Scalar.addi c0_i32_17 v38
  let c64_i32_22 : BitVec 32 := 64#32
  let v40 : BitVec 32 := Scalar.muli v39 c64_i32_22
  let v41 : BitVec 32 := Scalar.addi v22 v40
  let v42 : BitVec 32 := Scalar.subi v25 v41
  let c64_i32_23 : BitVec 32 := 64#32
  let v43 : BitVec 32 := Scalar.minsi v42 c64_i32_23
  let c0_i32_44 : BitVec 32 := 0#32
  let v62 : BitVec 32 := Scalar.subi v43 c0_i32_44
  let c1_i32_45 : BitVec 32 := 1#32
  let c1_i32_46 : BitVec 32 := 1#32
  let v63 : BitVec 32 := Scalar.subi c1_i32_45 c1_i32_46
  let v64 : BitVec 32 := Scalar.addi v62 v63
  let c1_i32_47 : BitVec 32 := 1#32
  let v65 : BitVec 32 := Scalar.divsi v64 c1_i32_47
  let v66 : BitVec 32 := Scalar.subi v65 c0_i32_50
  let c1_i32_51 : BitVec 32 := 1#32
  let v68 : BitVec 32 := Scalar.divsi v66 c1_i32_51
  let v69 : BitVec 32 := Scalar.muli v68 c1_i32_51
  let v70 : BitVec 32 := Scalar.addi c0_i32_50 v69
  let c1_i32_52 : BitVec 32 := 1#32
  ⟨c0_i32_50, v70, c1_i32_52⟩
def k1_off11 (v22 : BitVec 32) (v25 : BitVec 32) (k1_t1 : Fin (k1_t1_loop v22 v25).trips) (k1_t6 : Fin (k1_t6_loop v22 v25 k1_t1).trips) : Fin 1 → Nat :=
  let c0_i32_17 : BitVec 32 := 0#32
  let c0_i32_18 : BitVec 32 := 0#32
  let c1_i32_20 : BitVec 32 := 1#32
  let arg13 : BitVec 32 := Scf.iv c0_i32_18 c1_i32_20 k1_t1
  let c1_i32_16 : BitVec 32 := 1#32
  let v38 : BitVec 32 := Scalar.muli arg13 c1_i32_16
  let v39 : BitVec 32 := Scalar.addi c0_i32_17 v38
  let c64_i32_22 : BitVec 32 := 64#32
  let v40 : BitVec 32 := Scalar.muli v39 c64_i32_22
  let v41 : BitVec 32 := Scalar.addi v22 v40
  let c0_i32_49 : BitVec 32 := 0#32
  let c0_i32_50 : BitVec 32 := 0#32
  let c1_i32_52 : BitVec 32 := 1#32
  let arg14 : BitVec 32 := Scf.iv c0_i32_50 c1_i32_52 k1_t6
  let c1_i32_48 : BitVec 32 := 1#32
  let v71 : BitVec 32 := Scalar.muli arg14 c1_i32_48
  let v72 : BitVec 32 := Scalar.addi c0_i32_49 v71
  let v73 : BitVec 32 := Scalar.addi v41 v72
  let v74 : Index := Scalar.indexCast v73
  ![v74.toNat]
def k1_off12 (v22 : BitVec 32) (v25 : BitVec 32) (k1_t1 : Fin (k1_t1_loop v22 v25).trips) (k1_t6 : Fin (k1_t6_loop v22 v25 k1_t1).trips) : Fin 2 → Nat :=
  let c0_i32_49 : BitVec 32 := 0#32
  let c0_i32_50 : BitVec 32 := 0#32
  let c1_i32_52 : BitVec 32 := 1#32
  let arg14 : BitVec 32 := Scf.iv c0_i32_50 c1_i32_52 k1_t6
  let c1_i32_48 : BitVec 32 := 1#32
  let v71 : BitVec 32 := Scalar.muli arg14 c1_i32_48
  let v72 : BitVec 32 := Scalar.addi c0_i32_49 v71
  let v84 : Index := Scalar.indexCast v72
  let c0_54 : Index := 0#32
  ![v84.toNat, 0]
def k1_off13 (i : grid1.Coords) (v78 : BitVec 32) : Fin 2 → Nat :=
  let arg0 : BitVec 32 := BitVec.ofNat 32 (i 0).val
  let c640_i32 : BitVec 32 := 640#32
  let v79 : BitVec 32 := Scalar.muli arg0 c640_i32
  let v80 : BitVec 32 := Scalar.subi v78 v79
  let v88 : Index := Scalar.indexCast v80
  let c0_55 : Index := 0#32
  ![v88.toNat, 0]

def k1_chk4 (i : grid1.Coords) (v78 : BitVec 32) : Prop :=
  (∀ (k1_h2 : k1_cond2 i = 1#1), ∀ a, (k1_off13 i v78) a + S1x4096.size a ≤ S640x4096.size a)
theorem k1_off13_inb : ∀ (i : grid1.Coords) (v78 : BitVec 32) (k1_hw4 : k1_chk4 i v78), ∀ (k1_h2 : k1_cond2 i = 1#1), ∀ a, (k1_off13 i v78) a + S1x4096.size a ≤ S640x4096.size a := fun i v78 k1_hw4 k1_h2 => k1_hw4 k1_h2

def k1_off14 (v22 : BitVec 32) (v25 : BitVec 32) (k1_t1 : Fin (k1_t1_loop v22 v25).trips) (k1_t6 : Fin (k1_t6_loop v22 v25 k1_t1).trips) : Fin 1 → Nat :=
  let c0_i32_17 : BitVec 32 := 0#32
  let c0_i32_18 : BitVec 32 := 0#32
  let c1_i32_20 : BitVec 32 := 1#32
  let arg13 : BitVec 32 := Scf.iv c0_i32_18 c1_i32_20 k1_t1
  let c1_i32_16 : BitVec 32 := 1#32
  let v38 : BitVec 32 := Scalar.muli arg13 c1_i32_16
  let v39 : BitVec 32 := Scalar.addi c0_i32_17 v38
  let c64_i32_22 : BitVec 32 := 64#32
  let v40 : BitVec 32 := Scalar.muli v39 c64_i32_22
  let v41 : BitVec 32 := Scalar.addi v22 v40
  let c0_i32_49 : BitVec 32 := 0#32
  let c0_i32_50 : BitVec 32 := 0#32
  let c1_i32_52 : BitVec 32 := 1#32
  let arg14 : BitVec 32 := Scf.iv c0_i32_50 c1_i32_52 k1_t6
  let c1_i32_48 : BitVec 32 := 1#32
  let v71 : BitVec 32 := Scalar.muli arg14 c1_i32_48
  let v72 : BitVec 32 := Scalar.addi c0_i32_49 v71
  let v115 : BitVec 32 := Scalar.addi v41 v72
  let v116 : Index := Scalar.indexCast v115
  ![v116.toNat]
@[reducible] def k1_t7_loop (v22 : BitVec 32) (v25 : BitVec 32) (k1_t1 : Fin (k1_t1_loop v22 v25).trips) : Scf.Loop 32 :=
  let c0_i32_50 : BitVec 32 := 0#32
  let c0_i32_17 : BitVec 32 := 0#32
  let c0_i32_18 : BitVec 32 := 0#32
  let c1_i32_20 : BitVec 32 := 1#32
  let arg13 : BitVec 32 := Scf.iv c0_i32_18 c1_i32_20 k1_t1
  let c1_i32_16 : BitVec 32 := 1#32
  let v38 : BitVec 32 := Scalar.muli arg13 c1_i32_16
  let v39 : BitVec 32 := Scalar.addi c0_i32_17 v38
  let c64_i32_22 : BitVec 32 := 64#32
  let v40 : BitVec 32 := Scalar.muli v39 c64_i32_22
  let v41 : BitVec 32 := Scalar.addi v22 v40
  let v42 : BitVec 32 := Scalar.subi v25 v41
  let c64_i32_23 : BitVec 32 := 64#32
  let v43 : BitVec 32 := Scalar.minsi v42 c64_i32_23
  let c0_i32_44 : BitVec 32 := 0#32
  let v62 : BitVec 32 := Scalar.subi v43 c0_i32_44
  let c1_i32_45 : BitVec 32 := 1#32
  let c1_i32_46 : BitVec 32 := 1#32
  let v63 : BitVec 32 := Scalar.subi c1_i32_45 c1_i32_46
  let v64 : BitVec 32 := Scalar.addi v62 v63
  let c1_i32_47 : BitVec 32 := 1#32
  let v65 : BitVec 32 := Scalar.divsi v64 c1_i32_47
  let v66 : BitVec 32 := Scalar.subi v65 c0_i32_50
  let c1_i32_51 : BitVec 32 := 1#32
  let v68 : BitVec 32 := Scalar.divsi v66 c1_i32_51
  let v69 : BitVec 32 := Scalar.muli v68 c1_i32_51
  let v70 : BitVec 32 := Scalar.addi c0_i32_50 v69
  let v67 : BitVec 32 := Scalar.addi c0_i32_50 v66
  let c1_i32_53 : BitVec 32 := 1#32
  ⟨v70, v67, c1_i32_53⟩
def k1_off15 (v22 : BitVec 32) (v25 : BitVec 32) (k1_t1 : Fin (k1_t1_loop v22 v25).trips) (k1_t7 : Fin (k1_t7_loop v22 v25 k1_t1).trips) : Fin 1 → Nat :=
  let c0_i32_17 : BitVec 32 := 0#32
  let c0_i32_18 : BitVec 32 := 0#32
  let c1_i32_20 : BitVec 32 := 1#32
  let arg13 : BitVec 32 := Scf.iv c0_i32_18 c1_i32_20 k1_t1
  let c1_i32_16 : BitVec 32 := 1#32
  let v38 : BitVec 32 := Scalar.muli arg13 c1_i32_16
  let v39 : BitVec 32 := Scalar.addi c0_i32_17 v38
  let c64_i32_22 : BitVec 32 := 64#32
  let v40 : BitVec 32 := Scalar.muli v39 c64_i32_22
  let v41 : BitVec 32 := Scalar.addi v22 v40
  let c0_i32_49 : BitVec 32 := 0#32
  let c0_i32_50 : BitVec 32 := 0#32
  let v42 : BitVec 32 := Scalar.subi v25 v41
  let c64_i32_23 : BitVec 32 := 64#32
  let v43 : BitVec 32 := Scalar.minsi v42 c64_i32_23
  let c0_i32_44 : BitVec 32 := 0#32
  let v62 : BitVec 32 := Scalar.subi v43 c0_i32_44
  let c1_i32_45 : BitVec 32 := 1#32
  let c1_i32_46 : BitVec 32 := 1#32
  let v63 : BitVec 32 := Scalar.subi c1_i32_45 c1_i32_46
  let v64 : BitVec 32 := Scalar.addi v62 v63
  let c1_i32_47 : BitVec 32 := 1#32
  let v65 : BitVec 32 := Scalar.divsi v64 c1_i32_47
  let v66 : BitVec 32 := Scalar.subi v65 c0_i32_50
  let c1_i32_51 : BitVec 32 := 1#32
  let v68 : BitVec 32 := Scalar.divsi v66 c1_i32_51
  let v69 : BitVec 32 := Scalar.muli v68 c1_i32_51
  let v70 : BitVec 32 := Scalar.addi c0_i32_50 v69
  let c1_i32_53 : BitVec 32 := 1#32
  let arg14 : BitVec 32 := Scf.iv v70 c1_i32_53 k1_t7
  let c1_i32_48 : BitVec 32 := 1#32
  let v71 : BitVec 32 := Scalar.muli arg14 c1_i32_48
  let v72 : BitVec 32 := Scalar.addi c0_i32_49 v71
  let v73 : BitVec 32 := Scalar.addi v41 v72
  let v74 : Index := Scalar.indexCast v73
  ![v74.toNat]
def k1_off16 (v22 : BitVec 32) (v25 : BitVec 32) (k1_t1 : Fin (k1_t1_loop v22 v25).trips) (k1_t7 : Fin (k1_t7_loop v22 v25 k1_t1).trips) : Fin 2 → Nat :=
  let c0_i32_49 : BitVec 32 := 0#32
  let c0_i32_50 : BitVec 32 := 0#32
  let c0_i32_17 : BitVec 32 := 0#32
  let c0_i32_18 : BitVec 32 := 0#32
  let c1_i32_20 : BitVec 32 := 1#32
  let arg13 : BitVec 32 := Scf.iv c0_i32_18 c1_i32_20 k1_t1
  let c1_i32_16 : BitVec 32 := 1#32
  let v38 : BitVec 32 := Scalar.muli arg13 c1_i32_16
  let v39 : BitVec 32 := Scalar.addi c0_i32_17 v38
  let c64_i32_22 : BitVec 32 := 64#32
  let v40 : BitVec 32 := Scalar.muli v39 c64_i32_22
  let v41 : BitVec 32 := Scalar.addi v22 v40
  let v42 : BitVec 32 := Scalar.subi v25 v41
  let c64_i32_23 : BitVec 32 := 64#32
  let v43 : BitVec 32 := Scalar.minsi v42 c64_i32_23
  let c0_i32_44 : BitVec 32 := 0#32
  let v62 : BitVec 32 := Scalar.subi v43 c0_i32_44
  let c1_i32_45 : BitVec 32 := 1#32
  let c1_i32_46 : BitVec 32 := 1#32
  let v63 : BitVec 32 := Scalar.subi c1_i32_45 c1_i32_46
  let v64 : BitVec 32 := Scalar.addi v62 v63
  let c1_i32_47 : BitVec 32 := 1#32
  let v65 : BitVec 32 := Scalar.divsi v64 c1_i32_47
  let v66 : BitVec 32 := Scalar.subi v65 c0_i32_50
  let c1_i32_51 : BitVec 32 := 1#32
  let v68 : BitVec 32 := Scalar.divsi v66 c1_i32_51
  let v69 : BitVec 32 := Scalar.muli v68 c1_i32_51
  let v70 : BitVec 32 := Scalar.addi c0_i32_50 v69
  let c1_i32_53 : BitVec 32 := 1#32
  let arg14 : BitVec 32 := Scf.iv v70 c1_i32_53 k1_t7
  let c1_i32_48 : BitVec 32 := 1#32
  let v71 : BitVec 32 := Scalar.muli arg14 c1_i32_48
  let v72 : BitVec 32 := Scalar.addi c0_i32_49 v71
  let v84 : Index := Scalar.indexCast v72
  let c0_54 : Index := 0#32
  ![v84.toNat, 0]
def k1_off17 (i : grid1.Coords) (v78 : BitVec 32) : Fin 2 → Nat :=
  let arg0 : BitVec 32 := BitVec.ofNat 32 (i 0).val
  let c640_i32 : BitVec 32 := 640#32
  let v79 : BitVec 32 := Scalar.muli arg0 c640_i32
  let v80 : BitVec 32 := Scalar.subi v78 v79
  let v88 : Index := Scalar.indexCast v80
  let c0_55 : Index := 0#32
  ![v88.toNat, 0]

def k1_chk5 (i : grid1.Coords) (v78 : BitVec 32) : Prop :=
  (∀ (k1_h2 : k1_cond2 i = 1#1), ∀ a, (k1_off17 i v78) a + S1x4096.size a ≤ S640x4096.size a)
theorem k1_off17_inb : ∀ (i : grid1.Coords) (v78 : BitVec 32) (k1_hw5 : k1_chk5 i v78), ∀ (k1_h2 : k1_cond2 i = 1#1), ∀ a, (k1_off17 i v78) a + S1x4096.size a ≤ S640x4096.size a := fun i v78 k1_hw5 k1_h2 => k1_hw5 k1_h2

def k1_off18 (v22 : BitVec 32) (v25 : BitVec 32) (k1_t1 : Fin (k1_t1_loop v22 v25).trips) (k1_t7 : Fin (k1_t7_loop v22 v25 k1_t1).trips) : Fin 1 → Nat :=
  let c0_i32_17 : BitVec 32 := 0#32
  let c0_i32_18 : BitVec 32 := 0#32
  let c1_i32_20 : BitVec 32 := 1#32
  let arg13 : BitVec 32 := Scf.iv c0_i32_18 c1_i32_20 k1_t1
  let c1_i32_16 : BitVec 32 := 1#32
  let v38 : BitVec 32 := Scalar.muli arg13 c1_i32_16
  let v39 : BitVec 32 := Scalar.addi c0_i32_17 v38
  let c64_i32_22 : BitVec 32 := 64#32
  let v40 : BitVec 32 := Scalar.muli v39 c64_i32_22
  let v41 : BitVec 32 := Scalar.addi v22 v40
  let c0_i32_49 : BitVec 32 := 0#32
  let c0_i32_50 : BitVec 32 := 0#32
  let v42 : BitVec 32 := Scalar.subi v25 v41
  let c64_i32_23 : BitVec 32 := 64#32
  let v43 : BitVec 32 := Scalar.minsi v42 c64_i32_23
  let c0_i32_44 : BitVec 32 := 0#32
  let v62 : BitVec 32 := Scalar.subi v43 c0_i32_44
  let c1_i32_45 : BitVec 32 := 1#32
  let c1_i32_46 : BitVec 32 := 1#32
  let v63 : BitVec 32 := Scalar.subi c1_i32_45 c1_i32_46
  let v64 : BitVec 32 := Scalar.addi v62 v63
  let c1_i32_47 : BitVec 32 := 1#32
  let v65 : BitVec 32 := Scalar.divsi v64 c1_i32_47
  let v66 : BitVec 32 := Scalar.subi v65 c0_i32_50
  let c1_i32_51 : BitVec 32 := 1#32
  let v68 : BitVec 32 := Scalar.divsi v66 c1_i32_51
  let v69 : BitVec 32 := Scalar.muli v68 c1_i32_51
  let v70 : BitVec 32 := Scalar.addi c0_i32_50 v69
  let c1_i32_53 : BitVec 32 := 1#32
  let arg14 : BitVec 32 := Scf.iv v70 c1_i32_53 k1_t7
  let c1_i32_48 : BitVec 32 := 1#32
  let v71 : BitVec 32 := Scalar.muli arg14 c1_i32_48
  let v72 : BitVec 32 := Scalar.addi c0_i32_49 v71
  let v115 : BitVec 32 := Scalar.addi v41 v72
  let v116 : Index := Scalar.indexCast v115
  ![v116.toNat]
@[reducible] def k1_t8_loop (v22 : BitVec 32) (v25 : BitVec 32) : Scf.Loop 32 :=
  let c0_i32_18 : BitVec 32 := 0#32
  let v26 : BitVec 32 := Scalar.subi v25 v22
  let c63_i32 : BitVec 32 := 63#32
  let v27 : BitVec 32 := Scalar.addi v26 c63_i32
  let c64_i32 : BitVec 32 := 64#32
  let v28 : BitVec 32 := Scalar.divsi v27 c64_i32
  let c0_i32_12 : BitVec 32 := 0#32
  let v29 : BitVec 32 := Scalar.subi v28 c0_i32_12
  let c1_i32_13 : BitVec 32 := 1#32
  let c1_i32_14 : BitVec 32 := 1#32
  let v30 : BitVec 32 := Scalar.subi c1_i32_13 c1_i32_14
  let v31 : BitVec 32 := Scalar.addi v29 v30
  let c1_i32_15 : BitVec 32 := 1#32
  let v32 : BitVec 32 := Scalar.divsi v31 c1_i32_15
  let v33 : BitVec 32 := Scalar.subi v32 c0_i32_18
  let c1_i32_19 : BitVec 32 := 1#32
  let v35 : BitVec 32 := Scalar.divsi v33 c1_i32_19
  let v36 : BitVec 32 := Scalar.muli v35 c1_i32_19
  let v37 : BitVec 32 := Scalar.addi c0_i32_18 v36
  let v34 : BitVec 32 := Scalar.addi c0_i32_18 v33
  let c1_i32_21 : BitVec 32 := 1#32
  ⟨v37, v34, c1_i32_21⟩
@[reducible] def k1_t9_loop (v22 : BitVec 32) (v25 : BitVec 32) (k1_t8 : Fin (k1_t8_loop v22 v25).trips) : Scf.Loop 32 :=
  let c0_i32_30 : BitVec 32 := 0#32
  let c0_i32_17 : BitVec 32 := 0#32
  let c0_i32_18 : BitVec 32 := 0#32
  let v26 : BitVec 32 := Scalar.subi v25 v22
  let c63_i32 : BitVec 32 := 63#32
  let v27 : BitVec 32 := Scalar.addi v26 c63_i32
  let c64_i32 : BitVec 32 := 64#32
  let v28 : BitVec 32 := Scalar.divsi v27 c64_i32
  let c0_i32_12 : BitVec 32 := 0#32
  let v29 : BitVec 32 := Scalar.subi v28 c0_i32_12
  let c1_i32_13 : BitVec 32 := 1#32
  let c1_i32_14 : BitVec 32 := 1#32
  let v30 : BitVec 32 := Scalar.subi c1_i32_13 c1_i32_14
  let v31 : BitVec 32 := Scalar.addi v29 v30
  let c1_i32_15 : BitVec 32 := 1#32
  let v32 : BitVec 32 := Scalar.divsi v31 c1_i32_15
  let v33 : BitVec 32 := Scalar.subi v32 c0_i32_18
  let c1_i32_19 : BitVec 32 := 1#32
  let v35 : BitVec 32 := Scalar.divsi v33 c1_i32_19
  let v36 : BitVec 32 := Scalar.muli v35 c1_i32_19
  let v37 : BitVec 32 := Scalar.addi c0_i32_18 v36
  let c1_i32_21 : BitVec 32 := 1#32
  let arg13 : BitVec 32 := Scf.iv v37 c1_i32_21 k1_t8
  let c1_i32_16 : BitVec 32 := 1#32
  let v38 : BitVec 32 := Scalar.muli arg13 c1_i32_16
  let v39 : BitVec 32 := Scalar.addi c0_i32_17 v38
  let c64_i32_22 : BitVec 32 := 64#32
  let v40 : BitVec 32 := Scalar.muli v39 c64_i32_22
  let v41 : BitVec 32 := Scalar.addi v22 v40
  let v42 : BitVec 32 := Scalar.subi v25 v41
  let c64_i32_23 : BitVec 32 := 64#32
  let v43 : BitVec 32 := Scalar.minsi v42 c64_i32_23
  let c0_i32_24 : BitVec 32 := 0#32
  let v44 : BitVec 32 := Scalar.subi v43 c0_i32_24
  let c1_i32_25 : BitVec 32 := 1#32
  let c1_i32_26 : BitVec 32 := 1#32
  let v45 : BitVec 32 := Scalar.subi c1_i32_25 c1_i32_26
  let v46 : BitVec 32 := Scalar.addi v44 v45
  let c1_i32_27 : BitVec 32 := 1#32
  let v47 : BitVec 32 := Scalar.divsi v46 c1_i32_27
  let v48 : BitVec 32 := Scalar.subi v47 c0_i32_30
  let c1_i32_31 : BitVec 32 := 1#32
  let v50 : BitVec 32 := Scalar.divsi v48 c1_i32_31
  let v51 : BitVec 32 := Scalar.muli v50 c1_i32_31
  let v52 : BitVec 32 := Scalar.addi c0_i32_30 v51
  let c1_i32_32 : BitVec 32 := 1#32
  ⟨c0_i32_30, v52, c1_i32_32⟩
def k1_off19 (v22 : BitVec 32) (v25 : BitVec 32) (k1_t8 : Fin (k1_t8_loop v22 v25).trips) (k1_t9 : Fin (k1_t9_loop v22 v25 k1_t8).trips) : Fin 1 → Nat :=
  let c0_i32_17 : BitVec 32 := 0#32
  let c0_i32_18 : BitVec 32 := 0#32
  let v26 : BitVec 32 := Scalar.subi v25 v22
  let c63_i32 : BitVec 32 := 63#32
  let v27 : BitVec 32 := Scalar.addi v26 c63_i32
  let c64_i32 : BitVec 32 := 64#32
  let v28 : BitVec 32 := Scalar.divsi v27 c64_i32
  let c0_i32_12 : BitVec 32 := 0#32
  let v29 : BitVec 32 := Scalar.subi v28 c0_i32_12
  let c1_i32_13 : BitVec 32 := 1#32
  let c1_i32_14 : BitVec 32 := 1#32
  let v30 : BitVec 32 := Scalar.subi c1_i32_13 c1_i32_14
  let v31 : BitVec 32 := Scalar.addi v29 v30
  let c1_i32_15 : BitVec 32 := 1#32
  let v32 : BitVec 32 := Scalar.divsi v31 c1_i32_15
  let v33 : BitVec 32 := Scalar.subi v32 c0_i32_18
  let c1_i32_19 : BitVec 32 := 1#32
  let v35 : BitVec 32 := Scalar.divsi v33 c1_i32_19
  let v36 : BitVec 32 := Scalar.muli v35 c1_i32_19
  let v37 : BitVec 32 := Scalar.addi c0_i32_18 v36
  let c1_i32_21 : BitVec 32 := 1#32
  let arg13 : BitVec 32 := Scf.iv v37 c1_i32_21 k1_t8
  let c1_i32_16 : BitVec 32 := 1#32
  let v38 : BitVec 32 := Scalar.muli arg13 c1_i32_16
  let v39 : BitVec 32 := Scalar.addi c0_i32_17 v38
  let c64_i32_22 : BitVec 32 := 64#32
  let v40 : BitVec 32 := Scalar.muli v39 c64_i32_22
  let v41 : BitVec 32 := Scalar.addi v22 v40
  let c0_i32_29 : BitVec 32 := 0#32
  let c0_i32_30 : BitVec 32 := 0#32
  let c1_i32_32 : BitVec 32 := 1#32
  let arg14 : BitVec 32 := Scf.iv c0_i32_30 c1_i32_32 k1_t9
  let c1_i32_28 : BitVec 32 := 1#32
  let v71 : BitVec 32 := Scalar.muli arg14 c1_i32_28
  let v72 : BitVec 32 := Scalar.addi c0_i32_29 v71
  let v73 : BitVec 32 := Scalar.addi v41 v72
  let v74 : Index := Scalar.indexCast v73
  ![v74.toNat]
def k1_off20 (v22 : BitVec 32) (v25 : BitVec 32) (k1_t8 : Fin (k1_t8_loop v22 v25).trips) (k1_t9 : Fin (k1_t9_loop v22 v25 k1_t8).trips) : Fin 2 → Nat :=
  let c0_i32_29 : BitVec 32 := 0#32
  let c0_i32_30 : BitVec 32 := 0#32
  let c1_i32_32 : BitVec 32 := 1#32
  let arg14 : BitVec 32 := Scf.iv c0_i32_30 c1_i32_32 k1_t9
  let c1_i32_28 : BitVec 32 := 1#32
  let v71 : BitVec 32 := Scalar.muli arg14 c1_i32_28
  let v72 : BitVec 32 := Scalar.addi c0_i32_29 v71
  let c0_i32_54 : BitVec 32 := 0#32
  ![v72.toNat, 0]
def k1_off21 (v75 : BitVec 32) : Fin 2 → Nat :=
  let c2_i32 : BitVec 32 := 2#32
  let v76 : BitVec 32 := Scalar.shrui v75 c2_i32
  let c0_i32_55 : BitVec 32 := 0#32
  ![v76.toNat, 0]

def k1_chk6 (i : grid1.Coords) (v75 : BitVec 32) : Prop :=
  (∀ (k1_h2 : k1_cond2 i = 1#1), ∀ a, (k1_off21 v75) a + S1x4096.size a ≤ S1536x4096.size a)
theorem k1_off21_inb : ∀ (i : grid1.Coords) (v75 : BitVec 32) (k1_hw6 : k1_chk6 i v75), ∀ (k1_h2 : k1_cond2 i = 1#1), ∀ a, (k1_off21 v75) a + S1x4096.size a ≤ S1536x4096.size a := fun i v75 k1_hw6 k1_h2 => k1_hw6 k1_h2

@[reducible] def k1_t10_loop (v22 : BitVec 32) (v25 : BitVec 32) (k1_t8 : Fin (k1_t8_loop v22 v25).trips) : Scf.Loop 32 :=
  let c0_i32_30 : BitVec 32 := 0#32
  let c0_i32_17 : BitVec 32 := 0#32
  let c0_i32_18 : BitVec 32 := 0#32
  let v26 : BitVec 32 := Scalar.subi v25 v22
  let c63_i32 : BitVec 32 := 63#32
  let v27 : BitVec 32 := Scalar.addi v26 c63_i32
  let c64_i32 : BitVec 32 := 64#32
  let v28 : BitVec 32 := Scalar.divsi v27 c64_i32
  let c0_i32_12 : BitVec 32 := 0#32
  let v29 : BitVec 32 := Scalar.subi v28 c0_i32_12
  let c1_i32_13 : BitVec 32 := 1#32
  let c1_i32_14 : BitVec 32 := 1#32
  let v30 : BitVec 32 := Scalar.subi c1_i32_13 c1_i32_14
  let v31 : BitVec 32 := Scalar.addi v29 v30
  let c1_i32_15 : BitVec 32 := 1#32
  let v32 : BitVec 32 := Scalar.divsi v31 c1_i32_15
  let v33 : BitVec 32 := Scalar.subi v32 c0_i32_18
  let c1_i32_19 : BitVec 32 := 1#32
  let v35 : BitVec 32 := Scalar.divsi v33 c1_i32_19
  let v36 : BitVec 32 := Scalar.muli v35 c1_i32_19
  let v37 : BitVec 32 := Scalar.addi c0_i32_18 v36
  let c1_i32_21 : BitVec 32 := 1#32
  let arg13 : BitVec 32 := Scf.iv v37 c1_i32_21 k1_t8
  let c1_i32_16 : BitVec 32 := 1#32
  let v38 : BitVec 32 := Scalar.muli arg13 c1_i32_16
  let v39 : BitVec 32 := Scalar.addi c0_i32_17 v38
  let c64_i32_22 : BitVec 32 := 64#32
  let v40 : BitVec 32 := Scalar.muli v39 c64_i32_22
  let v41 : BitVec 32 := Scalar.addi v22 v40
  let v42 : BitVec 32 := Scalar.subi v25 v41
  let c64_i32_23 : BitVec 32 := 64#32
  let v43 : BitVec 32 := Scalar.minsi v42 c64_i32_23
  let c0_i32_24 : BitVec 32 := 0#32
  let v44 : BitVec 32 := Scalar.subi v43 c0_i32_24
  let c1_i32_25 : BitVec 32 := 1#32
  let c1_i32_26 : BitVec 32 := 1#32
  let v45 : BitVec 32 := Scalar.subi c1_i32_25 c1_i32_26
  let v46 : BitVec 32 := Scalar.addi v44 v45
  let c1_i32_27 : BitVec 32 := 1#32
  let v47 : BitVec 32 := Scalar.divsi v46 c1_i32_27
  let v48 : BitVec 32 := Scalar.subi v47 c0_i32_30
  let c1_i32_31 : BitVec 32 := 1#32
  let v50 : BitVec 32 := Scalar.divsi v48 c1_i32_31
  let v51 : BitVec 32 := Scalar.muli v50 c1_i32_31
  let v52 : BitVec 32 := Scalar.addi c0_i32_30 v51
  let v49 : BitVec 32 := Scalar.addi c0_i32_30 v48
  let c1_i32_33 : BitVec 32 := 1#32
  ⟨v52, v49, c1_i32_33⟩
def k1_off22 (v22 : BitVec 32) (v25 : BitVec 32) (k1_t8 : Fin (k1_t8_loop v22 v25).trips) (k1_t10 : Fin (k1_t10_loop v22 v25 k1_t8).trips) : Fin 1 → Nat :=
  let c0_i32_17 : BitVec 32 := 0#32
  let c0_i32_18 : BitVec 32 := 0#32
  let v26 : BitVec 32 := Scalar.subi v25 v22
  let c63_i32 : BitVec 32 := 63#32
  let v27 : BitVec 32 := Scalar.addi v26 c63_i32
  let c64_i32 : BitVec 32 := 64#32
  let v28 : BitVec 32 := Scalar.divsi v27 c64_i32
  let c0_i32_12 : BitVec 32 := 0#32
  let v29 : BitVec 32 := Scalar.subi v28 c0_i32_12
  let c1_i32_13 : BitVec 32 := 1#32
  let c1_i32_14 : BitVec 32 := 1#32
  let v30 : BitVec 32 := Scalar.subi c1_i32_13 c1_i32_14
  let v31 : BitVec 32 := Scalar.addi v29 v30
  let c1_i32_15 : BitVec 32 := 1#32
  let v32 : BitVec 32 := Scalar.divsi v31 c1_i32_15
  let v33 : BitVec 32 := Scalar.subi v32 c0_i32_18
  let c1_i32_19 : BitVec 32 := 1#32
  let v35 : BitVec 32 := Scalar.divsi v33 c1_i32_19
  let v36 : BitVec 32 := Scalar.muli v35 c1_i32_19
  let v37 : BitVec 32 := Scalar.addi c0_i32_18 v36
  let c1_i32_21 : BitVec 32 := 1#32
  let arg13 : BitVec 32 := Scf.iv v37 c1_i32_21 k1_t8
  let c1_i32_16 : BitVec 32 := 1#32
  let v38 : BitVec 32 := Scalar.muli arg13 c1_i32_16
  let v39 : BitVec 32 := Scalar.addi c0_i32_17 v38
  let c64_i32_22 : BitVec 32 := 64#32
  let v40 : BitVec 32 := Scalar.muli v39 c64_i32_22
  let v41 : BitVec 32 := Scalar.addi v22 v40
  let c0_i32_29 : BitVec 32 := 0#32
  let c0_i32_30 : BitVec 32 := 0#32
  let v42 : BitVec 32 := Scalar.subi v25 v41
  let c64_i32_23 : BitVec 32 := 64#32
  let v43 : BitVec 32 := Scalar.minsi v42 c64_i32_23
  let c0_i32_24 : BitVec 32 := 0#32
  let v44 : BitVec 32 := Scalar.subi v43 c0_i32_24
  let c1_i32_25 : BitVec 32 := 1#32
  let c1_i32_26 : BitVec 32 := 1#32
  let v45 : BitVec 32 := Scalar.subi c1_i32_25 c1_i32_26
  let v46 : BitVec 32 := Scalar.addi v44 v45
  let c1_i32_27 : BitVec 32 := 1#32
  let v47 : BitVec 32 := Scalar.divsi v46 c1_i32_27
  let v48 : BitVec 32 := Scalar.subi v47 c0_i32_30
  let c1_i32_31 : BitVec 32 := 1#32
  let v50 : BitVec 32 := Scalar.divsi v48 c1_i32_31
  let v51 : BitVec 32 := Scalar.muli v50 c1_i32_31
  let v52 : BitVec 32 := Scalar.addi c0_i32_30 v51
  let c1_i32_33 : BitVec 32 := 1#32
  let arg14 : BitVec 32 := Scf.iv v52 c1_i32_33 k1_t10
  let c1_i32_28 : BitVec 32 := 1#32
  let v71 : BitVec 32 := Scalar.muli arg14 c1_i32_28
  let v72 : BitVec 32 := Scalar.addi c0_i32_29 v71
  let v73 : BitVec 32 := Scalar.addi v41 v72
  let v74 : Index := Scalar.indexCast v73
  ![v74.toNat]
def k1_off23 (v22 : BitVec 32) (v25 : BitVec 32) (k1_t8 : Fin (k1_t8_loop v22 v25).trips) (k1_t10 : Fin (k1_t10_loop v22 v25 k1_t8).trips) : Fin 2 → Nat :=
  let c0_i32_29 : BitVec 32 := 0#32
  let c0_i32_30 : BitVec 32 := 0#32
  let c0_i32_17 : BitVec 32 := 0#32
  let c0_i32_18 : BitVec 32 := 0#32
  let v26 : BitVec 32 := Scalar.subi v25 v22
  let c63_i32 : BitVec 32 := 63#32
  let v27 : BitVec 32 := Scalar.addi v26 c63_i32
  let c64_i32 : BitVec 32 := 64#32
  let v28 : BitVec 32 := Scalar.divsi v27 c64_i32
  let c0_i32_12 : BitVec 32 := 0#32
  let v29 : BitVec 32 := Scalar.subi v28 c0_i32_12
  let c1_i32_13 : BitVec 32 := 1#32
  let c1_i32_14 : BitVec 32 := 1#32
  let v30 : BitVec 32 := Scalar.subi c1_i32_13 c1_i32_14
  let v31 : BitVec 32 := Scalar.addi v29 v30
  let c1_i32_15 : BitVec 32 := 1#32
  let v32 : BitVec 32 := Scalar.divsi v31 c1_i32_15
  let v33 : BitVec 32 := Scalar.subi v32 c0_i32_18
  let c1_i32_19 : BitVec 32 := 1#32
  let v35 : BitVec 32 := Scalar.divsi v33 c1_i32_19
  let v36 : BitVec 32 := Scalar.muli v35 c1_i32_19
  let v37 : BitVec 32 := Scalar.addi c0_i32_18 v36
  let c1_i32_21 : BitVec 32 := 1#32
  let arg13 : BitVec 32 := Scf.iv v37 c1_i32_21 k1_t8
  let c1_i32_16 : BitVec 32 := 1#32
  let v38 : BitVec 32 := Scalar.muli arg13 c1_i32_16
  let v39 : BitVec 32 := Scalar.addi c0_i32_17 v38
  let c64_i32_22 : BitVec 32 := 64#32
  let v40 : BitVec 32 := Scalar.muli v39 c64_i32_22
  let v41 : BitVec 32 := Scalar.addi v22 v40
  let v42 : BitVec 32 := Scalar.subi v25 v41
  let c64_i32_23 : BitVec 32 := 64#32
  let v43 : BitVec 32 := Scalar.minsi v42 c64_i32_23
  let c0_i32_24 : BitVec 32 := 0#32
  let v44 : BitVec 32 := Scalar.subi v43 c0_i32_24
  let c1_i32_25 : BitVec 32 := 1#32
  let c1_i32_26 : BitVec 32 := 1#32
  let v45 : BitVec 32 := Scalar.subi c1_i32_25 c1_i32_26
  let v46 : BitVec 32 := Scalar.addi v44 v45
  let c1_i32_27 : BitVec 32 := 1#32
  let v47 : BitVec 32 := Scalar.divsi v46 c1_i32_27
  let v48 : BitVec 32 := Scalar.subi v47 c0_i32_30
  let c1_i32_31 : BitVec 32 := 1#32
  let v50 : BitVec 32 := Scalar.divsi v48 c1_i32_31
  let v51 : BitVec 32 := Scalar.muli v50 c1_i32_31
  let v52 : BitVec 32 := Scalar.addi c0_i32_30 v51
  let c1_i32_33 : BitVec 32 := 1#32
  let arg14 : BitVec 32 := Scf.iv v52 c1_i32_33 k1_t10
  let c1_i32_28 : BitVec 32 := 1#32
  let v71 : BitVec 32 := Scalar.muli arg14 c1_i32_28
  let v72 : BitVec 32 := Scalar.addi c0_i32_29 v71
  let c0_i32_54 : BitVec 32 := 0#32
  ![v72.toNat, 0]
def k1_off24 (v75 : BitVec 32) : Fin 2 → Nat :=
  let c2_i32 : BitVec 32 := 2#32
  let v76 : BitVec 32 := Scalar.shrui v75 c2_i32
  let c0_i32_55 : BitVec 32 := 0#32
  ![v76.toNat, 0]

def k1_chk7 (i : grid1.Coords) (v75 : BitVec 32) : Prop :=
  (∀ (k1_h2 : k1_cond2 i = 1#1), ∀ a, (k1_off24 v75) a + S1x4096.size a ≤ S1536x4096.size a)
theorem k1_off24_inb : ∀ (i : grid1.Coords) (v75 : BitVec 32) (k1_hw7 : k1_chk7 i v75), ∀ (k1_h2 : k1_cond2 i = 1#1), ∀ a, (k1_off24 v75) a + S1x4096.size a ≤ S1536x4096.size a := fun i v75 k1_hw7 k1_h2 => k1_hw7 k1_h2

@[reducible] def k1_t11_loop (v22 : BitVec 32) (v25 : BitVec 32) (k1_t8 : Fin (k1_t8_loop v22 v25).trips) : Scf.Loop 32 :=
  let c0_i32_40 : BitVec 32 := 0#32
  let c0_i32_17 : BitVec 32 := 0#32
  let c0_i32_18 : BitVec 32 := 0#32
  let v26 : BitVec 32 := Scalar.subi v25 v22
  let c63_i32 : BitVec 32 := 63#32
  let v27 : BitVec 32 := Scalar.addi v26 c63_i32
  let c64_i32 : BitVec 32 := 64#32
  let v28 : BitVec 32 := Scalar.divsi v27 c64_i32
  let c0_i32_12 : BitVec 32 := 0#32
  let v29 : BitVec 32 := Scalar.subi v28 c0_i32_12
  let c1_i32_13 : BitVec 32 := 1#32
  let c1_i32_14 : BitVec 32 := 1#32
  let v30 : BitVec 32 := Scalar.subi c1_i32_13 c1_i32_14
  let v31 : BitVec 32 := Scalar.addi v29 v30
  let c1_i32_15 : BitVec 32 := 1#32
  let v32 : BitVec 32 := Scalar.divsi v31 c1_i32_15
  let v33 : BitVec 32 := Scalar.subi v32 c0_i32_18
  let c1_i32_19 : BitVec 32 := 1#32
  let v35 : BitVec 32 := Scalar.divsi v33 c1_i32_19
  let v36 : BitVec 32 := Scalar.muli v35 c1_i32_19
  let v37 : BitVec 32 := Scalar.addi c0_i32_18 v36
  let c1_i32_21 : BitVec 32 := 1#32
  let arg13 : BitVec 32 := Scf.iv v37 c1_i32_21 k1_t8
  let c1_i32_16 : BitVec 32 := 1#32
  let v38 : BitVec 32 := Scalar.muli arg13 c1_i32_16
  let v39 : BitVec 32 := Scalar.addi c0_i32_17 v38
  let c64_i32_22 : BitVec 32 := 64#32
  let v40 : BitVec 32 := Scalar.muli v39 c64_i32_22
  let v41 : BitVec 32 := Scalar.addi v22 v40
  let v42 : BitVec 32 := Scalar.subi v25 v41
  let c64_i32_23 : BitVec 32 := 64#32
  let v43 : BitVec 32 := Scalar.minsi v42 c64_i32_23
  let c0_i32_34 : BitVec 32 := 0#32
  let v53 : BitVec 32 := Scalar.subi v43 c0_i32_34
  let c1_i32_35 : BitVec 32 := 1#32
  let c1_i32_36 : BitVec 32 := 1#32
  let v54 : BitVec 32 := Scalar.subi c1_i32_35 c1_i32_36
  let v55 : BitVec 32 := Scalar.addi v53 v54
  let c1_i32_37 : BitVec 32 := 1#32
  let v56 : BitVec 32 := Scalar.divsi v55 c1_i32_37
  let v57 : BitVec 32 := Scalar.subi v56 c0_i32_40
  let c1_i32_41 : BitVec 32 := 1#32
  let v59 : BitVec 32 := Scalar.divsi v57 c1_i32_41
  let v60 : BitVec 32 := Scalar.muli v59 c1_i32_41
  let v61 : BitVec 32 := Scalar.addi c0_i32_40 v60
  let c1_i32_42 : BitVec 32 := 1#32
  ⟨c0_i32_40, v61, c1_i32_42⟩
def k1_off25 (v22 : BitVec 32) (v25 : BitVec 32) (k1_t8 : Fin (k1_t8_loop v22 v25).trips) (k1_t11 : Fin (k1_t11_loop v22 v25 k1_t8).trips) : Fin 2 → Nat :=
  let c0_i32_39 : BitVec 32 := 0#32
  let c0_i32_40 : BitVec 32 := 0#32
  let c1_i32_42 : BitVec 32 := 1#32
  let arg14 : BitVec 32 := Scf.iv c0_i32_40 c1_i32_42 k1_t11
  let c1_i32_38 : BitVec 32 := 1#32
  let v71 : BitVec 32 := Scalar.muli arg14 c1_i32_38
  let v72 : BitVec 32 := Scalar.addi c0_i32_39 v71
  let c0_i32_54 : BitVec 32 := 0#32
  ![v72.toNat, 0]
@[reducible] def k1_t12_loop (v22 : BitVec 32) (v25 : BitVec 32) (k1_t8 : Fin (k1_t8_loop v22 v25).trips) : Scf.Loop 32 :=
  let c0_i32_40 : BitVec 32 := 0#32
  let c0_i32_17 : BitVec 32 := 0#32
  let c0_i32_18 : BitVec 32 := 0#32
  let v26 : BitVec 32 := Scalar.subi v25 v22
  let c63_i32 : BitVec 32 := 63#32
  let v27 : BitVec 32 := Scalar.addi v26 c63_i32
  let c64_i32 : BitVec 32 := 64#32
  let v28 : BitVec 32 := Scalar.divsi v27 c64_i32
  let c0_i32_12 : BitVec 32 := 0#32
  let v29 : BitVec 32 := Scalar.subi v28 c0_i32_12
  let c1_i32_13 : BitVec 32 := 1#32
  let c1_i32_14 : BitVec 32 := 1#32
  let v30 : BitVec 32 := Scalar.subi c1_i32_13 c1_i32_14
  let v31 : BitVec 32 := Scalar.addi v29 v30
  let c1_i32_15 : BitVec 32 := 1#32
  let v32 : BitVec 32 := Scalar.divsi v31 c1_i32_15
  let v33 : BitVec 32 := Scalar.subi v32 c0_i32_18
  let c1_i32_19 : BitVec 32 := 1#32
  let v35 : BitVec 32 := Scalar.divsi v33 c1_i32_19
  let v36 : BitVec 32 := Scalar.muli v35 c1_i32_19
  let v37 : BitVec 32 := Scalar.addi c0_i32_18 v36
  let c1_i32_21 : BitVec 32 := 1#32
  let arg13 : BitVec 32 := Scf.iv v37 c1_i32_21 k1_t8
  let c1_i32_16 : BitVec 32 := 1#32
  let v38 : BitVec 32 := Scalar.muli arg13 c1_i32_16
  let v39 : BitVec 32 := Scalar.addi c0_i32_17 v38
  let c64_i32_22 : BitVec 32 := 64#32
  let v40 : BitVec 32 := Scalar.muli v39 c64_i32_22
  let v41 : BitVec 32 := Scalar.addi v22 v40
  let v42 : BitVec 32 := Scalar.subi v25 v41
  let c64_i32_23 : BitVec 32 := 64#32
  let v43 : BitVec 32 := Scalar.minsi v42 c64_i32_23
  let c0_i32_34 : BitVec 32 := 0#32
  let v53 : BitVec 32 := Scalar.subi v43 c0_i32_34
  let c1_i32_35 : BitVec 32 := 1#32
  let c1_i32_36 : BitVec 32 := 1#32
  let v54 : BitVec 32 := Scalar.subi c1_i32_35 c1_i32_36
  let v55 : BitVec 32 := Scalar.addi v53 v54
  let c1_i32_37 : BitVec 32 := 1#32
  let v56 : BitVec 32 := Scalar.divsi v55 c1_i32_37
  let v57 : BitVec 32 := Scalar.subi v56 c0_i32_40
  let c1_i32_41 : BitVec 32 := 1#32
  let v59 : BitVec 32 := Scalar.divsi v57 c1_i32_41
  let v60 : BitVec 32 := Scalar.muli v59 c1_i32_41
  let v61 : BitVec 32 := Scalar.addi c0_i32_40 v60
  let v58 : BitVec 32 := Scalar.addi c0_i32_40 v57
  let c1_i32_43 : BitVec 32 := 1#32
  ⟨v61, v58, c1_i32_43⟩
def k1_off26 (v22 : BitVec 32) (v25 : BitVec 32) (k1_t8 : Fin (k1_t8_loop v22 v25).trips) (k1_t12 : Fin (k1_t12_loop v22 v25 k1_t8).trips) : Fin 2 → Nat :=
  let c0_i32_39 : BitVec 32 := 0#32
  let c0_i32_40 : BitVec 32 := 0#32
  let c0_i32_17 : BitVec 32 := 0#32
  let c0_i32_18 : BitVec 32 := 0#32
  let v26 : BitVec 32 := Scalar.subi v25 v22
  let c63_i32 : BitVec 32 := 63#32
  let v27 : BitVec 32 := Scalar.addi v26 c63_i32
  let c64_i32 : BitVec 32 := 64#32
  let v28 : BitVec 32 := Scalar.divsi v27 c64_i32
  let c0_i32_12 : BitVec 32 := 0#32
  let v29 : BitVec 32 := Scalar.subi v28 c0_i32_12
  let c1_i32_13 : BitVec 32 := 1#32
  let c1_i32_14 : BitVec 32 := 1#32
  let v30 : BitVec 32 := Scalar.subi c1_i32_13 c1_i32_14
  let v31 : BitVec 32 := Scalar.addi v29 v30
  let c1_i32_15 : BitVec 32 := 1#32
  let v32 : BitVec 32 := Scalar.divsi v31 c1_i32_15
  let v33 : BitVec 32 := Scalar.subi v32 c0_i32_18
  let c1_i32_19 : BitVec 32 := 1#32
  let v35 : BitVec 32 := Scalar.divsi v33 c1_i32_19
  let v36 : BitVec 32 := Scalar.muli v35 c1_i32_19
  let v37 : BitVec 32 := Scalar.addi c0_i32_18 v36
  let c1_i32_21 : BitVec 32 := 1#32
  let arg13 : BitVec 32 := Scf.iv v37 c1_i32_21 k1_t8
  let c1_i32_16 : BitVec 32 := 1#32
  let v38 : BitVec 32 := Scalar.muli arg13 c1_i32_16
  let v39 : BitVec 32 := Scalar.addi c0_i32_17 v38
  let c64_i32_22 : BitVec 32 := 64#32
  let v40 : BitVec 32 := Scalar.muli v39 c64_i32_22
  let v41 : BitVec 32 := Scalar.addi v22 v40
  let v42 : BitVec 32 := Scalar.subi v25 v41
  let c64_i32_23 : BitVec 32 := 64#32
  let v43 : BitVec 32 := Scalar.minsi v42 c64_i32_23
  let c0_i32_34 : BitVec 32 := 0#32
  let v53 : BitVec 32 := Scalar.subi v43 c0_i32_34
  let c1_i32_35 : BitVec 32 := 1#32
  let c1_i32_36 : BitVec 32 := 1#32
  let v54 : BitVec 32 := Scalar.subi c1_i32_35 c1_i32_36
  let v55 : BitVec 32 := Scalar.addi v53 v54
  let c1_i32_37 : BitVec 32 := 1#32
  let v56 : BitVec 32 := Scalar.divsi v55 c1_i32_37
  let v57 : BitVec 32 := Scalar.subi v56 c0_i32_40
  let c1_i32_41 : BitVec 32 := 1#32
  let v59 : BitVec 32 := Scalar.divsi v57 c1_i32_41
  let v60 : BitVec 32 := Scalar.muli v59 c1_i32_41
  let v61 : BitVec 32 := Scalar.addi c0_i32_40 v60
  let c1_i32_43 : BitVec 32 := 1#32
  let arg14 : BitVec 32 := Scf.iv v61 c1_i32_43 k1_t12
  let c1_i32_38 : BitVec 32 := 1#32
  let v71 : BitVec 32 := Scalar.muli arg14 c1_i32_38
  let v72 : BitVec 32 := Scalar.addi c0_i32_39 v71
  let c0_i32_54 : BitVec 32 := 0#32
  ![v72.toNat, 0]
@[reducible] def k1_t13_loop (v22 : BitVec 32) (v25 : BitVec 32) (k1_t8 : Fin (k1_t8_loop v22 v25).trips) : Scf.Loop 32 :=
  let c0_i32_50 : BitVec 32 := 0#32
  let c0_i32_17 : BitVec 32 := 0#32
  let c0_i32_18 : BitVec 32 := 0#32
  let v26 : BitVec 32 := Scalar.subi v25 v22
  let c63_i32 : BitVec 32 := 63#32
  let v27 : BitVec 32 := Scalar.addi v26 c63_i32
  let c64_i32 : BitVec 32 := 64#32
  let v28 : BitVec 32 := Scalar.divsi v27 c64_i32
  let c0_i32_12 : BitVec 32 := 0#32
  let v29 : BitVec 32 := Scalar.subi v28 c0_i32_12
  let c1_i32_13 : BitVec 32 := 1#32
  let c1_i32_14 : BitVec 32 := 1#32
  let v30 : BitVec 32 := Scalar.subi c1_i32_13 c1_i32_14
  let v31 : BitVec 32 := Scalar.addi v29 v30
  let c1_i32_15 : BitVec 32 := 1#32
  let v32 : BitVec 32 := Scalar.divsi v31 c1_i32_15
  let v33 : BitVec 32 := Scalar.subi v32 c0_i32_18
  let c1_i32_19 : BitVec 32 := 1#32
  let v35 : BitVec 32 := Scalar.divsi v33 c1_i32_19
  let v36 : BitVec 32 := Scalar.muli v35 c1_i32_19
  let v37 : BitVec 32 := Scalar.addi c0_i32_18 v36
  let c1_i32_21 : BitVec 32 := 1#32
  let arg13 : BitVec 32 := Scf.iv v37 c1_i32_21 k1_t8
  let c1_i32_16 : BitVec 32 := 1#32
  let v38 : BitVec 32 := Scalar.muli arg13 c1_i32_16
  let v39 : BitVec 32 := Scalar.addi c0_i32_17 v38
  let c64_i32_22 : BitVec 32 := 64#32
  let v40 : BitVec 32 := Scalar.muli v39 c64_i32_22
  let v41 : BitVec 32 := Scalar.addi v22 v40
  let v42 : BitVec 32 := Scalar.subi v25 v41
  let c64_i32_23 : BitVec 32 := 64#32
  let v43 : BitVec 32 := Scalar.minsi v42 c64_i32_23
  let c0_i32_44 : BitVec 32 := 0#32
  let v62 : BitVec 32 := Scalar.subi v43 c0_i32_44
  let c1_i32_45 : BitVec 32 := 1#32
  let c1_i32_46 : BitVec 32 := 1#32
  let v63 : BitVec 32 := Scalar.subi c1_i32_45 c1_i32_46
  let v64 : BitVec 32 := Scalar.addi v62 v63
  let c1_i32_47 : BitVec 32 := 1#32
  let v65 : BitVec 32 := Scalar.divsi v64 c1_i32_47
  let v66 : BitVec 32 := Scalar.subi v65 c0_i32_50
  let c1_i32_51 : BitVec 32 := 1#32
  let v68 : BitVec 32 := Scalar.divsi v66 c1_i32_51
  let v69 : BitVec 32 := Scalar.muli v68 c1_i32_51
  let v70 : BitVec 32 := Scalar.addi c0_i32_50 v69
  let c1_i32_52 : BitVec 32 := 1#32
  ⟨c0_i32_50, v70, c1_i32_52⟩
def k1_off27 (v22 : BitVec 32) (v25 : BitVec 32) (k1_t8 : Fin (k1_t8_loop v22 v25).trips) (k1_t13 : Fin (k1_t13_loop v22 v25 k1_t8).trips) : Fin 1 → Nat :=
  let c0_i32_17 : BitVec 32 := 0#32
  let c0_i32_18 : BitVec 32 := 0#32
  let v26 : BitVec 32 := Scalar.subi v25 v22
  let c63_i32 : BitVec 32 := 63#32
  let v27 : BitVec 32 := Scalar.addi v26 c63_i32
  let c64_i32 : BitVec 32 := 64#32
  let v28 : BitVec 32 := Scalar.divsi v27 c64_i32
  let c0_i32_12 : BitVec 32 := 0#32
  let v29 : BitVec 32 := Scalar.subi v28 c0_i32_12
  let c1_i32_13 : BitVec 32 := 1#32
  let c1_i32_14 : BitVec 32 := 1#32
  let v30 : BitVec 32 := Scalar.subi c1_i32_13 c1_i32_14
  let v31 : BitVec 32 := Scalar.addi v29 v30
  let c1_i32_15 : BitVec 32 := 1#32
  let v32 : BitVec 32 := Scalar.divsi v31 c1_i32_15
  let v33 : BitVec 32 := Scalar.subi v32 c0_i32_18
  let c1_i32_19 : BitVec 32 := 1#32
  let v35 : BitVec 32 := Scalar.divsi v33 c1_i32_19
  let v36 : BitVec 32 := Scalar.muli v35 c1_i32_19
  let v37 : BitVec 32 := Scalar.addi c0_i32_18 v36
  let c1_i32_21 : BitVec 32 := 1#32
  let arg13 : BitVec 32 := Scf.iv v37 c1_i32_21 k1_t8
  let c1_i32_16 : BitVec 32 := 1#32
  let v38 : BitVec 32 := Scalar.muli arg13 c1_i32_16
  let v39 : BitVec 32 := Scalar.addi c0_i32_17 v38
  let c64_i32_22 : BitVec 32 := 64#32
  let v40 : BitVec 32 := Scalar.muli v39 c64_i32_22
  let v41 : BitVec 32 := Scalar.addi v22 v40
  let c0_i32_49 : BitVec 32 := 0#32
  let c0_i32_50 : BitVec 32 := 0#32
  let c1_i32_52 : BitVec 32 := 1#32
  let arg14 : BitVec 32 := Scf.iv c0_i32_50 c1_i32_52 k1_t13
  let c1_i32_48 : BitVec 32 := 1#32
  let v71 : BitVec 32 := Scalar.muli arg14 c1_i32_48
  let v72 : BitVec 32 := Scalar.addi c0_i32_49 v71
  let v73 : BitVec 32 := Scalar.addi v41 v72
  let v74 : Index := Scalar.indexCast v73
  ![v74.toNat]
def k1_off28 (v22 : BitVec 32) (v25 : BitVec 32) (k1_t8 : Fin (k1_t8_loop v22 v25).trips) (k1_t13 : Fin (k1_t13_loop v22 v25 k1_t8).trips) : Fin 2 → Nat :=
  let c0_i32_49 : BitVec 32 := 0#32
  let c0_i32_50 : BitVec 32 := 0#32
  let c1_i32_52 : BitVec 32 := 1#32
  let arg14 : BitVec 32 := Scf.iv c0_i32_50 c1_i32_52 k1_t13
  let c1_i32_48 : BitVec 32 := 1#32
  let v71 : BitVec 32 := Scalar.muli arg14 c1_i32_48
  let v72 : BitVec 32 := Scalar.addi c0_i32_49 v71
  let v84 : Index := Scalar.indexCast v72
  let c0_54 : Index := 0#32
  ![v84.toNat, 0]
def k1_off29 (i : grid1.Coords) (v78 : BitVec 32) : Fin 2 → Nat :=
  let arg0 : BitVec 32 := BitVec.ofNat 32 (i 0).val
  let c640_i32 : BitVec 32 := 640#32
  let v79 : BitVec 32 := Scalar.muli arg0 c640_i32
  let v80 : BitVec 32 := Scalar.subi v78 v79
  let v88 : Index := Scalar.indexCast v80
  let c0_55 : Index := 0#32
  ![v88.toNat, 0]

def k1_chk8 (i : grid1.Coords) (v78 : BitVec 32) : Prop :=
  (∀ (k1_h2 : k1_cond2 i = 1#1), ∀ a, (k1_off29 i v78) a + S1x4096.size a ≤ S640x4096.size a)
theorem k1_off29_inb : ∀ (i : grid1.Coords) (v78 : BitVec 32) (k1_hw8 : k1_chk8 i v78), ∀ (k1_h2 : k1_cond2 i = 1#1), ∀ a, (k1_off29 i v78) a + S1x4096.size a ≤ S640x4096.size a := fun i v78 k1_hw8 k1_h2 => k1_hw8 k1_h2

def k1_off30 (v22 : BitVec 32) (v25 : BitVec 32) (k1_t8 : Fin (k1_t8_loop v22 v25).trips) (k1_t13 : Fin (k1_t13_loop v22 v25 k1_t8).trips) : Fin 1 → Nat :=
  let c0_i32_17 : BitVec 32 := 0#32
  let c0_i32_18 : BitVec 32 := 0#32
  let v26 : BitVec 32 := Scalar.subi v25 v22
  let c63_i32 : BitVec 32 := 63#32
  let v27 : BitVec 32 := Scalar.addi v26 c63_i32
  let c64_i32 : BitVec 32 := 64#32
  let v28 : BitVec 32 := Scalar.divsi v27 c64_i32
  let c0_i32_12 : BitVec 32 := 0#32
  let v29 : BitVec 32 := Scalar.subi v28 c0_i32_12
  let c1_i32_13 : BitVec 32 := 1#32
  let c1_i32_14 : BitVec 32 := 1#32
  let v30 : BitVec 32 := Scalar.subi c1_i32_13 c1_i32_14
  let v31 : BitVec 32 := Scalar.addi v29 v30
  let c1_i32_15 : BitVec 32 := 1#32
  let v32 : BitVec 32 := Scalar.divsi v31 c1_i32_15
  let v33 : BitVec 32 := Scalar.subi v32 c0_i32_18
  let c1_i32_19 : BitVec 32 := 1#32
  let v35 : BitVec 32 := Scalar.divsi v33 c1_i32_19
  let v36 : BitVec 32 := Scalar.muli v35 c1_i32_19
  let v37 : BitVec 32 := Scalar.addi c0_i32_18 v36
  let c1_i32_21 : BitVec 32 := 1#32
  let arg13 : BitVec 32 := Scf.iv v37 c1_i32_21 k1_t8
  let c1_i32_16 : BitVec 32 := 1#32
  let v38 : BitVec 32 := Scalar.muli arg13 c1_i32_16
  let v39 : BitVec 32 := Scalar.addi c0_i32_17 v38
  let c64_i32_22 : BitVec 32 := 64#32
  let v40 : BitVec 32 := Scalar.muli v39 c64_i32_22
  let v41 : BitVec 32 := Scalar.addi v22 v40
  let c0_i32_49 : BitVec 32 := 0#32
  let c0_i32_50 : BitVec 32 := 0#32
  let c1_i32_52 : BitVec 32 := 1#32
  let arg14 : BitVec 32 := Scf.iv c0_i32_50 c1_i32_52 k1_t13
  let c1_i32_48 : BitVec 32 := 1#32
  let v71 : BitVec 32 := Scalar.muli arg14 c1_i32_48
  let v72 : BitVec 32 := Scalar.addi c0_i32_49 v71
  let v115 : BitVec 32 := Scalar.addi v41 v72
  let v116 : Index := Scalar.indexCast v115
  ![v116.toNat]
@[reducible] def k1_t14_loop (v22 : BitVec 32) (v25 : BitVec 32) (k1_t8 : Fin (k1_t8_loop v22 v25).trips) : Scf.Loop 32 :=
  let c0_i32_50 : BitVec 32 := 0#32
  let c0_i32_17 : BitVec 32 := 0#32
  let c0_i32_18 : BitVec 32 := 0#32
  let v26 : BitVec 32 := Scalar.subi v25 v22
  let c63_i32 : BitVec 32 := 63#32
  let v27 : BitVec 32 := Scalar.addi v26 c63_i32
  let c64_i32 : BitVec 32 := 64#32
  let v28 : BitVec 32 := Scalar.divsi v27 c64_i32
  let c0_i32_12 : BitVec 32 := 0#32
  let v29 : BitVec 32 := Scalar.subi v28 c0_i32_12
  let c1_i32_13 : BitVec 32 := 1#32
  let c1_i32_14 : BitVec 32 := 1#32
  let v30 : BitVec 32 := Scalar.subi c1_i32_13 c1_i32_14
  let v31 : BitVec 32 := Scalar.addi v29 v30
  let c1_i32_15 : BitVec 32 := 1#32
  let v32 : BitVec 32 := Scalar.divsi v31 c1_i32_15
  let v33 : BitVec 32 := Scalar.subi v32 c0_i32_18
  let c1_i32_19 : BitVec 32 := 1#32
  let v35 : BitVec 32 := Scalar.divsi v33 c1_i32_19
  let v36 : BitVec 32 := Scalar.muli v35 c1_i32_19
  let v37 : BitVec 32 := Scalar.addi c0_i32_18 v36
  let c1_i32_21 : BitVec 32 := 1#32
  let arg13 : BitVec 32 := Scf.iv v37 c1_i32_21 k1_t8
  let c1_i32_16 : BitVec 32 := 1#32
  let v38 : BitVec 32 := Scalar.muli arg13 c1_i32_16
  let v39 : BitVec 32 := Scalar.addi c0_i32_17 v38
  let c64_i32_22 : BitVec 32 := 64#32
  let v40 : BitVec 32 := Scalar.muli v39 c64_i32_22
  let v41 : BitVec 32 := Scalar.addi v22 v40
  let v42 : BitVec 32 := Scalar.subi v25 v41
  let c64_i32_23 : BitVec 32 := 64#32
  let v43 : BitVec 32 := Scalar.minsi v42 c64_i32_23
  let c0_i32_44 : BitVec 32 := 0#32
  let v62 : BitVec 32 := Scalar.subi v43 c0_i32_44
  let c1_i32_45 : BitVec 32 := 1#32
  let c1_i32_46 : BitVec 32 := 1#32
  let v63 : BitVec 32 := Scalar.subi c1_i32_45 c1_i32_46
  let v64 : BitVec 32 := Scalar.addi v62 v63
  let c1_i32_47 : BitVec 32 := 1#32
  let v65 : BitVec 32 := Scalar.divsi v64 c1_i32_47
  let v66 : BitVec 32 := Scalar.subi v65 c0_i32_50
  let c1_i32_51 : BitVec 32 := 1#32
  let v68 : BitVec 32 := Scalar.divsi v66 c1_i32_51
  let v69 : BitVec 32 := Scalar.muli v68 c1_i32_51
  let v70 : BitVec 32 := Scalar.addi c0_i32_50 v69
  let v67 : BitVec 32 := Scalar.addi c0_i32_50 v66
  let c1_i32_53 : BitVec 32 := 1#32
  ⟨v70, v67, c1_i32_53⟩
def k1_off31 (v22 : BitVec 32) (v25 : BitVec 32) (k1_t8 : Fin (k1_t8_loop v22 v25).trips) (k1_t14 : Fin (k1_t14_loop v22 v25 k1_t8).trips) : Fin 1 → Nat :=
  let c0_i32_17 : BitVec 32 := 0#32
  let c0_i32_18 : BitVec 32 := 0#32
  let v26 : BitVec 32 := Scalar.subi v25 v22
  let c63_i32 : BitVec 32 := 63#32
  let v27 : BitVec 32 := Scalar.addi v26 c63_i32
  let c64_i32 : BitVec 32 := 64#32
  let v28 : BitVec 32 := Scalar.divsi v27 c64_i32
  let c0_i32_12 : BitVec 32 := 0#32
  let v29 : BitVec 32 := Scalar.subi v28 c0_i32_12
  let c1_i32_13 : BitVec 32 := 1#32
  let c1_i32_14 : BitVec 32 := 1#32
  let v30 : BitVec 32 := Scalar.subi c1_i32_13 c1_i32_14
  let v31 : BitVec 32 := Scalar.addi v29 v30
  let c1_i32_15 : BitVec 32 := 1#32
  let v32 : BitVec 32 := Scalar.divsi v31 c1_i32_15
  let v33 : BitVec 32 := Scalar.subi v32 c0_i32_18
  let c1_i32_19 : BitVec 32 := 1#32
  let v35 : BitVec 32 := Scalar.divsi v33 c1_i32_19
  let v36 : BitVec 32 := Scalar.muli v35 c1_i32_19
  let v37 : BitVec 32 := Scalar.addi c0_i32_18 v36
  let c1_i32_21 : BitVec 32 := 1#32
  let arg13 : BitVec 32 := Scf.iv v37 c1_i32_21 k1_t8
  let c1_i32_16 : BitVec 32 := 1#32
  let v38 : BitVec 32 := Scalar.muli arg13 c1_i32_16
  let v39 : BitVec 32 := Scalar.addi c0_i32_17 v38
  let c64_i32_22 : BitVec 32 := 64#32
  let v40 : BitVec 32 := Scalar.muli v39 c64_i32_22
  let v41 : BitVec 32 := Scalar.addi v22 v40
  let c0_i32_49 : BitVec 32 := 0#32
  let c0_i32_50 : BitVec 32 := 0#32
  let v42 : BitVec 32 := Scalar.subi v25 v41
  let c64_i32_23 : BitVec 32 := 64#32
  let v43 : BitVec 32 := Scalar.minsi v42 c64_i32_23
  let c0_i32_44 : BitVec 32 := 0#32
  let v62 : BitVec 32 := Scalar.subi v43 c0_i32_44
  let c1_i32_45 : BitVec 32 := 1#32
  let c1_i32_46 : BitVec 32 := 1#32
  let v63 : BitVec 32 := Scalar.subi c1_i32_45 c1_i32_46
  let v64 : BitVec 32 := Scalar.addi v62 v63
  let c1_i32_47 : BitVec 32 := 1#32
  let v65 : BitVec 32 := Scalar.divsi v64 c1_i32_47
  let v66 : BitVec 32 := Scalar.subi v65 c0_i32_50
  let c1_i32_51 : BitVec 32 := 1#32
  let v68 : BitVec 32 := Scalar.divsi v66 c1_i32_51
  let v69 : BitVec 32 := Scalar.muli v68 c1_i32_51
  let v70 : BitVec 32 := Scalar.addi c0_i32_50 v69
  let c1_i32_53 : BitVec 32 := 1#32
  let arg14 : BitVec 32 := Scf.iv v70 c1_i32_53 k1_t14
  let c1_i32_48 : BitVec 32 := 1#32
  let v71 : BitVec 32 := Scalar.muli arg14 c1_i32_48
  let v72 : BitVec 32 := Scalar.addi c0_i32_49 v71
  let v73 : BitVec 32 := Scalar.addi v41 v72
  let v74 : Index := Scalar.indexCast v73
  ![v74.toNat]
def k1_off32 (v22 : BitVec 32) (v25 : BitVec 32) (k1_t8 : Fin (k1_t8_loop v22 v25).trips) (k1_t14 : Fin (k1_t14_loop v22 v25 k1_t8).trips) : Fin 2 → Nat :=
  let c0_i32_49 : BitVec 32 := 0#32
  let c0_i32_50 : BitVec 32 := 0#32
  let c0_i32_17 : BitVec 32 := 0#32
  let c0_i32_18 : BitVec 32 := 0#32
  let v26 : BitVec 32 := Scalar.subi v25 v22
  let c63_i32 : BitVec 32 := 63#32
  let v27 : BitVec 32 := Scalar.addi v26 c63_i32
  let c64_i32 : BitVec 32 := 64#32
  let v28 : BitVec 32 := Scalar.divsi v27 c64_i32
  let c0_i32_12 : BitVec 32 := 0#32
  let v29 : BitVec 32 := Scalar.subi v28 c0_i32_12
  let c1_i32_13 : BitVec 32 := 1#32
  let c1_i32_14 : BitVec 32 := 1#32
  let v30 : BitVec 32 := Scalar.subi c1_i32_13 c1_i32_14
  let v31 : BitVec 32 := Scalar.addi v29 v30
  let c1_i32_15 : BitVec 32 := 1#32
  let v32 : BitVec 32 := Scalar.divsi v31 c1_i32_15
  let v33 : BitVec 32 := Scalar.subi v32 c0_i32_18
  let c1_i32_19 : BitVec 32 := 1#32
  let v35 : BitVec 32 := Scalar.divsi v33 c1_i32_19
  let v36 : BitVec 32 := Scalar.muli v35 c1_i32_19
  let v37 : BitVec 32 := Scalar.addi c0_i32_18 v36
  let c1_i32_21 : BitVec 32 := 1#32
  let arg13 : BitVec 32 := Scf.iv v37 c1_i32_21 k1_t8
  let c1_i32_16 : BitVec 32 := 1#32
  let v38 : BitVec 32 := Scalar.muli arg13 c1_i32_16
  let v39 : BitVec 32 := Scalar.addi c0_i32_17 v38
  let c64_i32_22 : BitVec 32 := 64#32
  let v40 : BitVec 32 := Scalar.muli v39 c64_i32_22
  let v41 : BitVec 32 := Scalar.addi v22 v40
  let v42 : BitVec 32 := Scalar.subi v25 v41
  let c64_i32_23 : BitVec 32 := 64#32
  let v43 : BitVec 32 := Scalar.minsi v42 c64_i32_23
  let c0_i32_44 : BitVec 32 := 0#32
  let v62 : BitVec 32 := Scalar.subi v43 c0_i32_44
  let c1_i32_45 : BitVec 32 := 1#32
  let c1_i32_46 : BitVec 32 := 1#32
  let v63 : BitVec 32 := Scalar.subi c1_i32_45 c1_i32_46
  let v64 : BitVec 32 := Scalar.addi v62 v63
  let c1_i32_47 : BitVec 32 := 1#32
  let v65 : BitVec 32 := Scalar.divsi v64 c1_i32_47
  let v66 : BitVec 32 := Scalar.subi v65 c0_i32_50
  let c1_i32_51 : BitVec 32 := 1#32
  let v68 : BitVec 32 := Scalar.divsi v66 c1_i32_51
  let v69 : BitVec 32 := Scalar.muli v68 c1_i32_51
  let v70 : BitVec 32 := Scalar.addi c0_i32_50 v69
  let c1_i32_53 : BitVec 32 := 1#32
  let arg14 : BitVec 32 := Scf.iv v70 c1_i32_53 k1_t14
  let c1_i32_48 : BitVec 32 := 1#32
  let v71 : BitVec 32 := Scalar.muli arg14 c1_i32_48
  let v72 : BitVec 32 := Scalar.addi c0_i32_49 v71
  let v84 : Index := Scalar.indexCast v72
  let c0_54 : Index := 0#32
  ![v84.toNat, 0]
def k1_off33 (i : grid1.Coords) (v78 : BitVec 32) : Fin 2 → Nat :=
  let arg0 : BitVec 32 := BitVec.ofNat 32 (i 0).val
  let c640_i32 : BitVec 32 := 640#32
  let v79 : BitVec 32 := Scalar.muli arg0 c640_i32
  let v80 : BitVec 32 := Scalar.subi v78 v79
  let v88 : Index := Scalar.indexCast v80
  let c0_55 : Index := 0#32
  ![v88.toNat, 0]

def k1_chk9 (i : grid1.Coords) (v78 : BitVec 32) : Prop :=
  (∀ (k1_h2 : k1_cond2 i = 1#1), ∀ a, (k1_off33 i v78) a + S1x4096.size a ≤ S640x4096.size a)
theorem k1_off33_inb : ∀ (i : grid1.Coords) (v78 : BitVec 32) (k1_hw9 : k1_chk9 i v78), ∀ (k1_h2 : k1_cond2 i = 1#1), ∀ a, (k1_off33 i v78) a + S1x4096.size a ≤ S640x4096.size a := fun i v78 k1_hw9 k1_h2 => k1_hw9 k1_h2

def k1_off34 (v22 : BitVec 32) (v25 : BitVec 32) (k1_t8 : Fin (k1_t8_loop v22 v25).trips) (k1_t14 : Fin (k1_t14_loop v22 v25 k1_t8).trips) : Fin 1 → Nat :=
  let c0_i32_17 : BitVec 32 := 0#32
  let c0_i32_18 : BitVec 32 := 0#32
  let v26 : BitVec 32 := Scalar.subi v25 v22
  let c63_i32 : BitVec 32 := 63#32
  let v27 : BitVec 32 := Scalar.addi v26 c63_i32
  let c64_i32 : BitVec 32 := 64#32
  let v28 : BitVec 32 := Scalar.divsi v27 c64_i32
  let c0_i32_12 : BitVec 32 := 0#32
  let v29 : BitVec 32 := Scalar.subi v28 c0_i32_12
  let c1_i32_13 : BitVec 32 := 1#32
  let c1_i32_14 : BitVec 32 := 1#32
  let v30 : BitVec 32 := Scalar.subi c1_i32_13 c1_i32_14
  let v31 : BitVec 32 := Scalar.addi v29 v30
  let c1_i32_15 : BitVec 32 := 1#32
  let v32 : BitVec 32 := Scalar.divsi v31 c1_i32_15
  let v33 : BitVec 32 := Scalar.subi v32 c0_i32_18
  let c1_i32_19 : BitVec 32 := 1#32
  let v35 : BitVec 32 := Scalar.divsi v33 c1_i32_19
  let v36 : BitVec 32 := Scalar.muli v35 c1_i32_19
  let v37 : BitVec 32 := Scalar.addi c0_i32_18 v36
  let c1_i32_21 : BitVec 32 := 1#32
  let arg13 : BitVec 32 := Scf.iv v37 c1_i32_21 k1_t8
  let c1_i32_16 : BitVec 32 := 1#32
  let v38 : BitVec 32 := Scalar.muli arg13 c1_i32_16
  let v39 : BitVec 32 := Scalar.addi c0_i32_17 v38
  let c64_i32_22 : BitVec 32 := 64#32
  let v40 : BitVec 32 := Scalar.muli v39 c64_i32_22
  let v41 : BitVec 32 := Scalar.addi v22 v40
  let c0_i32_49 : BitVec 32 := 0#32
  let c0_i32_50 : BitVec 32 := 0#32
  let v42 : BitVec 32 := Scalar.subi v25 v41
  let c64_i32_23 : BitVec 32 := 64#32
  let v43 : BitVec 32 := Scalar.minsi v42 c64_i32_23
  let c0_i32_44 : BitVec 32 := 0#32
  let v62 : BitVec 32 := Scalar.subi v43 c0_i32_44
  let c1_i32_45 : BitVec 32 := 1#32
  let c1_i32_46 : BitVec 32 := 1#32
  let v63 : BitVec 32 := Scalar.subi c1_i32_45 c1_i32_46
  let v64 : BitVec 32 := Scalar.addi v62 v63
  let c1_i32_47 : BitVec 32 := 1#32
  let v65 : BitVec 32 := Scalar.divsi v64 c1_i32_47
  let v66 : BitVec 32 := Scalar.subi v65 c0_i32_50
  let c1_i32_51 : BitVec 32 := 1#32
  let v68 : BitVec 32 := Scalar.divsi v66 c1_i32_51
  let v69 : BitVec 32 := Scalar.muli v68 c1_i32_51
  let v70 : BitVec 32 := Scalar.addi c0_i32_50 v69
  let c1_i32_53 : BitVec 32 := 1#32
  let arg14 : BitVec 32 := Scf.iv v70 c1_i32_53 k1_t14
  let c1_i32_48 : BitVec 32 := 1#32
  let v71 : BitVec 32 := Scalar.muli arg14 c1_i32_48
  let v72 : BitVec 32 := Scalar.addi c0_i32_49 v71
  let v115 : BitVec 32 := Scalar.addi v41 v72
  let v116 : Index := Scalar.indexCast v115
  ![v116.toNat]

def k1_chk1_0 (i : grid1.Coords) (v22 : BitVec 32) (v25 : BitVec 32) : Prop :=
  (∀ (k1_h2 : k1_cond2 i = 1#1), (k1_t1_loop v22 v25).OK) ∧
  (∀ k1_t1 : Fin (k1_t1_loop v22 v25).trips, ∀ (k1_h2 : k1_cond2 i = 1#1), (k1_t2_loop v22 v25 k1_t1).OK) ∧
  (∀ (k1_t1 : Fin (k1_t1_loop v22 v25).trips) (k1_t2 : Fin (k1_t2_loop v22 v25 k1_t1).trips), ∀ (k1_h2 : k1_cond2 i = 1#1), ∀ a, (k1_off3 v22 v25 k1_t1 k1_t2) a + S1.size a ≤ S6144.size a) ∧
  (∀ (k1_t1 : Fin (k1_t1_loop v22 v25).trips) (k1_t2 : Fin (k1_t2_loop v22 v25 k1_t1).trips), ∀ (k1_h2 : k1_cond2 i = 1#1), ∀ a, (k1_off4 v22 v25 k1_t1 k1_t2) a + S1x4096.size a ≤ S64x4096.size a) ∧
  (∀ k1_t1 : Fin (k1_t1_loop v22 v25).trips, ∀ (k1_h2 : k1_cond2 i = 1#1), (k1_t3_loop v22 v25 k1_t1).OK) ∧
  (∀ (k1_t1 : Fin (k1_t1_loop v22 v25).trips) (k1_t3 : Fin (k1_t3_loop v22 v25 k1_t1).trips), ∀ (k1_h2 : k1_cond2 i = 1#1), ∀ a, (k1_off6 v22 v25 k1_t1 k1_t3) a + S1.size a ≤ S6144.size a) ∧
  (∀ (k1_t1 : Fin (k1_t1_loop v22 v25).trips) (k1_t3 : Fin (k1_t3_loop v22 v25 k1_t1).trips), ∀ (k1_h2 : k1_cond2 i = 1#1), ∀ a, (k1_off7 v22 v25 k1_t1 k1_t3) a + S1x4096.size a ≤ S64x4096.size a) ∧
  (∀ k1_t1 : Fin (k1_t1_loop v22 v25).trips, ∀ (k1_h2 : k1_cond2 i = 1#1), (k1_t4_loop v22 v25 k1_t1).OK) ∧
  (∀ (k1_t1 : Fin (k1_t1_loop v22 v25).trips) (k1_t4 : Fin (k1_t4_loop v22 v25 k1_t1).trips), ∀ (k1_h2 : k1_cond2 i = 1#1), ∀ a, (k1_off9 v22 v25 k1_t1 k1_t4) a + S1x4096.size a ≤ S64x4096.size a) ∧
  (∀ k1_t1 : Fin (k1_t1_loop v22 v25).trips, ∀ (k1_h2 : k1_cond2 i = 1#1), (k1_t5_loop v22 v25 k1_t1).OK) ∧
  (∀ (k1_t1 : Fin (k1_t1_loop v22 v25).trips) (k1_t5 : Fin (k1_t5_loop v22 v25 k1_t1).trips), ∀ (k1_h2 : k1_cond2 i = 1#1), ∀ a, (k1_off10 v22 v25 k1_t1 k1_t5) a + S1x4096.size a ≤ S64x4096.size a) ∧
  (∀ k1_t1 : Fin (k1_t1_loop v22 v25).trips, ∀ (k1_h2 : k1_cond2 i = 1#1), (k1_t6_loop v22 v25 k1_t1).OK) ∧
  (∀ (k1_t1 : Fin (k1_t1_loop v22 v25).trips) (k1_t6 : Fin (k1_t6_loop v22 v25 k1_t1).trips), ∀ (k1_h2 : k1_cond2 i = 1#1), ∀ a, (k1_off11 v22 v25 k1_t1 k1_t6) a + S1.size a ≤ S6144.size a) ∧
  (∀ (k1_t1 : Fin (k1_t1_loop v22 v25).trips) (k1_t6 : Fin (k1_t6_loop v22 v25 k1_t1).trips), ∀ (k1_h2 : k1_cond2 i = 1#1), ∀ a, (k1_off12 v22 v25 k1_t1 k1_t6) a + S1x4096.size a ≤ S64x4096.size a) ∧
  (∀ (k1_t1 : Fin (k1_t1_loop v22 v25).trips) (k1_t6 : Fin (k1_t6_loop v22 v25 k1_t1).trips), ∀ (k1_h2 : k1_cond2 i = 1#1), ∀ a, (k1_off14 v22 v25 k1_t1 k1_t6) a + S1.size a ≤ S6144.size a) ∧
  (∀ k1_t1 : Fin (k1_t1_loop v22 v25).trips, ∀ (k1_h2 : k1_cond2 i = 1#1), (k1_t7_loop v22 v25 k1_t1).OK) ∧
  (∀ (k1_t1 : Fin (k1_t1_loop v22 v25).trips) (k1_t7 : Fin (k1_t7_loop v22 v25 k1_t1).trips), ∀ (k1_h2 : k1_cond2 i = 1#1), ∀ a, (k1_off15 v22 v25 k1_t1 k1_t7) a + S1.size a ≤ S6144.size a) ∧
  (∀ (k1_t1 : Fin (k1_t1_loop v22 v25).trips) (k1_t7 : Fin (k1_t7_loop v22 v25 k1_t1).trips), ∀ (k1_h2 : k1_cond2 i = 1#1), ∀ a, (k1_off16 v22 v25 k1_t1 k1_t7) a + S1x4096.size a ≤ S64x4096.size a) ∧
  (∀ (k1_t1 : Fin (k1_t1_loop v22 v25).trips) (k1_t7 : Fin (k1_t7_loop v22 v25 k1_t1).trips), ∀ (k1_h2 : k1_cond2 i = 1#1), ∀ a, (k1_off18 v22 v25 k1_t1 k1_t7) a + S1.size a ≤ S6144.size a) ∧
  (∀ (k1_h2 : k1_cond2 i = 1#1), (k1_t8_loop v22 v25).OK) ∧
  (∀ k1_t8 : Fin (k1_t8_loop v22 v25).trips, ∀ (k1_h2 : k1_cond2 i = 1#1), (k1_t9_loop v22 v25 k1_t8).OK) ∧
  (∀ (k1_t8 : Fin (k1_t8_loop v22 v25).trips) (k1_t9 : Fin (k1_t9_loop v22 v25 k1_t8).trips), ∀ (k1_h2 : k1_cond2 i = 1#1), ∀ a, (k1_off19 v22 v25 k1_t8 k1_t9) a + S1.size a ≤ S6144.size a) ∧
  (∀ (k1_t8 : Fin (k1_t8_loop v22 v25).trips) (k1_t9 : Fin (k1_t9_loop v22 v25 k1_t8).trips), ∀ (k1_h2 : k1_cond2 i = 1#1), ∀ a, (k1_off20 v22 v25 k1_t8 k1_t9) a + S1x4096.size a ≤ S64x4096.size a) ∧
  (∀ k1_t8 : Fin (k1_t8_loop v22 v25).trips, ∀ (k1_h2 : k1_cond2 i = 1#1), (k1_t10_loop v22 v25 k1_t8).OK) ∧
  (∀ (k1_t8 : Fin (k1_t8_loop v22 v25).trips) (k1_t10 : Fin (k1_t10_loop v22 v25 k1_t8).trips), ∀ (k1_h2 : k1_cond2 i = 1#1), ∀ a, (k1_off22 v22 v25 k1_t8 k1_t10) a + S1.size a ≤ S6144.size a) ∧
  (∀ (k1_t8 : Fin (k1_t8_loop v22 v25).trips) (k1_t10 : Fin (k1_t10_loop v22 v25 k1_t8).trips), ∀ (k1_h2 : k1_cond2 i = 1#1), ∀ a, (k1_off23 v22 v25 k1_t8 k1_t10) a + S1x4096.size a ≤ S64x4096.size a) ∧
  (∀ k1_t8 : Fin (k1_t8_loop v22 v25).trips, ∀ (k1_h2 : k1_cond2 i = 1#1), (k1_t11_loop v22 v25 k1_t8).OK) ∧
  (∀ (k1_t8 : Fin (k1_t8_loop v22 v25).trips) (k1_t11 : Fin (k1_t11_loop v22 v25 k1_t8).trips), ∀ (k1_h2 : k1_cond2 i = 1#1), ∀ a, (k1_off25 v22 v25 k1_t8 k1_t11) a + S1x4096.size a ≤ S64x4096.size a) ∧
  (∀ k1_t8 : Fin (k1_t8_loop v22 v25).trips, ∀ (k1_h2 : k1_cond2 i = 1#1), (k1_t12_loop v22 v25 k1_t8).OK) ∧
  (∀ (k1_t8 : Fin (k1_t8_loop v22 v25).trips) (k1_t12 : Fin (k1_t12_loop v22 v25 k1_t8).trips), ∀ (k1_h2 : k1_cond2 i = 1#1), ∀ a, (k1_off26 v22 v25 k1_t8 k1_t12) a + S1x4096.size a ≤ S64x4096.size a) ∧
  (∀ k1_t8 : Fin (k1_t8_loop v22 v25).trips, ∀ (k1_h2 : k1_cond2 i = 1#1), (k1_t13_loop v22 v25 k1_t8).OK) ∧
  (∀ (k1_t8 : Fin (k1_t8_loop v22 v25).trips) (k1_t13 : Fin (k1_t13_loop v22 v25 k1_t8).trips), ∀ (k1_h2 : k1_cond2 i = 1#1), ∀ a, (k1_off27 v22 v25 k1_t8 k1_t13) a + S1.size a ≤ S6144.size a)
def k1_chk1_1 (i : grid1.Coords) (v22 : BitVec 32) (v25 : BitVec 32) : Prop :=
  (∀ (k1_t8 : Fin (k1_t8_loop v22 v25).trips) (k1_t13 : Fin (k1_t13_loop v22 v25 k1_t8).trips), ∀ (k1_h2 : k1_cond2 i = 1#1), ∀ a, (k1_off28 v22 v25 k1_t8 k1_t13) a + S1x4096.size a ≤ S64x4096.size a) ∧
  (∀ (k1_t8 : Fin (k1_t8_loop v22 v25).trips) (k1_t13 : Fin (k1_t13_loop v22 v25 k1_t8).trips), ∀ (k1_h2 : k1_cond2 i = 1#1), ∀ a, (k1_off30 v22 v25 k1_t8 k1_t13) a + S1.size a ≤ S6144.size a) ∧
  (∀ k1_t8 : Fin (k1_t8_loop v22 v25).trips, ∀ (k1_h2 : k1_cond2 i = 1#1), (k1_t14_loop v22 v25 k1_t8).OK) ∧
  (∀ (k1_t8 : Fin (k1_t8_loop v22 v25).trips) (k1_t14 : Fin (k1_t14_loop v22 v25 k1_t8).trips), ∀ (k1_h2 : k1_cond2 i = 1#1), ∀ a, (k1_off31 v22 v25 k1_t8 k1_t14) a + S1.size a ≤ S6144.size a) ∧
  (∀ (k1_t8 : Fin (k1_t8_loop v22 v25).trips) (k1_t14 : Fin (k1_t14_loop v22 v25 k1_t8).trips), ∀ (k1_h2 : k1_cond2 i = 1#1), ∀ a, (k1_off32 v22 v25 k1_t8 k1_t14) a + S1x4096.size a ≤ S64x4096.size a) ∧
  (∀ (k1_t8 : Fin (k1_t8_loop v22 v25).trips) (k1_t14 : Fin (k1_t14_loop v22 v25 k1_t8).trips), ∀ (k1_h2 : k1_cond2 i = 1#1), ∀ a, (k1_off34 v22 v25 k1_t8 k1_t14) a + S1.size a ≤ S6144.size a)
def k1_chk1 (i : grid1.Coords) (v22 : BitVec 32) (v25 : BitVec 32) : Prop :=
  k1_chk1_0 i v22 v25 ∧
  k1_chk1_1 i v22 v25
theorem k1_t1_ok : ∀ (i : grid1.Coords) (v22 : BitVec 32) (v25 : BitVec 32) (k1_hw1 : k1_chk1 i v22 v25), ∀ (k1_h2 : k1_cond2 i = 1#1), (k1_t1_loop v22 v25).OK := fun i v22 v25 k1_hw1 k1_h2 => k1_hw1.1.1 k1_h2
theorem k1_t2_ok : ∀ (i : grid1.Coords) (v22 : BitVec 32) (v25 : BitVec 32) (k1_hw1 : k1_chk1 i v22 v25) (k1_t1 : Fin (k1_t1_loop v22 v25).trips), ∀ (k1_h2 : k1_cond2 i = 1#1), (k1_t2_loop v22 v25 k1_t1).OK := fun i v22 v25 k1_hw1 k1_t1 k1_h2 => k1_hw1.1.2.1 k1_t1 k1_h2
theorem k1_off3_inb : ∀ (i : grid1.Coords) (v22 : BitVec 32) (v25 : BitVec 32) (k1_hw1 : k1_chk1 i v22 v25) (k1_t1 : Fin (k1_t1_loop v22 v25).trips) (k1_t2 : Fin (k1_t2_loop v22 v25 k1_t1).trips), ∀ (k1_h2 : k1_cond2 i = 1#1), ∀ a, (k1_off3 v22 v25 k1_t1 k1_t2) a + S1.size a ≤ S6144.size a := fun i v22 v25 k1_hw1 k1_t1 k1_t2 k1_h2 => k1_hw1.1.2.2.1 k1_t1 k1_t2 k1_h2
theorem k1_off4_inb : ∀ (i : grid1.Coords) (v22 : BitVec 32) (v25 : BitVec 32) (k1_hw1 : k1_chk1 i v22 v25) (k1_t1 : Fin (k1_t1_loop v22 v25).trips) (k1_t2 : Fin (k1_t2_loop v22 v25 k1_t1).trips), ∀ (k1_h2 : k1_cond2 i = 1#1), ∀ a, (k1_off4 v22 v25 k1_t1 k1_t2) a + S1x4096.size a ≤ S64x4096.size a := fun i v22 v25 k1_hw1 k1_t1 k1_t2 k1_h2 => k1_hw1.1.2.2.2.1 k1_t1 k1_t2 k1_h2
theorem k1_t3_ok : ∀ (i : grid1.Coords) (v22 : BitVec 32) (v25 : BitVec 32) (k1_hw1 : k1_chk1 i v22 v25) (k1_t1 : Fin (k1_t1_loop v22 v25).trips), ∀ (k1_h2 : k1_cond2 i = 1#1), (k1_t3_loop v22 v25 k1_t1).OK := fun i v22 v25 k1_hw1 k1_t1 k1_h2 => k1_hw1.1.2.2.2.2.1 k1_t1 k1_h2
theorem k1_off6_inb : ∀ (i : grid1.Coords) (v22 : BitVec 32) (v25 : BitVec 32) (k1_hw1 : k1_chk1 i v22 v25) (k1_t1 : Fin (k1_t1_loop v22 v25).trips) (k1_t3 : Fin (k1_t3_loop v22 v25 k1_t1).trips), ∀ (k1_h2 : k1_cond2 i = 1#1), ∀ a, (k1_off6 v22 v25 k1_t1 k1_t3) a + S1.size a ≤ S6144.size a := fun i v22 v25 k1_hw1 k1_t1 k1_t3 k1_h2 => k1_hw1.1.2.2.2.2.2.1 k1_t1 k1_t3 k1_h2
theorem k1_off7_inb : ∀ (i : grid1.Coords) (v22 : BitVec 32) (v25 : BitVec 32) (k1_hw1 : k1_chk1 i v22 v25) (k1_t1 : Fin (k1_t1_loop v22 v25).trips) (k1_t3 : Fin (k1_t3_loop v22 v25 k1_t1).trips), ∀ (k1_h2 : k1_cond2 i = 1#1), ∀ a, (k1_off7 v22 v25 k1_t1 k1_t3) a + S1x4096.size a ≤ S64x4096.size a := fun i v22 v25 k1_hw1 k1_t1 k1_t3 k1_h2 => k1_hw1.1.2.2.2.2.2.2.1 k1_t1 k1_t3 k1_h2
theorem k1_t4_ok : ∀ (i : grid1.Coords) (v22 : BitVec 32) (v25 : BitVec 32) (k1_hw1 : k1_chk1 i v22 v25) (k1_t1 : Fin (k1_t1_loop v22 v25).trips), ∀ (k1_h2 : k1_cond2 i = 1#1), (k1_t4_loop v22 v25 k1_t1).OK := fun i v22 v25 k1_hw1 k1_t1 k1_h2 => k1_hw1.1.2.2.2.2.2.2.2.1 k1_t1 k1_h2
theorem k1_off9_inb : ∀ (i : grid1.Coords) (v22 : BitVec 32) (v25 : BitVec 32) (k1_hw1 : k1_chk1 i v22 v25) (k1_t1 : Fin (k1_t1_loop v22 v25).trips) (k1_t4 : Fin (k1_t4_loop v22 v25 k1_t1).trips), ∀ (k1_h2 : k1_cond2 i = 1#1), ∀ a, (k1_off9 v22 v25 k1_t1 k1_t4) a + S1x4096.size a ≤ S64x4096.size a := fun i v22 v25 k1_hw1 k1_t1 k1_t4 k1_h2 => k1_hw1.1.2.2.2.2.2.2.2.2.1 k1_t1 k1_t4 k1_h2
theorem k1_t5_ok : ∀ (i : grid1.Coords) (v22 : BitVec 32) (v25 : BitVec 32) (k1_hw1 : k1_chk1 i v22 v25) (k1_t1 : Fin (k1_t1_loop v22 v25).trips), ∀ (k1_h2 : k1_cond2 i = 1#1), (k1_t5_loop v22 v25 k1_t1).OK := fun i v22 v25 k1_hw1 k1_t1 k1_h2 => k1_hw1.1.2.2.2.2.2.2.2.2.2.1 k1_t1 k1_h2
theorem k1_off10_inb : ∀ (i : grid1.Coords) (v22 : BitVec 32) (v25 : BitVec 32) (k1_hw1 : k1_chk1 i v22 v25) (k1_t1 : Fin (k1_t1_loop v22 v25).trips) (k1_t5 : Fin (k1_t5_loop v22 v25 k1_t1).trips), ∀ (k1_h2 : k1_cond2 i = 1#1), ∀ a, (k1_off10 v22 v25 k1_t1 k1_t5) a + S1x4096.size a ≤ S64x4096.size a := fun i v22 v25 k1_hw1 k1_t1 k1_t5 k1_h2 => k1_hw1.1.2.2.2.2.2.2.2.2.2.2.1 k1_t1 k1_t5 k1_h2
theorem k1_t6_ok : ∀ (i : grid1.Coords) (v22 : BitVec 32) (v25 : BitVec 32) (k1_hw1 : k1_chk1 i v22 v25) (k1_t1 : Fin (k1_t1_loop v22 v25).trips), ∀ (k1_h2 : k1_cond2 i = 1#1), (k1_t6_loop v22 v25 k1_t1).OK := fun i v22 v25 k1_hw1 k1_t1 k1_h2 => k1_hw1.1.2.2.2.2.2.2.2.2.2.2.2.1 k1_t1 k1_h2
theorem k1_off11_inb : ∀ (i : grid1.Coords) (v22 : BitVec 32) (v25 : BitVec 32) (k1_hw1 : k1_chk1 i v22 v25) (k1_t1 : Fin (k1_t1_loop v22 v25).trips) (k1_t6 : Fin (k1_t6_loop v22 v25 k1_t1).trips), ∀ (k1_h2 : k1_cond2 i = 1#1), ∀ a, (k1_off11 v22 v25 k1_t1 k1_t6) a + S1.size a ≤ S6144.size a := fun i v22 v25 k1_hw1 k1_t1 k1_t6 k1_h2 => k1_hw1.1.2.2.2.2.2.2.2.2.2.2.2.2.1 k1_t1 k1_t6 k1_h2
theorem k1_off12_inb : ∀ (i : grid1.Coords) (v22 : BitVec 32) (v25 : BitVec 32) (k1_hw1 : k1_chk1 i v22 v25) (k1_t1 : Fin (k1_t1_loop v22 v25).trips) (k1_t6 : Fin (k1_t6_loop v22 v25 k1_t1).trips), ∀ (k1_h2 : k1_cond2 i = 1#1), ∀ a, (k1_off12 v22 v25 k1_t1 k1_t6) a + S1x4096.size a ≤ S64x4096.size a := fun i v22 v25 k1_hw1 k1_t1 k1_t6 k1_h2 => k1_hw1.1.2.2.2.2.2.2.2.2.2.2.2.2.2.1 k1_t1 k1_t6 k1_h2
theorem k1_off14_inb : ∀ (i : grid1.Coords) (v22 : BitVec 32) (v25 : BitVec 32) (k1_hw1 : k1_chk1 i v22 v25) (k1_t1 : Fin (k1_t1_loop v22 v25).trips) (k1_t6 : Fin (k1_t6_loop v22 v25 k1_t1).trips), ∀ (k1_h2 : k1_cond2 i = 1#1), ∀ a, (k1_off14 v22 v25 k1_t1 k1_t6) a + S1.size a ≤ S6144.size a := fun i v22 v25 k1_hw1 k1_t1 k1_t6 k1_h2 => k1_hw1.1.2.2.2.2.2.2.2.2.2.2.2.2.2.2.1 k1_t1 k1_t6 k1_h2
theorem k1_t7_ok : ∀ (i : grid1.Coords) (v22 : BitVec 32) (v25 : BitVec 32) (k1_hw1 : k1_chk1 i v22 v25) (k1_t1 : Fin (k1_t1_loop v22 v25).trips), ∀ (k1_h2 : k1_cond2 i = 1#1), (k1_t7_loop v22 v25 k1_t1).OK := fun i v22 v25 k1_hw1 k1_t1 k1_h2 => k1_hw1.1.2.2.2.2.2.2.2.2.2.2.2.2.2.2.2.1 k1_t1 k1_h2
theorem k1_off15_inb : ∀ (i : grid1.Coords) (v22 : BitVec 32) (v25 : BitVec 32) (k1_hw1 : k1_chk1 i v22 v25) (k1_t1 : Fin (k1_t1_loop v22 v25).trips) (k1_t7 : Fin (k1_t7_loop v22 v25 k1_t1).trips), ∀ (k1_h2 : k1_cond2 i = 1#1), ∀ a, (k1_off15 v22 v25 k1_t1 k1_t7) a + S1.size a ≤ S6144.size a := fun i v22 v25 k1_hw1 k1_t1 k1_t7 k1_h2 => k1_hw1.1.2.2.2.2.2.2.2.2.2.2.2.2.2.2.2.2.1 k1_t1 k1_t7 k1_h2
theorem k1_off16_inb : ∀ (i : grid1.Coords) (v22 : BitVec 32) (v25 : BitVec 32) (k1_hw1 : k1_chk1 i v22 v25) (k1_t1 : Fin (k1_t1_loop v22 v25).trips) (k1_t7 : Fin (k1_t7_loop v22 v25 k1_t1).trips), ∀ (k1_h2 : k1_cond2 i = 1#1), ∀ a, (k1_off16 v22 v25 k1_t1 k1_t7) a + S1x4096.size a ≤ S64x4096.size a := fun i v22 v25 k1_hw1 k1_t1 k1_t7 k1_h2 => k1_hw1.1.2.2.2.2.2.2.2.2.2.2.2.2.2.2.2.2.2.1 k1_t1 k1_t7 k1_h2
theorem k1_off18_inb : ∀ (i : grid1.Coords) (v22 : BitVec 32) (v25 : BitVec 32) (k1_hw1 : k1_chk1 i v22 v25) (k1_t1 : Fin (k1_t1_loop v22 v25).trips) (k1_t7 : Fin (k1_t7_loop v22 v25 k1_t1).trips), ∀ (k1_h2 : k1_cond2 i = 1#1), ∀ a, (k1_off18 v22 v25 k1_t1 k1_t7) a + S1.size a ≤ S6144.size a := fun i v22 v25 k1_hw1 k1_t1 k1_t7 k1_h2 => k1_hw1.1.2.2.2.2.2.2.2.2.2.2.2.2.2.2.2.2.2.2.1 k1_t1 k1_t7 k1_h2
theorem k1_t8_ok : ∀ (i : grid1.Coords) (v22 : BitVec 32) (v25 : BitVec 32) (k1_hw1 : k1_chk1 i v22 v25), ∀ (k1_h2 : k1_cond2 i = 1#1), (k1_t8_loop v22 v25).OK := fun i v22 v25 k1_hw1 k1_h2 => k1_hw1.1.2.2.2.2.2.2.2.2.2.2.2.2.2.2.2.2.2.2.2.1 k1_h2
theorem k1_t9_ok : ∀ (i : grid1.Coords) (v22 : BitVec 32) (v25 : BitVec 32) (k1_hw1 : k1_chk1 i v22 v25) (k1_t8 : Fin (k1_t8_loop v22 v25).trips), ∀ (k1_h2 : k1_cond2 i = 1#1), (k1_t9_loop v22 v25 k1_t8).OK := fun i v22 v25 k1_hw1 k1_t8 k1_h2 => k1_hw1.1.2.2.2.2.2.2.2.2.2.2.2.2.2.2.2.2.2.2.2.2.1 k1_t8 k1_h2
theorem k1_off19_inb : ∀ (i : grid1.Coords) (v22 : BitVec 32) (v25 : BitVec 32) (k1_hw1 : k1_chk1 i v22 v25) (k1_t8 : Fin (k1_t8_loop v22 v25).trips) (k1_t9 : Fin (k1_t9_loop v22 v25 k1_t8).trips), ∀ (k1_h2 : k1_cond2 i = 1#1), ∀ a, (k1_off19 v22 v25 k1_t8 k1_t9) a + S1.size a ≤ S6144.size a := fun i v22 v25 k1_hw1 k1_t8 k1_t9 k1_h2 => k1_hw1.1.2.2.2.2.2.2.2.2.2.2.2.2.2.2.2.2.2.2.2.2.2.1 k1_t8 k1_t9 k1_h2
theorem k1_off20_inb : ∀ (i : grid1.Coords) (v22 : BitVec 32) (v25 : BitVec 32) (k1_hw1 : k1_chk1 i v22 v25) (k1_t8 : Fin (k1_t8_loop v22 v25).trips) (k1_t9 : Fin (k1_t9_loop v22 v25 k1_t8).trips), ∀ (k1_h2 : k1_cond2 i = 1#1), ∀ a, (k1_off20 v22 v25 k1_t8 k1_t9) a + S1x4096.size a ≤ S64x4096.size a := fun i v22 v25 k1_hw1 k1_t8 k1_t9 k1_h2 => k1_hw1.1.2.2.2.2.2.2.2.2.2.2.2.2.2.2.2.2.2.2.2.2.2.2.1 k1_t8 k1_t9 k1_h2
theorem k1_t10_ok : ∀ (i : grid1.Coords) (v22 : BitVec 32) (v25 : BitVec 32) (k1_hw1 : k1_chk1 i v22 v25) (k1_t8 : Fin (k1_t8_loop v22 v25).trips), ∀ (k1_h2 : k1_cond2 i = 1#1), (k1_t10_loop v22 v25 k1_t8).OK := fun i v22 v25 k1_hw1 k1_t8 k1_h2 => k1_hw1.1.2.2.2.2.2.2.2.2.2.2.2.2.2.2.2.2.2.2.2.2.2.2.2.1 k1_t8 k1_h2
theorem k1_off22_inb : ∀ (i : grid1.Coords) (v22 : BitVec 32) (v25 : BitVec 32) (k1_hw1 : k1_chk1 i v22 v25) (k1_t8 : Fin (k1_t8_loop v22 v25).trips) (k1_t10 : Fin (k1_t10_loop v22 v25 k1_t8).trips), ∀ (k1_h2 : k1_cond2 i = 1#1), ∀ a, (k1_off22 v22 v25 k1_t8 k1_t10) a + S1.size a ≤ S6144.size a := fun i v22 v25 k1_hw1 k1_t8 k1_t10 k1_h2 => k1_hw1.1.2.2.2.2.2.2.2.2.2.2.2.2.2.2.2.2.2.2.2.2.2.2.2.2.1 k1_t8 k1_t10 k1_h2
theorem k1_off23_inb : ∀ (i : grid1.Coords) (v22 : BitVec 32) (v25 : BitVec 32) (k1_hw1 : k1_chk1 i v22 v25) (k1_t8 : Fin (k1_t8_loop v22 v25).trips) (k1_t10 : Fin (k1_t10_loop v22 v25 k1_t8).trips), ∀ (k1_h2 : k1_cond2 i = 1#1), ∀ a, (k1_off23 v22 v25 k1_t8 k1_t10) a + S1x4096.size a ≤ S64x4096.size a := fun i v22 v25 k1_hw1 k1_t8 k1_t10 k1_h2 => k1_hw1.1.2.2.2.2.2.2.2.2.2.2.2.2.2.2.2.2.2.2.2.2.2.2.2.2.2.1 k1_t8 k1_t10 k1_h2
theorem k1_t11_ok : ∀ (i : grid1.Coords) (v22 : BitVec 32) (v25 : BitVec 32) (k1_hw1 : k1_chk1 i v22 v25) (k1_t8 : Fin (k1_t8_loop v22 v25).trips), ∀ (k1_h2 : k1_cond2 i = 1#1), (k1_t11_loop v22 v25 k1_t8).OK := fun i v22 v25 k1_hw1 k1_t8 k1_h2 => k1_hw1.1.2.2.2.2.2.2.2.2.2.2.2.2.2.2.2.2.2.2.2.2.2.2.2.2.2.2.1 k1_t8 k1_h2
theorem k1_off25_inb : ∀ (i : grid1.Coords) (v22 : BitVec 32) (v25 : BitVec 32) (k1_hw1 : k1_chk1 i v22 v25) (k1_t8 : Fin (k1_t8_loop v22 v25).trips) (k1_t11 : Fin (k1_t11_loop v22 v25 k1_t8).trips), ∀ (k1_h2 : k1_cond2 i = 1#1), ∀ a, (k1_off25 v22 v25 k1_t8 k1_t11) a + S1x4096.size a ≤ S64x4096.size a := fun i v22 v25 k1_hw1 k1_t8 k1_t11 k1_h2 => k1_hw1.1.2.2.2.2.2.2.2.2.2.2.2.2.2.2.2.2.2.2.2.2.2.2.2.2.2.2.2.1 k1_t8 k1_t11 k1_h2
theorem k1_t12_ok : ∀ (i : grid1.Coords) (v22 : BitVec 32) (v25 : BitVec 32) (k1_hw1 : k1_chk1 i v22 v25) (k1_t8 : Fin (k1_t8_loop v22 v25).trips), ∀ (k1_h2 : k1_cond2 i = 1#1), (k1_t12_loop v22 v25 k1_t8).OK := fun i v22 v25 k1_hw1 k1_t8 k1_h2 => k1_hw1.1.2.2.2.2.2.2.2.2.2.2.2.2.2.2.2.2.2.2.2.2.2.2.2.2.2.2.2.2.1 k1_t8 k1_h2
theorem k1_off26_inb : ∀ (i : grid1.Coords) (v22 : BitVec 32) (v25 : BitVec 32) (k1_hw1 : k1_chk1 i v22 v25) (k1_t8 : Fin (k1_t8_loop v22 v25).trips) (k1_t12 : Fin (k1_t12_loop v22 v25 k1_t8).trips), ∀ (k1_h2 : k1_cond2 i = 1#1), ∀ a, (k1_off26 v22 v25 k1_t8 k1_t12) a + S1x4096.size a ≤ S64x4096.size a := fun i v22 v25 k1_hw1 k1_t8 k1_t12 k1_h2 => k1_hw1.1.2.2.2.2.2.2.2.2.2.2.2.2.2.2.2.2.2.2.2.2.2.2.2.2.2.2.2.2.2.1 k1_t8 k1_t12 k1_h2
theorem k1_t13_ok : ∀ (i : grid1.Coords) (v22 : BitVec 32) (v25 : BitVec 32) (k1_hw1 : k1_chk1 i v22 v25) (k1_t8 : Fin (k1_t8_loop v22 v25).trips), ∀ (k1_h2 : k1_cond2 i = 1#1), (k1_t13_loop v22 v25 k1_t8).OK := fun i v22 v25 k1_hw1 k1_t8 k1_h2 => k1_hw1.1.2.2.2.2.2.2.2.2.2.2.2.2.2.2.2.2.2.2.2.2.2.2.2.2.2.2.2.2.2.2.1 k1_t8 k1_h2
theorem k1_off27_inb : ∀ (i : grid1.Coords) (v22 : BitVec 32) (v25 : BitVec 32) (k1_hw1 : k1_chk1 i v22 v25) (k1_t8 : Fin (k1_t8_loop v22 v25).trips) (k1_t13 : Fin (k1_t13_loop v22 v25 k1_t8).trips), ∀ (k1_h2 : k1_cond2 i = 1#1), ∀ a, (k1_off27 v22 v25 k1_t8 k1_t13) a + S1.size a ≤ S6144.size a := fun i v22 v25 k1_hw1 k1_t8 k1_t13 k1_h2 => k1_hw1.1.2.2.2.2.2.2.2.2.2.2.2.2.2.2.2.2.2.2.2.2.2.2.2.2.2.2.2.2.2.2.2 k1_t8 k1_t13 k1_h2
theorem k1_off28_inb : ∀ (i : grid1.Coords) (v22 : BitVec 32) (v25 : BitVec 32) (k1_hw1 : k1_chk1 i v22 v25) (k1_t8 : Fin (k1_t8_loop v22 v25).trips) (k1_t13 : Fin (k1_t13_loop v22 v25 k1_t8).trips), ∀ (k1_h2 : k1_cond2 i = 1#1), ∀ a, (k1_off28 v22 v25 k1_t8 k1_t13) a + S1x4096.size a ≤ S64x4096.size a := fun i v22 v25 k1_hw1 k1_t8 k1_t13 k1_h2 => k1_hw1.2.1 k1_t8 k1_t13 k1_h2
theorem k1_off30_inb : ∀ (i : grid1.Coords) (v22 : BitVec 32) (v25 : BitVec 32) (k1_hw1 : k1_chk1 i v22 v25) (k1_t8 : Fin (k1_t8_loop v22 v25).trips) (k1_t13 : Fin (k1_t13_loop v22 v25 k1_t8).trips), ∀ (k1_h2 : k1_cond2 i = 1#1), ∀ a, (k1_off30 v22 v25 k1_t8 k1_t13) a + S1.size a ≤ S6144.size a := fun i v22 v25 k1_hw1 k1_t8 k1_t13 k1_h2 => k1_hw1.2.2.1 k1_t8 k1_t13 k1_h2
theorem k1_t14_ok : ∀ (i : grid1.Coords) (v22 : BitVec 32) (v25 : BitVec 32) (k1_hw1 : k1_chk1 i v22 v25) (k1_t8 : Fin (k1_t8_loop v22 v25).trips), ∀ (k1_h2 : k1_cond2 i = 1#1), (k1_t14_loop v22 v25 k1_t8).OK := fun i v22 v25 k1_hw1 k1_t8 k1_h2 => k1_hw1.2.2.2.1 k1_t8 k1_h2
theorem k1_off31_inb : ∀ (i : grid1.Coords) (v22 : BitVec 32) (v25 : BitVec 32) (k1_hw1 : k1_chk1 i v22 v25) (k1_t8 : Fin (k1_t8_loop v22 v25).trips) (k1_t14 : Fin (k1_t14_loop v22 v25 k1_t8).trips), ∀ (k1_h2 : k1_cond2 i = 1#1), ∀ a, (k1_off31 v22 v25 k1_t8 k1_t14) a + S1.size a ≤ S6144.size a := fun i v22 v25 k1_hw1 k1_t8 k1_t14 k1_h2 => k1_hw1.2.2.2.2.1 k1_t8 k1_t14 k1_h2
theorem k1_off32_inb : ∀ (i : grid1.Coords) (v22 : BitVec 32) (v25 : BitVec 32) (k1_hw1 : k1_chk1 i v22 v25) (k1_t8 : Fin (k1_t8_loop v22 v25).trips) (k1_t14 : Fin (k1_t14_loop v22 v25 k1_t8).trips), ∀ (k1_h2 : k1_cond2 i = 1#1), ∀ a, (k1_off32 v22 v25 k1_t8 k1_t14) a + S1x4096.size a ≤ S64x4096.size a := fun i v22 v25 k1_hw1 k1_t8 k1_t14 k1_h2 => k1_hw1.2.2.2.2.2.1 k1_t8 k1_t14 k1_h2
theorem k1_off34_inb : ∀ (i : grid1.Coords) (v22 : BitVec 32) (v25 : BitVec 32) (k1_hw1 : k1_chk1 i v22 v25) (k1_t8 : Fin (k1_t8_loop v22 v25).trips) (k1_t14 : Fin (k1_t14_loop v22 v25 k1_t8).trips), ∀ (k1_h2 : k1_cond2 i = 1#1), ∀ a, (k1_off34 v22 v25 k1_t8 k1_t14) a + S1.size a ≤ S6144.size a := fun i v22 v25 k1_hw1 k1_t8 k1_t14 k1_h2 => k1_hw1.2.2.2.2.2.2 k1_t8 k1_t14 k1_h2

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x640 .fp8e5m2 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .smem S6144 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S640x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]
-- ==== ReferenceIdeal.lean ====
abbrev S2x3072x32000 : Shape := ⟨3, ![2, 3072, 32000]⟩
abbrev S2x3072x50 : Shape := ⟨3, ![2, 3072, 50]⟩
abbrev S2x3072x4096 : Shape := ⟨3, ![2, 3072, 4096]⟩
abbrev S2x3072 : Shape := ⟨2, ![2, 3072]⟩
abbrev S2x3072x50x640 : Shape := ⟨4, ![2, 3072, 50, 640]⟩
abbrev S2x3072x50x1 : Shape := ⟨4, ![2, 3072, 50, 1]⟩
abbrev S2x3072x1 : Shape := ⟨3, ![2, 3072, 1]⟩
abbrev S32000x4096 : Shape := ⟨2, ![32000, 4096]⟩
abbrev S6144x4096 : Shape := ⟨2, ![6144, 4096]⟩
abbrev S6144 : Shape := ⟨1, ![6144]⟩
abbrev S_ : Shape := ⟨0, ![]⟩
abbrev S6144x1 : Shape := ⟨2, ![6144, 1]⟩

abbrev nBuf : Space → Nat
  | .hbm => 31
  | .vmem => 6
  | .smem => 0
  | _ => 0

abbrev bufTy : (tb : Table) → Fin (tcTables nBuf tb) → BufTy
  | .hbm, ⟨0, _⟩ => ⟨S2x3072x32000, .fp8e5m2⟩
  | .hbm, ⟨1, _⟩ => ⟨S2x3072x50, .f32⟩
  | .hbm, ⟨2, _⟩ => ⟨S2x3072x4096, .fp8e4m3⟩
  | .hbm, ⟨3, _⟩ => ⟨S2x3072, .f32⟩
  | .hbm, ⟨4, _⟩ => ⟨S2x3072x4096, .i8⟩
  | .hbm, ⟨5, _⟩ => ⟨S2x3072, .f32⟩
  | .hbm, ⟨6, _⟩ => ⟨S2x3072, .i32⟩
  | .hbm, ⟨7, _⟩ => ⟨S2x3072x32000, .bf16⟩
  | .hbm, ⟨8, _⟩ => ⟨S2x3072x4096, .bf16⟩
  | .hbm, ⟨9, _⟩ => ⟨S2x3072x4096, .f32⟩
  | .hbm, ⟨10, _⟩ => ⟨S2x3072x50x640, .bf16⟩
  | .hbm, ⟨11, _⟩ => ⟨S2x3072x50, .bf16⟩
  | .hbm, ⟨12, _⟩ => ⟨S2x3072x50x1, .bf16⟩
  | .hbm, ⟨13, _⟩ => ⟨S2x3072x50x640, .bf16⟩
  | .hbm, ⟨14, _⟩ => ⟨S2x3072x50x640, .bf16⟩
  | .hbm, ⟨15, _⟩ => ⟨S2x3072x32000, .bf16⟩
  | .hbm, ⟨16, _⟩ => ⟨S2x3072, .bf16⟩
  | .hbm, ⟨17, _⟩ => ⟨S2x3072x1, .bf16⟩
  | .hbm, ⟨18, _⟩ => ⟨S2x3072x4096, .bf16⟩
  | .hbm, ⟨19, _⟩ => ⟨S2x3072x4096, .bf16⟩
  | .hbm, ⟨20, _⟩ => ⟨S32000x4096, .f32⟩
  | .hbm, ⟨21, _⟩ => ⟨S2x3072x1, .f32⟩
  | .hbm, ⟨22, _⟩ => ⟨S2x3072x4096, .f32⟩
  | .hbm, ⟨23, _⟩ => ⟨S2x3072x4096, .f32⟩
  | .hbm, ⟨24, _⟩ => ⟨S6144x4096, .f32⟩
  | .hbm, ⟨25, _⟩ => ⟨S6144, .i32⟩
  | .hbm, ⟨26, _⟩ => ⟨S_, .f32⟩
  | .hbm, ⟨27, _⟩ => ⟨S32000x4096, .f32⟩
  | .hbm, ⟨28, _⟩ => ⟨S6144x1, .i32⟩
  | .hbm, ⟨29, _⟩ => ⟨S32000x4096, .f32⟩
  | .hbm, ⟨30, _⟩ => ⟨S32000x4096, .f32⟩
  | .local _ .vmem, ⟨0, _⟩ => ⟨S2x3072x32000, .fp8e5m2⟩
  | .local _ .vmem, ⟨1, _⟩ => ⟨S2x3072x4096, .fp8e4m3⟩
  | .local _ .vmem, ⟨2, _⟩ => ⟨S2x3072x4096, .i8⟩
  | .local _ .vmem, ⟨3, _⟩ => ⟨S2x3072x32000, .bf16⟩
  | .local _ .vmem, ⟨4, _⟩ => ⟨S2x3072x4096, .bf16⟩
  | .local _ .vmem, ⟨5, _⟩ => ⟨S2x3072x4096, .f32⟩
  | _, _ => ⟨S2x3072x32000, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x3072x32000 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x3072x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x3072x4096 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x3072x32000 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x3072x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x3072x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.K.Words.lean ====
/-
  The words that the second call's loops compute: how many trips each loop makes, which positions its trips read, and that every access is in
  bounds, for a segment `[lo, hi)` of the sorted token list.
-/
module

public import proofs.«01_k».proof.Proof.Gen.Kernel.Loops
public import Idealize.ShloMosaic.Lib.LoopRemainder

@[expose] public section

namespace Cert.Kernel.Hand

open Idealize.ShloMosaic Idealize.ShloMosaic.Affine

/-- A segment of the sorted list: its two end words are ordered and within the 6144 tokens. -/
def Seg (lo hi : BitVec 32) : Prop := lo.toNat ≤ hi.toNat ∧ hi.toNat ≤ 6144

theorem isInt_of_toNat (x : BitVec 32) (h : x.toNat < 2 ^ 31) : IsInt x (x.toNat : Int) := by
  have := Affine.word x
  rwa [BitVec.toInt_eq_toNat_of_lt (by omega)] at this

/-- A loop bound as the lowering spells it is the count itself. -/
theorem count_word (x : BitVec 32) :
    Scalar.addi 0#32 (Scalar.muli (Scalar.divsi (Scalar.subi (Scalar.divsi (Scalar.addi (Scalar.subi x 0#32) (Scalar.subi 1#32 1#32)) 1#32) 0#32) 1#32) 1#32) = x := by
  simp only [Scalar.addi, Scalar.muli, Scalar.divsi, Scalar.subi, WordArith.divsi_one, IntOp.addi, IntOp.muli, IntOp.subi]
  simp

/-- The number of 64-token batches. -/
theorem batches (lo hi : BitVec 32) (h : Seg lo hi) :
    IsInt (Scalar.divsi (Scalar.addi (Scalar.subi hi lo) 63#32) 64#32) (((hi.toNat - lo.toNat + 63) / 64 : ℕ) : Int) := by
  obtain ⟨h1, h2⟩ := h
  exact Affine.divsi (ea := (hi.toNat : Int) - lo.toNat + 63) (eb := 64)
    (Affine.addi (Affine.subi (isInt_of_toNat hi (by omega)) (isInt_of_toNat lo (by omega)) ⟨rfl, by omega, by omega⟩)
      (Affine.ofNat 63 ⟨rfl, by omega⟩) ⟨rfl, by omega, by omega⟩) (Affine.ofNat 64 ⟨rfl, by omega⟩) ⟨by omega, by omega, by omega⟩

/-- The first position of batch `b`. -/
theorem batch_start (lo hi : BitVec 32) (h : Seg lo hi) (b : ℕ) (hb : b ≤ 96) :
    IsInt (Scalar.addi lo (Scalar.muli (Scalar.addi 0#32 (Scalar.muli (Scf.iv 0#32 1#32 b) 1#32)) 64#32)) (lo.toNat + 64 * b : Int) := by
  obtain ⟨h1, h2⟩ := h
  refine Affine.addi (eb := 64 * b) (isInt_of_toNat lo (by omega))
    (Affine.muli (ea := b) (Affine.addi (ea := 0) (eb := b) (Affine.ofNat 0 ⟨rfl, by omega⟩)
      (Affine.muli (ea := b) (Affine.iv (Affine.ofNat 0 ⟨rfl, by omega⟩) (Affine.ofNat 1 ⟨rfl, by omega⟩) b ⟨by omega, by omega, by omega⟩)
        (Affine.ofNat 1 ⟨rfl, by omega⟩) ⟨by omega, by omega, by omega⟩) ⟨by omega, by omega, by omega⟩)
      (Affine.ofNat 64 ⟨rfl, by omega⟩) ⟨by push_cast; omega, by omega, by omega⟩) ⟨rfl, by omega, by omega⟩

/-- The number of tokens of batch `b`. -/
theorem batch_count (lo hi : BitVec 32) (h : Seg lo hi) (b : ℕ) (hb : lo.toNat + 64 * b ≤ hi.toNat) :
    IsInt (Scalar.minsi (Scalar.subi hi (Scalar.addi lo (Scalar.muli (Scalar.addi 0#32 (Scalar.muli (Scf.iv 0#32 1#32 b) 1#32)) 64#32))) 64#32)
      ((min (hi.toNat - lo.toNat - 64 * b) 64 : ℕ) : Int) := by
  have h' := h
  obtain ⟨h1, h2⟩ := h
  exact Affine.minsi (Affine.subi (isInt_of_toNat hi (by omega)) (batch_start lo hi h' b (by omega)) ⟨rfl, by omega, by omega⟩)
    (Affine.ofNat 64 ⟨rfl, by omega⟩) (by push_cast; omega)

/-- An inner loop's induction word. -/
theorem inner (j : ℕ) (hj : j ≤ 64) : IsInt (Scalar.addi 0#32 (Scalar.muli (Scf.iv 0#32 1#32 j) 1#32)) (j : Int) :=
  Affine.addi (ea := 0) (eb := j) (Affine.ofNat 0 ⟨rfl, by omega⟩)
    (Affine.muli (ea := j) (Affine.iv (Affine.ofNat 0 ⟨rfl, by omega⟩) (Affine.ofNat 1 ⟨rfl, by omega⟩) j ⟨by omega, by omega, by omega⟩)
      (Affine.ofNat 1 ⟨rfl, by omega⟩) ⟨by omega, by omega, by omega⟩) ⟨by omega, by omega, by omega⟩

/-- A count loop makes as many trips as its word says, and has a meaning. -/
theorem count_trips (x : BitVec 32) (n : ℕ) (hx : IsInt x (n : Int)) : Scf.trips 0#32 x 1#32 = n :=
  Affine.trips_eq (Affine.ofNat 0 ⟨rfl, by omega⟩) hx (Affine.ofNat 1 ⟨rfl, by omega⟩) n ⟨by omega, by omega⟩
theorem count_ok (x : BitVec 32) (n : ℕ) (hn : n < 2 ^ 30) (hx : IsInt x (n : Int)) : Scf.OK 0#32 x 1#32 :=
  Affine.ok (Affine.ofNat 0 ⟨rfl, by omega⟩) hx (Affine.ofNat 1 ⟨rfl, by omega⟩) ⟨by omega, by omega⟩

section Trips

variable (lo hi : BitVec 32) (h : Seg lo hi)

theorem t1_ub : (k1_t1_loop lo hi).ub = Scalar.divsi (Scalar.addi (Scalar.subi hi lo) 63#32) 64#32 := count_word _
include h in
/-- The outer loop makes one trip per batch. -/
theorem t1_trips : (k1_t1_loop lo hi).trips = (hi.toNat - lo.toNat + 63) / 64 := by
  show Scf.trips 0#32 (k1_t1_loop lo hi).ub 1#32 = _
  rw [t1_ub]; exact count_trips _ _ (batches lo hi h)
include h in
theorem t1_okay : (k1_t1_loop lo hi).OK := by
  show Scf.OK 0#32 (k1_t1_loop lo hi).ub 1#32
  rw [t1_ub]; exact count_ok _ _ (by have := h.2; omega) (batches lo hi h)

/-- The tokens of batch `b`. -/
abbrev cnt (lo hi : BitVec 32) (b : ℕ) : ℕ := min (hi.toNat - lo.toNat - 64 * b) 64

variable (b : Fin (k1_t1_loop lo hi).trips)

include h in
theorem batch_lt : lo.toNat + 64 * b.val < hi.toNat := by
  have hb : b.val < (hi.toNat - lo.toNat + 63) / 64 := lt_of_lt_of_eq b.isLt (t1_trips lo hi h)
  generalize b.val = n at hb ⊢
  omega
include h in
theorem t2_trips : (k1_t2_loop lo hi b).trips = cnt lo hi b := by
  have hc := batch_count lo hi h b (by have := batch_lt lo hi h b; omega)
  have e : (k1_t2_loop lo hi b).ub = _ := count_word _
  show Scf.trips 0#32 (k1_t2_loop lo hi b).ub 1#32 = _
  rw [e]; exact count_trips _ _ hc
include h in
theorem t2_okay : (k1_t2_loop lo hi b).OK := by
  have hc := batch_count lo hi h b (by have := batch_lt lo hi h b; omega)
  have e : (k1_t2_loop lo hi b).ub = _ := count_word _
  show Scf.OK 0#32 (k1_t2_loop lo hi b).ub 1#32
  rw [e]; exact count_ok _ _ (by omega) hc
include h in
theorem t4_trips : (k1_t4_loop lo hi b).trips = cnt lo hi b := t2_trips lo hi h b
include h in
theorem t6_trips : (k1_t6_loop lo hi b).trips = cnt lo hi b := t2_trips lo hi h b

/-- The issue loop's trip `j` reads the order table at position `lo + 64 b + j`; -/
theorem off3_eq (h : Seg lo hi) (j : Fin (k1_t2_loop lo hi b).trips) : k1_off3 lo hi b j = ![lo.toNat + 64 * b.val + j.val] := by
  have hj : j.val < min (hi.toNat - lo.toNat - 64 * b.val) 64 := lt_of_lt_of_eq j.isLt (t2_trips lo hi h b)
  have hb := batch_lt lo hi h b; have h2 := h.2
  exact Affine.vec_cons (Affine.addi (batch_start lo hi h b (by omega)) (inner j (by omega)) ⟨rfl, by omega, by omega⟩) (by push_cast; omega) rfl
/-- and fills row `j` of the row buffer; -/
theorem off4_eq (h : Seg lo hi) (j : Fin (k1_t2_loop lo hi b).trips) : k1_off4 lo hi b j = ![j.val, 0] := by
  have hj : j.val < min (hi.toNat - lo.toNat - 64 * b.val) 64 := lt_of_lt_of_eq j.isLt (t2_trips lo hi h b)
  exact Affine.vec_cons (inner j (by omega)) rfl rfl
/-- the waiting loop's trip `j` names row `j`; -/
theorem off9_eq (h : Seg lo hi) (j : Fin (k1_t4_loop lo hi b).trips) : k1_off9 lo hi b j = ![j.val, 0] := off4_eq lo hi b h j
/-- the accumulating loop's trip `j` reads the tables at position `lo + 64 b + j` -/
theorem off11_eq (h : Seg lo hi) (j : Fin (k1_t6_loop lo hi b).trips) : k1_off11 lo hi b j = ![lo.toNat + 64 * b.val + j.val] := off3_eq lo hi b h j
theorem off14_eq (h : Seg lo hi) (j : Fin (k1_t6_loop lo hi b).trips) : k1_off14 lo hi b j = ![lo.toNat + 64 * b.val + j.val] := off3_eq lo hi b h j
/-- and row `j` of the row buffer. -/
theorem off12_eq (h : Seg lo hi) (j : Fin (k1_t6_loop lo hi b).trips) : k1_off12 lo hi b j = ![j.val, 0] := off4_eq lo hi b h j

end Trips

/-- Every loop that jax adds for a remainder makes no trip. -/
theorem t3_none (lo hi : BitVec 32) (b) (j : Fin (k1_t3_loop lo hi b).trips) : False := Scf.rem_no_trip _ _ j
theorem t5_none (lo hi : BitVec 32) (b) (j : Fin (k1_t5_loop lo hi b).trips) : False := Scf.rem_no_trip _ _ j
theorem t7_none (lo hi : BitVec 32) (b) (j : Fin (k1_t7_loop lo hi b).trips) : False := Scf.rem_no_trip _ _ j
theorem t8_none (lo hi : BitVec 32) (j : Fin (k1_t8_loop lo hi).trips) : False := Scf.rem_no_trip _ _ j

/-- One position is in bounds of a table; one row is in bounds of the row buffer. -/
theorem inb_pos {f : Fin 1 → ℕ} {p : ℕ} (e : f = ![p]) (hp : p < 6144) : ∀ a, f a + S1.size a ≤ S6144.size a := by
  subst e; intro a; fin_cases a; show p + 1 ≤ 6144; omega
theorem inb_row {f : Fin 2 → ℕ} {p : ℕ} (e : f = ![p, 0]) (hp : p < 64) : ∀ a, f a + S1x4096.size a ≤ S64x4096.size a := by
  subst e; intro a; fin_cases a
  · show p + 1 ≤ 64; omega
  · show 0 + 4096 ≤ 4096; omega

/-- The side condition the body assumes of the segment's two end words holds. -/
theorem chk1_of (i : grid1.Coords) (lo hi : BitVec 32) (h : Seg lo hi) : k1_chk1 i lo hi := by
  have h2 := h.2
  have hpos : ∀ (b : Fin (k1_t1_loop lo hi).trips) (j : Fin (k1_t2_loop lo hi b).trips), lo.toNat + 64 * b.val + j.val < 6144 ∧ j.val < 64 := fun b j => by
    have hj : j.val < min (hi.toNat - lo.toNat - 64 * b.val) 64 := lt_of_lt_of_eq j.isLt (t2_trips lo hi h b)
    have hb := batch_lt lo hi h b
    generalize b.val = n at hj hb ⊢; generalize j.val = m at hj ⊢; omega
  refine ⟨⟨fun _ => t1_okay lo hi h, fun b _ => t2_okay lo hi h b, fun b j _ => inb_pos (off3_eq lo hi b h j) (hpos b j).1,
    fun b j _ => inb_row (off4_eq lo hi b h j) (hpos b j).2, fun b _ => Scf.rem_ok _ _, fun b j _ => (t3_none lo hi b j).elim, fun b j _ => (t3_none lo hi b j).elim,
    fun b _ => t2_okay lo hi h b, fun b j _ => inb_row (off9_eq lo hi b h j) (hpos b j).2, fun b _ => Scf.rem_ok _ _, fun b j _ => (t5_none lo hi b j).elim,
    fun b _ => t2_okay lo hi h b, fun b j _ => inb_pos (off11_eq lo hi b h j) (hpos b j).1, fun b j _ => inb_row (off12_eq lo hi b h j) (hpos b j).2,
    fun b j _ => inb_pos (off14_eq lo hi b h j) (hpos b j).1, fun b _ => Scf.rem_ok _ _, fun b j _ => (t7_none lo hi b j).elim, fun b j _ => (t7_none lo hi b j).elim,
    fun b j _ => (t7_none lo hi b j).elim, fun _ => Scf.rem_ok _ _, ?_⟩, ?_⟩
  · repeat' apply And.intro
    all_goals exact fun b => (t8_none lo hi b).elim
  · unfold k1_chk1_1
    repeat' apply And.intro
    all_goals exact fun b => (t8_none lo hi b).elim

/-- A word of the order table below 6144 names a row of packed words. -/
theorem off5_eq (x : BitVec 32) : k1_off5 x = ![x.toNat / 4, 0] := by
  have : (Scalar.shrui x 2#32).toNat = x.toNat / 4 := by
    simp [Scalar.shrui, IntOp.shrui, Nat.shiftRight_eq_div_pow]
  unfold k1_off5; simp only [this]
theorem chk2_of (i : grid1.Coords) (x : BitVec 32) (h : x.toNat < 6144) : k1_chk2 i x := by
  intro _; rw [off5_eq]; intro a; fin_cases a
  · show x.toNat / 4 + 1 ≤ 1536; omega
  · show 0 + 4096 ≤ 4096; omega

/-- A sorted id inside the block's 640 names a row of the block. -/
theorem off13_eq (i : grid1.Coords) (x : BitVec 32) (r : ℕ) (hr : r < 640) (h : x.toNat = 640 * (i 0).val + r) : k1_off13 i x = ![r, 0] := by
  have hi : (i 0).val < 50 := (i 0).isLt
  refine Affine.vec_cons (Affine.subi (ea := 640 * (i 0).val + r) (eb := (i 0).val * 640) ?_ ?_ ⟨rfl, by omega, by omega⟩) (by push_cast; omega) rfl
  · have := isInt_of_toNat x (by omega); rw [h] at this; exact_mod_cast this
  · exact Affine.muli (Affine.ofNat (i 0).val ⟨rfl, by omega⟩) (Affine.ofNat 640 ⟨rfl, by omega⟩) ⟨rfl, by omega, by omega⟩
theorem chk4_of (i : grid1.Coords) (x : BitVec 32) (r : ℕ) (hr : r < 640) (h : x.toNat = 640 * (i 0).val + r) : k1_chk4 i x := by
  intro _; rw [off13_eq i x r hr h]; intro a; fin_cases a
  · show r + 1 ≤ 640; omega
  · show 0 + 4096 ≤ 4096; omega

/-- The block number and its successor index the segment table. -/
theorem off1_eq (i : grid1.Coords) : k1_off1 i = ![(i 0).val] := by
  have hi : (i 0).val < 50 := (i 0).isLt
  exact Affine.vec_cons (Affine.ofNat (i 0).val ⟨rfl, by omega⟩) rfl rfl
theorem off2_eq (i : grid1.Coords) : k1_off2 i = ![(i 0).val + 1] := by
  have hi : (i 0).val < 50 := (i 0).isLt
  exact Affine.vec_cons (Affine.addi (Affine.ofNat (i 0).val ⟨rfl, by omega⟩) (Affine.ofNat 1 ⟨rfl, by omega⟩) ⟨rfl, by omega, by omega⟩) (by push_cast; omega) rfl

end Cert.Kernel.Hand

end
-- ==== Proof.K.Acc.lean ====
/-
  What the second call's token loop computes: one token's step on the output block, the run of steps over a segment, and the loop that
  accumulates one batch's tokens.
-/
module

public import proofs.«01_k».proof.Proof.K.Words
public import Idealize.ShloMosaic.Lib.Pipeline.Routed
public import Idealize.ShloMosaic.Lib.WritesUnit
public import Idealize.ShloMosaic.Lib.WholeRead
public import Idealize.ShloMosaic.Lib.Batch
public import Idealize.ShloMosaic.Lib.Ring

@[expose] public section

set_option maxRecDepth 8192

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-! ## The values -/

/-- A position of a table of 6144 words. -/
def pos (p : ℕ) : S6144.Idx := fun | 0 => ⟨p % 6144, Nat.mod_lt _ (by decide)⟩
/-- A row and column of the packed words. -/
def wordAt (r : ℕ) (x : Fin 4096) : S1536x4096.Idx := fun | 0 => ⟨r % 1536, Nat.mod_lt _ (by decide)⟩ | 1 => x
/-- A column of a row. -/
def col (x : Fin 4096) : S1x4096.Idx := fun | 0 => ⟨0, by decide⟩ | 1 => x
/-- A row and column of the output block. -/
def at640 (r : Fin 640) (x : Fin 4096) : S640x4096.Idx := fun | 0 => r | 1 => x

/-- The row of packed words that holds token `w`'s codes. -/
def packed (e32 : S1536x4096.Idx → BitVec 32) (w : BitVec 32) : S1x4096.Idx → BitVec 32 := fun x => e32 (wordAt (w.toNat / 4) (x 1))

/-- A row of the output block with one token's decoded and scaled row added. -/
def added (w : BitVec 32) (row : S1x4096.Idx → BitVec 32) (s : F .f32) (base : S1x4096.Idx → F .f32) : S1x4096.Idx → F .f32 :=
  Gen.k1_pay3 (Gen.k1_pay7 (F := F) base) (Gen.k1_pay9 (F := F) w row) (Gen.k1_pay10 (F := F) w row) (Gen.k1_pay11 (F := F)) s

/-- The output block after one token: its row has the token's row added. -/
def tokStep (r : ℕ) (w : BitVec 32) (row : S1x4096.Idx → BitVec 32) (s : F .f32) (X : S640x4096.Idx → F .f32) : S640x4096.Idx → F .f32 :=
  fun y => if (y 0).val = r then added w row s (fun x => X (at640 (y 0) (x 1))) (col (y 1)) else X y

/-- The output block after the first `n` tokens of the segment that starts at position `lo`. -/
def accN (c : ℕ) (ord sid : S6144.Idx → BitVec 32) (es : S6144.Idx → F .f32) (e32 : S1536x4096.Idx → BitVec 32) (lo : ℕ) (X : S640x4096.Idx → F .f32) :
    ℕ → S640x4096.Idx → F .f32
  | 0 => X
  | n + 1 => tokStep ((sid (pos (lo + n))).toNat - 640 * c) (ord (pos (lo + n))) (packed e32 (ord (pos (lo + n)))) (es (pos (lo + n)))
      (accN c ord sid es e32 lo X n)

/-- What the tables hold over block `c`'s segment: token numbers, and ids inside the block. -/
structure Tab (c : ℕ) (ord sid : S6144.Idx → BitVec 32) (lo hi : BitVec 32) : Prop where
  seg : Seg lo hi
  ord_lt : ∀ p, (ord p).toNat < 6144
  sid_in : ∀ p, lo.toNat ≤ p → p < hi.toNat → ∃ r < 640, (sid (pos p)).toNat = 640 * c + r

/-! ## The accumulating loop -/

section Acc

variable (cc : Dev nD) (i : grid1.Coords)
variable (arg5 : Memref sig .tc .vmem S1024x640 .fp8e5m2) (harg5 : arg5.IsWhole) (arg6 : Memref sig .tc .vmem S1x1024x1 .f32) (harg6 : arg6.IsWhole)
  (arg7 : Memref sig .tc .vmem S1024x4096 .bf16) (harg7 : arg7.IsWhole) (arg9 : Memref sig .tc .smem S6144 .f32) (harg9 : arg9.IsWhole)
  (arg10 : Memref sig .tc .vmem S640x4096 .f32) (harg10 : arg10.IsWhole) (arg0 : BitVec 32)
variable (ord sid : S6144.Idx → BitVec 32) (es : S6144.Idx → F .f32) (e32 : S1536x4096.Idx → BitVec 32) (lo hi : BitVec 32)

abbrev ordM : Memref sig .tc .smem S6144 .i32 := Memref.whole main_v4
abbrev sidM : Memref sig .tc .smem S6144 .i32 := Memref.whole main_v11
abbrev offM : Memref sig .tc .smem S51 .i32 := Memref.whole main_v15
abbrev e32M : Memref sig .tc .hbm S1536x4096 .i32 := Memref.whole main_v30
abbrev scrM : Memref sig .tc .vmem S64x4096 .i32 := Memref.whole cc1_scratch0

/-- The row buffer holds, in its first `n` rows, the packed rows of the `n` tokens from position `p₀` on. -/
def Rows (g : S64x4096.Idx → BitVec 32) (p₀ n : ℕ) : Prop :=
  ∀ y : S64x4096.Idx, (y 0).val < n → g y = packed e32 (ord (pos (p₀ + (y 0).val))) (col (y 1))

variable {κ : Kind} {sp : Space} {Val : EltTy → Type} {e : EltTy}

/-- One word of a table, loaded; -/
theorem readAt_pos (v : View sig κ sp S6144 e) (f : v.ty.Contents Val) {o : Fin 1 → ℕ} {p : ℕ} (eo : o = ![p]) (hp : p < 6144) (h) (h') :
    View.readAt Val v (Rect.unit (s := S6144) o S1.size h).toLoadRect f (Shape.Idx.first (s := S1) h') = v.read Val f (pos p) := by
  subst eo
  refine congrArg (v.read Val f) (funext fun a => Fin.ext ?_)
  fin_cases a
  show p + 1 * _ = p % 6144
  rw [Nat.mod_eq_of_lt hp]; rfl

/-- one row of the output block, loaded; -/
theorem readAt_row640 (v : View sig κ sp S640x4096 e) (f : v.ty.Contents Val) {o : Fin 2 → ℕ} {r : ℕ} (eo : o = ![r, 0]) (hr : r < 640) (h) (x : S1x4096.Idx) :
    View.readAt Val v (Rect.unit (s := S640x4096) o S1x4096.size h).toLoadRect f x = v.read Val f (at640 ⟨r, hr⟩ (x 1)) := by
  subst eo
  refine congrArg (v.read Val f) (funext fun a => Fin.ext ?_)
  fin_cases a
  · show r + 1 * (x 0).val = r
    have : (x 0).val < 1 := (x 0).isLt
    omega
  · show 0 + 1 * (x 1).val = (x 1).val
    omega

/-- A row and column of the row buffer. -/
def at64 (r : Fin 64) (x : Fin 4096) : S64x4096.Idx := fun | 0 => r | 1 => x

/-- one row of the row buffer, loaded. -/
theorem readAt_row64 (v : View sig κ sp S64x4096 e) (f : v.ty.Contents Val) {o : Fin 2 → ℕ} {r : ℕ} (eo : o = ![r, 0]) (hr : r < 64) (h) (x : S1x4096.Idx) :
    View.readAt Val v (Rect.unit (s := S64x4096) o S1x4096.size h).toLoadRect f x = v.read Val f (at64 ⟨r, hr⟩ (x 1)) := by
  subst eo
  refine congrArg (v.read Val f) (funext fun a => Fin.ext ?_)
  fin_cases a
  · show r + 1 * (x 0).val = r
    have : (x 0).val < 1 := (x 0).isLt
    omega
  · show 0 + 1 * (x 1).val = (x 1).val
    omega

omit [FloatOps F] in
theorem Rows.row {ord : S6144.Idx → BitVec 32} {e32 : S1536x4096.Idx → BitVec 32} {g : S64x4096.Idx → BitVec 32} {p₀ n : ℕ} (h : Rows ord e32 g p₀ n)
    (q : ℕ) (hq : q < 64) (hn : q < n) (x : Fin 4096) : g (at64 ⟨q, hq⟩ x) = e32 (wordAt ((ord (pos (p₀ + q))).toNat / 4) x) :=
  h (at64 ⟨q, hq⟩ x) hn

/-- Before trip `j` of the accumulating loop of batch `b`. -/
def accAt (g : S64x4096.Idx → BitVec 32) (X : S640x4096.Idx → F .f32) (b : ℕ) (j : ℕ) (_ : Unit) : sProp 𝕄 :=
  iprop((ordM.view.loc (cc : Thread nD τ) ↦{fullShare} ord) ∗ (sidM.view.loc (cc : Thread nD τ) ↦{fullShare} sid)
    ∗ (arg9.view.loc (cc : Thread nD τ) ↦{fullShare} harg9.unread es) ∗ (scrM.view.loc (cc : Thread nD τ) ↦{fullShare} g)
    ∗ ∃ f, (arg10.view.loc (cc : Thread nD τ) ↦{fullShare} f)
      ∗ ⌜arg10.view.read (Elt F) f = accN (i 0).val ord sid es e32 lo.toNat X (64 * b + j)⌝)

theorem acc_step [∀ e, Nonempty (Elt F e)] (k1_h2 : k1_cond2 i = 1#1) (hw : k1_chk1 i lo hi) (T : Tab (i 0).val ord sid lo hi)
    (b : Fin (k1_t1_loop lo hi).trips) (g : S64x4096.Idx → BitVec 32) (hg : Rows ord e32 g (lo.toNat + 64 * b.val) (cnt lo hi b))
    (X : S640x4096.Idx → F .f32) (v41 : BitVec 32) (w1 : BitVec 32) (j : Fin (k1_t6_loop lo hi b).trips) (a : Unit) :
    accAt cc i arg9 harg9 arg10 ord sid es e32 lo g X b j a
      ⊢ wp frame (wpE (defs₀ (F := F)) Variants.none (cc : Thread nD τ) none) Set.univ
        (Gen.k1_t6_body i ordM (Memref.isWhole_whole _) sidM (Memref.isWhole_whole _) offM (Memref.isWhole_whole _) arg5 harg5 arg6 harg6 arg7 harg7
          e32M (Memref.isWhole_whole _) arg9 harg9 arg10 harg10 scrM (Memref.isWhole_whole _) cc1_scratch1 arg0 k1_h2 lo hi hw b v41 w1 j a)
        (accAt cc i arg9 harg9 arg10 ord sid es e32 lo g X b (j.val + 1)) := by
  unfold accAt
  iintro ⟨Hord, Hsid, Hes, Hscr, ⟨%f, Hout, %hf⟩⟩
  unfold Gen.k1_t6_body
  sl_exec
  have hj : j.val < min (hi.toNat - lo.toNat - 64 * b.val) 64 := lt_of_lt_of_eq j.isLt (t6_trips lo hi T.seg b)
  have hb : lo.toNat + 64 * b.val < hi.toNat := batch_lt lo hi T.seg b
  have hseg := T.seg.2
  have hp : lo.toNat + 64 * b.val + j.val < 6144 := by
    clear * - hj hb hseg
    generalize b.val = m at hj hb ⊢; generalize j.val = n at hj ⊢; omega
  have hj64 : j.val < 64 := lt_of_lt_of_le hj (min_le_right _ _)
  have e0 : acc_step.sl.r (F := F) i ord lo hi k1_h2 hw b j = ord (pos (lo.toNat + 64 * b.val + j.val)) :=
    readAt_pos (Val := Elt F) ordM.view ord (off11_eq lo hi b T.seg j) hp _ _
  have e1 : acc_step.sl.r_1 (F := F) i sid lo hi k1_h2 hw b j = sid (pos (lo.toNat + 64 * b.val + j.val)) :=
    readAt_pos (Val := Elt F) sidM.view sid (off11_eq lo hi b T.seg j) hp _ _
  obtain ⟨r, hr, hsid⟩ := T.sid_in (lo.toNat + 64 * b.val + j.val) (by omega) (by
    clear * - hj hb
    generalize b.val = m at hj hb ⊢; generalize j.val = n at hj ⊢; omega)
  have h4 : k1_chk4 i (acc_step.sl.r_1 (F := F) i sid lo hi k1_h2 hw b j) := by rw [e1]; exact chk4_of i _ r hr hsid
  have eo : k1_off13 i (acc_step.sl.r_1 (F := F) i sid lo hi k1_h2 hw b j) = ![r, 0] := by rw [e1]; exact off13_eq i _ r hr hsid
  iapply (wp_assume _ _ _ _ h4)
  sl_exec
  have e2 : acc_step.sl.r_2 (F := F) cc i arg10 sid lo hi k1_h2 hw b j f h4 = Gen.k1_pay7 (fun x => arg10.view.read (Elt F) f (at640 ⟨r, hr⟩ (x 1))) :=
    congrArg Gen.k1_pay7 (funext fun x => readAt_row640 (Val := Elt F) arg10.view f eo hr _ x)
  have hrow : View.readAt (Elt F) scrM.view (Rect.unit (s := S64x4096) (k1_off12 lo hi b j) S1x4096.size (k1_off12_inb i lo hi hw b j k1_h2)).toLoadRect g
      = packed e32 (ord (pos (lo.toNat + 64 * b.val + j.val))) := funext fun x => by
    rw [readAt_row64 (Val := Elt F) scrM.view g (off12_eq lo hi b T.seg j) hj64 _ x]
    exact Rows.row hg _ hj64 hj (x 1)
  have e3 : acc_step.sl.r_3 (F := F) i ord lo hi k1_h2 hw b g j = Gen.k1_pay9 (F := F) (ord (pos (lo.toNat + 64 * b.val + j.val))) (packed e32 (ord (pos (lo.toNat + 64 * b.val + j.val)))) := by
    unfold acc_step.sl.r_3; rw [e0, hrow]
  have e4 : acc_step.sl.r_4 (F := F) i ord lo hi k1_h2 hw b g j = Gen.k1_pay10 (F := F) (ord (pos (lo.toNat + 64 * b.val + j.val))) (packed e32 (ord (pos (lo.toNat + 64 * b.val + j.val)))) := by
    unfold acc_step.sl.r_4; rw [e0, hrow]
  have e5 : acc_step.sl.r_5 (F := F) i arg9 harg9 es lo hi k1_h2 hw b j = es (pos (lo.toNat + 64 * b.val + j.val)) :=
    (readAt_pos (Val := Elt F) arg9.view (harg9.unread es) (off14_eq lo hi b T.seg j) hp _ _).trans (congrFun (harg9.read_unread (Val := Elt F) es) (pos (lo.toNat + 64 * b.val + j.val)))
  sl_step
  isplitl [Hord]; · iexact Hord
  isplitl [Hsid]; · iexact Hsid
  isplitl [Hes]; · iexact Hes
  isplitl [Hscr]; · iexact Hscr
  iexists _
  isplitl [Hout]; · iexact Hout
  ipureintro
  funext y
  rw [View.read_writes_cons_unit (heq := eo)]
  show _ = accN (i 0).val ord sid es e32 lo.toNat X (64 * b.val + j.val + 1) y
  have ep : lo.toNat + (64 * b.val + j.val) = lo.toNat + 64 * b.val + j.val := by omega
  simp only [accN, tokStep, ep]
  have er : (sid (pos (lo.toNat + 64 * b.val + j.val))).toNat - 640 * (i 0).val = r := by omega
  rw [er]
  by_cases hy : (y 0).val = r
  · rw [if_pos hy, dif_pos (fun a => by
      fin_cases a
      · show r ≤ (y 0).val ∧ (y 0).val < r + 1; omega
      · show 0 ≤ (y 1).val ∧ (y 1).val < 0 + 4096; have : (y 1).val < 4096 := (y 1).isLt; omega)]
    rw [e2, e3, e4, e5, hf]
    have hy0 : (⟨r, hr⟩ : Fin 640) = y 0 := Fin.ext hy.symm
    rw [hy0]
    refine congrArg (added _ _ _ _) (funext fun a => ?_)
    fin_cases a
    · exact Fin.ext (show (y 0).val - r = 0 by omega)
    · exact Fin.ext (show (y 1).val - 0 = (y 1).val by omega)
  · rw [if_neg hy, dif_neg (fun h => hy (by have h0 : r ≤ (y 0).val ∧ (y 0).val < r + 1 := h 0; omega))]
    exact congrFun hf y

end Acc

end Cert.Kernel.Hand

end

end
-- ==== Proof.K.Dma.lean ====
/-
  One batch of row transfers of the second call: the loop that starts them, the loop that waits for them, and what the row buffer holds after.
-/
module

public import proofs.«01_k».proof.Proof.K.Acc

@[expose] public section

set_option maxRecDepth 8192

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

section Dma

variable (cc : Dev nD) (i : grid1.Coords)
variable (arg5 : Memref sig .tc .vmem S1024x640 .fp8e5m2) (harg5 : arg5.IsWhole) (arg6 : Memref sig .tc .vmem S1x1024x1 .f32) (harg6 : arg6.IsWhole)
  (arg7 : Memref sig .tc .vmem S1024x4096 .bf16) (harg7 : arg7.IsWhole) (arg9 : Memref sig .tc .smem S6144 .f32) (harg9 : arg9.IsWhole)
  (arg10 : Memref sig .tc .vmem S640x4096 .f32) (harg10 : arg10.IsWhole) (arg0 : BitVec 32)
variable (ord sid : S6144.Idx → BitVec 32) (e32 : S1536x4096.Idx → BitVec 32) (lo hi : BitVec 32)

/-- Row `r` of the row buffer, and row `r` of the packed words, as memrefs. -/
def scrRow (r : ℕ) (hr : r < 64) : Memref sig .tc .vmem S1x4096 .i32 :=
  scrM.slice (Rect.unit (s := S64x4096) ![r, 0] S1x4096.size (inb_row rfl hr)) (fun _ => rfl)
theorem inb_packed {f : Fin 2 → ℕ} {p : ℕ} (e : f = ![p, 0]) (hp : p < 1536) : ∀ a, f a + S1x4096.size a ≤ S1536x4096.size a := by
  subst e; intro a; fin_cases a
  · show p + 1 ≤ 1536; omega
  · show 0 + 4096 ≤ 4096; omega
/-- Their elements. -/
def scrSet (r : ℕ) (hr : r < 64) : Finset S64x4096.Idx := (Rect.unit (s := S64x4096) ![r, 0] S1x4096.size (inb_row rfl hr)).set
def e32Set (r : ℕ) (hr : r < 1536) : Finset S1536x4096.Idx := (Rect.unit (s := S1536x4096) ![r, 0] S1x4096.size (inb_packed rfl hr)).set

theorem mem_scrSet (r : ℕ) (hr : r < 64) (y : S64x4096.Idx) : y ∈ scrSet r hr ↔ (y 0).val = r := by
  unfold scrSet
  rw [Rect.mem_set_unit]
  have h1 : (y 1).val < 4096 := (y 1).isLt
  constructor
  · intro H; have a0 : r ≤ (y 0).val ∧ (y 0).val < r + 1 := H 0; omega
  · intro H a; fin_cases a
    · show r ≤ (y 0).val ∧ (y 0).val < r + 1; omega
    · show 0 ≤ (y 1).val ∧ (y 1).val < 0 + 4096; omega

/-- The amount that one row credits the semaphore. -/
def NN : ℕ := (scrRow 0 (by decide)).view.dmaCredit

variable (hord : ∀ p, (ord p).toNat < 6144) (p₀ : ℕ)

/-- What the row buffer holds when every row of the batch has arrived. -/
def arrived : S64x4096.Idx → BitVec 32 := fun y => packed e32 (ord (pos (p₀ + (y 0).val))) (col (y 1))

/-- The elements of the packed words that transfer `t` reads. -/
def srcSet (t : ℕ) : Finset S1536x4096.Idx := e32Set ((ord (pos (p₀ + t))).toNat / 4) (by have := hord (pos (p₀ + t)); omega)

variable (n : ℕ) (hn : n ≤ 64)

abbrev scrPts (I : Finset S64x4096.Idx) (g : S64x4096.Idx → BitVec 32) : sProp 𝕄 := scrM.view.loc (cc : Thread nD τ) ↦[I]{fullShare} g
abbrev e32Pts (I : Finset S1536x4096.Idx) (q : PosShare TreeShare) : sProp 𝕄 := e32M.view.loc (cc : Thread nD τ) ↦[I]{q} e32

/-- Transfer `t` delivers row `t` of the row buffer and the share of the packed row that it read. -/
def deliv (t : Fin n) : sProp 𝕄 :=
  iprop(scrPts (F := F) cc (scrSet t.val (t.isLt.trans_le hn)) (arrived ord e32 p₀) ∗ e32Pts (F := F) cc e32 (srcSet ord hord p₀ t.val) (Transfers.shareTokN fullShare t.val))
instance (t : Fin n) : BI.Storable (upEmb : UEmb _ 𝕄) (deliv (F := F) cc ord e32 hord p₀ n hn t) := by unfold deliv; infer_instance

/-- What transfer `t` takes: row `t` of the row buffer and a share of the packed words. -/
def before (g : S64x4096.Idx → BitVec 32) (t : Fin n) : sProp 𝕄 :=
  iprop(scrPts (F := F) cc (scrSet t.val (t.isLt.trans_le hn)) g ∗ e32Pts (F := F) cc e32 Finset.univ (Transfers.shareTokN fullShare t.val))
/-- What stays while transfer `t` is in flight: its share of the rows that it does not read. -/
def stays (t : Fin n) : sProp 𝕄 := e32Pts (F := F) cc e32 (Finset.univ \ srcSet ord hord p₀ t.val) (Transfers.shareTokN fullShare t.val)

abbrev batchAt (j u : ℕ) : sProp 𝕄 :=
  Transfers.Batch (countersEmb (U := Pipeline.UC sig nD τ)) (cc : Thread nD τ) (.dma cc1_scratch1.sem) () NN (deliv (F := F) cc ord e32 hord p₀ n hn) j u

/-- Before trip `j` of the loop that starts the transfers. -/
def issueAt (g : S64x4096.Idx → BitVec 32) (j : ℕ) (_ : Unit) : sProp 𝕄 :=
  iprop((ordM.view.loc (cc : Thread nD τ) ↦{fullShare} ord) ∗ batchAt (F := F) cc ord e32 hord p₀ n hn j 0
    ∗ bigSep (Ring.rangeSet n j n) (before (F := F) cc e32 n hn g) ∗ bigSep (Ring.rangeSet n 0 j) (stays (F := F) cc ord e32 hord p₀ n))

end Dma

section Issue

variable (cc : Dev nD) (i : grid1.Coords)
variable (arg5 : Memref sig .tc .vmem S1024x640 .fp8e5m2) (harg5 : arg5.IsWhole) (arg6 : Memref sig .tc .vmem S1x1024x1 .f32) (harg6 : arg6.IsWhole)
  (arg7 : Memref sig .tc .vmem S1024x4096 .bf16) (harg7 : arg7.IsWhole) (arg9 : Memref sig .tc .smem S6144 .f32) (harg9 : arg9.IsWhole)
  (arg10 : Memref sig .tc .vmem S640x4096 .f32) (harg10 : arg10.IsWhole) (arg0 : BitVec 32)
variable (ord sid : S6144.Idx → BitVec 32) (e32 : S1536x4096.Idx → BitVec 32) (lo hi : BitVec 32)

theorem rangeSet_snoc {n : ℕ} (Φ : Fin n → sProp 𝕄) (j : ℕ) (hj : j < n) :
    bigSep (Ring.rangeSet n 0 (j + 1)) Φ = iprop(Φ ⟨j, hj⟩ ∗ bigSep (Ring.rangeSet n 0 j) Φ) :=
  Ring.bigSep_rangeSet_last (hi := j + 1) (Nat.succ_pos _) hj

theorem scr_slice_set {o : Fin 2 → ℕ} {r : ℕ} (eo : o = ![r, 0]) (hr : r < 64) (h) (hs) :
    (scrM.slice (Rect.unit (s := S64x4096) o S1x4096.size h) hs : Memref sig .tc .vmem S1x4096 .i32).view.set = scrSet r hr := by
  subst eo; exact View.set_slice_whole _ _
theorem e32_slice_set {o : Fin 2 → ℕ} {r : ℕ} (eo : o = ![r, 0]) (hr : r < 1536) (h) (hs) :
    (e32M.slice (Rect.unit (s := S1536x4096) o S1x4096.size h) hs : Memref sig .tc .hbm S1x4096 .i32).view.set = e32Set r hr := by
  subst eo; exact View.set_slice_whole _ _

/-- Copying packed row `p` onto row `r` of the buffer leaves word `x` of row `p` at position `x` of row `r`. -/
theorem landed {o o' : Fin 2 → ℕ} {r p : ℕ} (eo : o = ![r, 0]) (eo' : o' = ![p, 0]) (hr : r < 64) (hp : p < 1536) (h) (hs) (h') (hs')
    (g : S64x4096.Idx → BitVec 32) (y : S64x4096.Idx) (hy : (y 0).val = r) :
    (scrM.slice (Rect.unit (s := S64x4096) o S1x4096.size h) hs : Memref sig .tc .vmem S1x4096 .i32).view.write (Elt F) g
      (ReadAs.same.apply ((e32M.slice (Rect.unit (s := S1536x4096) o' S1x4096.size h') hs' : Memref sig .tc .hbm S1x4096 .i32).view.read (Elt F) e32)) Finset.univ y
      = e32 (wordAt p (y 1)) := by
  subst eo; subst eo'
  have ey : y = (scrM.slice (Rect.unit (s := S64x4096) ![r, 0] S1x4096.size h) hs : Memref sig .tc .vmem S1x4096 .i32).view.emb (col (y 1)) := by
    funext a; apply Fin.ext; fin_cases a
    · show (y 0).val = r + 1 * 0; omega
    · show (y 1).val = 0 + 1 * (y 1).val; omega
  conv_lhs => rw [ey]
  refine (View.write_emb_of_mem (Val := Elt F) _ _ (Finset.mem_univ _)).trans ?_
  show e32 _ = e32 _
  refine congrArg e32 (funext fun a => Fin.ext ?_)
  fin_cases a
  · show p + 1 * 0 = p % 1536; rw [Nat.mod_eq_of_lt hp]; rfl
  · show 0 + 1 * (y 1).val = (y 1).val; omega

theorem bind_ret {E : Type → Type} {α β : Type} (a : α) (k : α → Prog E β) : (Prog.ret a).bind k = k a := rfl

theorem NN_pos : 0 < NN := View.dmaCredit_pos _ (by decide)

variable (hord : ∀ p, (ord p).toNat < 6144) (p₀ n : ℕ) (hn : n ≤ 64) (hpn : p₀ + n ≤ 6144)

include hpn in
theorem issue_step [∀ e, Nonempty (Elt F e)] (k1_h2 : k1_cond2 i = 1#1) (hw : k1_chk1 i lo hi) (S : Seg lo hi)
    (b : Fin (k1_t1_loop lo hi).trips) (hp₀ : lo.toNat + 64 * b.val = p₀) (hnt : (k1_t2_loop lo hi b).trips = n)
    (g : S64x4096.Idx → BitVec 32) (w1 w2 w3 w4 : BitVec 32) (j : Fin (k1_t2_loop lo hi b).trips) (a : Unit) :
    issueAt (F := F) cc ord e32 hord p₀ n hn g j a
      ⊢ wp frame (wpE (defs₀ (F := F)) Variants.none (cc : Thread nD τ) none) Set.univ
        (Gen.k1_t2_body i ordM (Memref.isWhole_whole _) sidM (Memref.isWhole_whole _) offM (Memref.isWhole_whole _) arg5 harg5 arg6 harg6 arg7 harg7
          e32M (Memref.isWhole_whole _) arg9 harg9 arg10 harg10 scrM (Memref.isWhole_whole _) cc1_scratch1 k1_h2 lo hi hw w1 w2 w3 w4 b j a)
        (issueAt (F := F) cc ord e32 hord p₀ n hn g (j.val + 1)) := by
  have hj : j.val < n := lt_of_lt_of_eq j.isLt hnt
  have hp : p₀ + j.val < 6144 := by omega
  have hj64 : j.val < 64 := by omega
  have eo3 : k1_off3 lo hi b j = ![p₀ + j.val] := by rw [off3_eq lo hi b S j, hp₀]
  have eo4 : k1_off4 lo hi b j = ![j.val, 0] := off4_eq lo hi b S j
  unfold issueAt
  rw [Ring.bigSep_rangeSet_head (Φ := before (F := F) cc e32 n hn g) hj hj, rangeSet_snoc _ _ hj]
  iintro ⟨Hord, HB, ⟨Hnow, Hlater⟩, Hstay⟩
  unfold Gen.k1_t2_body
  sl_exec
  have e0 : issue_step.sl.r (F := F) i ord lo hi k1_h2 hw b j = ord (pos (p₀ + j.val)) :=
    readAt_pos (Val := Elt F) ordM.view ord eo3 hp _ _
  have h2 : k1_chk2 i (issue_step.sl.r (F := F) i ord lo hi k1_h2 hw b j) := by rw [e0]; exact chk2_of i _ (hord _)
  iapply (wp_assume _ _ _ _ h2)
  have hp4 : (ord (pos (p₀ + j.val))).toNat / 4 < 1536 := by have := hord (pos (p₀ + j.val)); omega
  have eo : k1_off5 (issue_step.sl.r (F := F) i ord lo hi k1_h2 hw b j) = ![(ord (pos (p₀ + j.val))).toNat / 4, 0] := by rw [e0]; exact off5_eq _
  unfold before
  icases Hnow with ⟨Hrow, Htok⟩
  ihave Htok := (pointsTo_split_subset (Finset.subset_univ (srcSet ord hord p₀ j.val))).1 $$ Htok
  icases Htok with ⟨Hsrc, Hleft⟩
  have es : ∀ h hs, (scrM.slice (Rect.unit (s := S64x4096) (k1_off4 lo hi b j) S1x4096.size h) hs : Memref sig .tc .vmem S1x4096 .i32).view.set
      = scrSet j.val hj64 := fun h hs => scr_slice_set eo4 hj64 h hs
  have ee : ∀ h hs, (e32M.slice (Rect.unit (s := S1536x4096) (k1_off5 (issue_step.sl.r (F := F) i ord lo hi k1_h2 hw b j)) S1x4096.size h) hs : Memref sig .tc .hbm S1x4096 .i32).view.set
      = srcSet ord hord p₀ j.val := fun h hs => e32_slice_set eo hp4 h hs
  iapply (Transfers.wp_dmaBatch (countersEmb (U := Pipeline.UC sig nD τ)) Variants.none (cc : Thread nD τ) none () NN rfl
    (Sd := scrSet j.val hj64) (fd := g) (fs := e32) (q := Transfers.shareTokN fullShare j.val) (le_of_eq (es _ _)) hj (Nat.zero_le _) (D := deliv (F := F) cc ord e32 hord p₀ n hn) (by
      unfold deliv
      refine BI.sep_mono (Entails.of_eq (pointsTo_congr fun y hy => ?_)) (Entails.of_eq (congrArg (fun I => (e32M.view.loc (cc : Thread nD τ) ↦[I]{Transfers.shareTokN fullShare j.val} e32 : sProp 𝕄)) (ee _ _)))
      have hy' : (y 0).val = j.val := (mem_scrSet _ hj64 y).mp hy
      refine (landed (F := F) e32 eo4 eo hj64 hp4 _ _ _ _ g y hy').trans ?_
      unfold arrived packed
      rw [hy']; rfl)) $$ [Hsrc Hrow HB]
  · isplitl [Hsrc]
    · iapply (Entails.of_eq (congrArg (fun I => (e32M.view.loc (cc : Thread nD τ) ↦[I]{Transfers.shareTokN fullShare j.val} e32 : sProp 𝕄)) (ee _ _).symm)) $$ Hsrc
    isplitl [Hrow]; · iexact Hrow
    iexact HB
  iintro HB
  rw [bind_ret]
  sl_step
  isplitl [Hord]; · iexact Hord
  isplitl [HB]; · iexact HB
  isplitl [Hlater]; · iexact Hlater
  isplitl [Hleft]; · unfold stays; iexact Hleft
  iexact Hstay

/-- Before trip `j` of the loop that waits: the units so far taken off the batch, or, after the last one, the semaphore at zero and every row. -/
def drainAt (j : ℕ) (_ : Unit) : sProp 𝕄 :=
  iprop(⌜j ≤ n⌝ ∗ (∃ W, owes (cc : Thread nD τ) 0 W)
    ∗ (if j < n then batchAt (F := F) cc ord e32 hord p₀ n hn n (j * NN)
       else iprop(semVal ((cc : Thread nD τ), SemLoc.dma cc1_scratch1.sem) 0 ∗ bigSep Finset.univ (deliv (F := F) cc ord e32 hord p₀ n hn))))

theorem drain_step [∀ e, Nonempty (Elt F e)] (k1_h2 : k1_cond2 i = 1#1) (hw : k1_chk1 i lo hi)
    (b : Fin (k1_t1_loop lo hi).trips) (hnt : (k1_t4_loop lo hi b).trips = n)
    (w1 w2 w3 w4 : BitVec 32) (j : Fin (k1_t4_loop lo hi b).trips) (a : Unit) :
    drainAt (F := F) cc ord e32 hord p₀ n hn j a
      ⊢ wp frame (wpE (defs₀ (F := F)) Variants.none (cc : Thread nD τ) none) Set.univ
        (Gen.k1_t4_body i ordM (Memref.isWhole_whole _) sidM (Memref.isWhole_whole _) offM (Memref.isWhole_whole _) arg5 harg5 arg6 harg6 arg7 harg7
          e32M (Memref.isWhole_whole _) arg9 harg9 arg10 harg10 scrM (Memref.isWhole_whole _) cc1_scratch1 k1_h2 lo hi hw w1 w2 w3 w4 b j a)
        (drainAt (F := F) cc ord e32 hord p₀ n hn (j.val + 1)) := by
  have hj : j.val < n := lt_of_lt_of_eq j.isLt hnt
  unfold drainAt
  simp only [if_pos hj]
  have hs : (j.val + 1) * NN = j.val * NN + NN := Nat.succ_mul _ _
  rcases Nat.lt_or_ge (j.val + 1) n with h1 | h1
  · simp only [if_pos h1]
    iintro ⟨-, ⟨%W, HO⟩, HB⟩
    unfold Gen.k1_t4_body
    iapply (Transfers.wp_waitBatch (countersEmb (U := Pipeline.UC sig nD τ)) Variants.none (cc : Thread nD τ) none () (N := NN) (by rfl) (u := j.val * NN)
      (by rw [← hs, Nat.mul_comm NN]; exact Nat.mul_lt_mul_of_pos_right h1 NN_pos)) $$ [HB HO]
    · isplitl [HB]; · iexact HB
      iexact HO
    iintro ⟨HB, HO⟩
    rw [bind_ret]
    sl_step
    isplitr; · ipureintro; omega
    isplitl [HO]; · iexists _; iexact HO
    rw [hs]
    iexact HB
  · simp only [if_neg (Nat.not_lt.mpr h1)]
    iintro ⟨-, ⟨%W, HO⟩, HB⟩
    unfold Gen.k1_t4_body
    iapply (Transfers.wp_waitBatchLast (countersEmb (U := Pipeline.UC sig nD τ)) Variants.none (cc : Thread nD τ) none () (N := NN) (by rfl) NN_pos (u := j.val * NN)
      (by rw [← hs, Nat.mul_comm NN, show j.val + 1 = n by omega])) $$ [HB HO]
    · isplitl [HB]; · iexact HB
      iexact HO
    iintro ⟨HD, HV, HO⟩
    rw [bind_ret]
    sl_step
    isplitr; · ipureintro; omega
    isplitl [HO]; · iexists _; iexact HO
    isplitl [HV]; · iexact HV
    iexact HD

/-- The rows of the buffer that the batch fills. -/
def filled : Finset S64x4096.Idx := (Finset.univ : Finset (Fin n)).biUnion fun t => scrSet t.val (t.isLt.trans_le hn)

theorem mem_filled (y : S64x4096.Idx) : y ∈ filled n hn ↔ (y 0).val < n := by
  unfold filled
  rw [Finset.mem_biUnion]
  constructor
  · rintro ⟨t, -, ht⟩; rw [mem_scrSet] at ht; omega
  · intro h; exact ⟨⟨(y 0).val, h⟩, Finset.mem_univ _, (mem_scrSet _ _ _).mpr rfl⟩

theorem filled_iff (y : S64x4096.Idx) : y ∈ filled n hn ↔ ∃ t : Fin n, y ∈ scrSet t.val (t.isLt.trans_le hn) := by
  unfold filled; rw [Finset.mem_biUnion]; simp

theorem scrSet_disjoint : ∀ t ∈ (Finset.univ : Finset (Fin n)), ∀ t' ∈ (Finset.univ : Finset (Fin n)), t ≠ t' →
    Disjoint (scrSet t.val (t.isLt.trans_le hn)) (scrSet t'.val (t'.isLt.trans_le hn)) := fun t _ t' _ hne => by
  rw [Finset.disjoint_left]; intro y hy hy'; rw [mem_scrSet] at hy hy'; exact hne (Fin.ext (by omega))

theorem toks_fin (I : Finset S1536x4096.Idx) :
    (bigSep (Finset.range n) fun t => e32Pts (F := F) cc e32 I (Transfers.shareTokN fullShare t) : sProp 𝕄)
      = bigSep Finset.univ (fun t : Fin n => e32Pts (F := F) cc e32 I (Transfers.shareTokN fullShare t.val)) := by
  rw [← Ring.rangeSet_univ]
  exact (Ring.bigSep_rangeSet_eq_range (NB := n) (lo := 0) (hi := n) (Φ := fun t : Fin n => e32Pts (F := F) cc e32 I (Transfers.shareTokN fullShare t.val)) le_rfl
    (fun t => e32Pts (F := F) cc e32 I (Transfers.shareTokN fullShare t)) (fun k hk => by
      show e32Pts (F := F) cc e32 I (Transfers.shareTokN fullShare k) = e32Pts (F := F) cc e32 I (Transfers.shareTokN fullShare (0 + k)); rw [Nat.zero_add])).symm

/-- A region cut into pairwise disjoint parts. -/
theorem parts {ℓ : Loc nD τ sig} {m : ℕ} (U : Finset (Idx ℓ)) (K : Fin m → Finset (Idx ℓ)) (hU : ∀ y, y ∈ U ↔ ∃ t, y ∈ K t)
    (hK : ∀ t ∈ (Finset.univ : Finset (Fin m)), ∀ t' ∈ (Finset.univ : Finset (Fin m)), t ≠ t' → Disjoint (K t) (K t')) (q : PosShare TreeShare) (f : Buf (Elt F) ℓ) :
    (ℓ ↦[U]{q} f : sProp 𝕄) = bigSep Finset.univ fun t => ℓ ↦[K t]{q} f := by
  rw [← pointsTo_biUnion Finset.univ K hK]
  refine congrArg (fun I => (ℓ ↦[I]{q} f : sProp 𝕄)) (Finset.ext fun y => ?_)
  rw [hU, Finset.mem_biUnion]; simp

theorem filled_pts (g : S64x4096.Idx → BitVec 32) :
    scrPts (F := F) cc (filled n hn) g = bigSep Finset.univ (fun t : Fin n => scrPts (F := F) cc (scrSet t.val (t.isLt.trans_le hn)) g) :=
  parts (F := F) (ℓ := scrM.view.loc (cc : Thread nD τ)) (filled n hn) (fun t : Fin n => scrSet t.val (t.isLt.trans_le hn))
    (filled_iff n hn) (scrSet_disjoint n hn) fullShare g

theorem deliv_sep : bigSep Finset.univ (deliv (F := F) cc ord e32 hord p₀ n hn)
    = iprop(bigSep Finset.univ (fun t : Fin n => scrPts (F := F) cc (scrSet t.val (t.isLt.trans_le hn)) (arrived ord e32 p₀))
      ∗ bigSep Finset.univ (fun t : Fin n => e32Pts (F := F) cc e32 (srcSet ord hord p₀ t.val) (Transfers.shareTokN fullShare t.val))) := BI.bigSep_sep _ _ _
theorem before_sep (g : S64x4096.Idx → BitVec 32) : bigSep Finset.univ (before (F := F) cc e32 n hn g)
    = iprop(bigSep Finset.univ (fun t : Fin n => scrPts (F := F) cc (scrSet t.val (t.isLt.trans_le hn)) g)
      ∗ bigSep Finset.univ (fun t : Fin n => e32Pts (F := F) cc e32 Finset.univ (Transfers.shareTokN fullShare t.val))) := BI.bigSep_sep _ _ _

/-- The buffer and the packed words apart, as the transfers take them. -/
theorem rows_open (g : S64x4096.Idx → BitVec 32) :
    iprop(scrPts (F := F) cc Finset.univ g ∗ e32Pts (F := F) cc e32 Finset.univ fullShare)
      ⊢ iprop(bigSep (Ring.rangeSet n 0 n) (before (F := F) cc e32 n hn g) ∗ scrPts (F := F) cc (Finset.univ \ filled n hn) g
        ∗ e32Pts (F := F) cc e32 Finset.univ (Transfers.shareDrop fullShare n)) := by
  iintro ⟨Hscr, He⟩
  ihave Hscr := (pointsTo_split_subset (Finset.subset_univ (filled n hn))).1 $$ Hscr
  icases Hscr with ⟨Hin, Hout⟩
  ihave He := (Transfers.pointsTo_toks_range fullShare n).1 $$ He
  icases He with ⟨Hdrop, Htoks⟩
  isplitl [Hin Htoks]
  · ihave Htoks := (Entails.of_eq (toks_fin (F := F) cc e32 n Finset.univ)) $$ Htoks
    ihave Hin := (Entails.of_eq (filled_pts (F := F) cc n hn g)) $$ Hin
    rw [Ring.rangeSet_univ, before_sep]
    isplitl [Hin]; · iexact Hin
    iexact Htoks
  isplitl [Hout]; · iexact Hout
  iexact Hdrop

/-- And together again, the batch's rows in place. -/
theorem rows_close (g : S64x4096.Idx → BitVec 32) :
    iprop(bigSep Finset.univ (deliv (F := F) cc ord e32 hord p₀ n hn) ∗ bigSep (Ring.rangeSet n 0 n) (stays (F := F) cc ord e32 hord p₀ n)
        ∗ scrPts (F := F) cc (Finset.univ \ filled n hn) g ∗ e32Pts (F := F) cc e32 Finset.univ (Transfers.shareDrop fullShare n))
      ⊢ iprop((∃ g', ⌜Rows ord e32 g' p₀ n⌝ ∗ scrPts (F := F) cc Finset.univ g') ∗ e32Pts (F := F) cc e32 Finset.univ fullShare) := by
  rw [Ring.rangeSet_univ, deliv_sep]
  iintro ⟨⟨Hin, Hsrc⟩, Hleft, Hout, Hdrop⟩
  isplitl [Hin Hout]
  · iexists (filled n hn).piecewise (arrived ord e32 p₀) g
    isplitr
    · ipureintro
      intro y hy
      exact Finset.piecewise_eq_of_mem _ _ _ ((mem_filled n hn y).mpr hy)
    ihave Hin := (Entails.of_eq (filled_pts (F := F) cc n hn _).symm) $$ Hin
    iapply (pointsTo_join_subset (Finset.subset_univ (filled n hn)))
    isplitl [Hin]; · iexact Hin
    iexact Hout
  · iapply (Transfers.pointsTo_toks_range fullShare n).2
    isplitl [Hdrop]; · iexact Hdrop
    iapply (Entails.of_eq (toks_fin (F := F) cc e32 n Finset.univ).symm)
    ihave H := (show iprop(bigSep Finset.univ (fun t : Fin n => e32Pts (F := F) cc e32 (srcSet ord hord p₀ t.val) (Transfers.shareTokN fullShare t.val))
        ∗ bigSep Finset.univ (stays (F := F) cc ord e32 hord p₀ n)) ⊢ bigSep Finset.univ (fun t : Fin n => e32Pts (F := F) cc e32 Finset.univ (Transfers.shareTokN fullShare t.val)) from by
      refine (Entails.of_eq (BI.bigSep_sep _ _ _).symm).trans (BI.bigSep_mono fun t _ => ?_)
      exact (pointsTo_split_subset (Finset.subset_univ (srcSet ord hord p₀ t.val))).2) $$ [Hsrc Hleft]
    · isplitl [Hsrc]; · iexact Hsrc
      iexact Hleft
    iexact H

end Issue

end Cert.Kernel.Hand

end

end
-- ==== Proof.K.Tokens.lean ====
/-
  The token loop of the second call: one batch (start the transfers, wait, accumulate), and all batches.
-/
module

public import proofs.«01_k».proof.Proof.K.Dma

@[expose] public section

set_option maxRecDepth 8192

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

variable (cc : Dev nD) (i : grid1.Coords)
variable (arg5 : Memref sig .tc .vmem S1024x640 .fp8e5m2) (harg5 : arg5.IsWhole) (arg6 : Memref sig .tc .vmem S1x1024x1 .f32) (harg6 : arg6.IsWhole)
  (arg7 : Memref sig .tc .vmem S1024x4096 .bf16) (harg7 : arg7.IsWhole) (arg9 : Memref sig .tc .smem S6144 .f32) (harg9 : arg9.IsWhole)
  (arg10 : Memref sig .tc .vmem S640x4096 .f32) (harg10 : arg10.IsWhole) (arg0 : BitVec 32)
variable (ord sid : S6144.Idx → BitVec 32) (es : S6144.Idx → F .f32) (e32 : S1536x4096.Idx → BitVec 32) (lo hi : BitVec 32)

/-- Before batch `b`: the tables, the buffer, the packed words, the semaphore at zero, and the output block with the first `64 b` tokens of the segment added. -/
def batchesAt (X : S640x4096.Idx → F .f32) (b : ℕ) (_ : Unit) : sProp 𝕄 :=
  iprop((ordM.view.loc (cc : Thread nD τ) ↦{fullShare} ord) ∗ (sidM.view.loc (cc : Thread nD τ) ↦{fullShare} sid)
    ∗ (arg9.view.loc (cc : Thread nD τ) ↦{fullShare} harg9.unread es) ∗ (∃ g, scrM.view.loc (cc : Thread nD τ) ↦{fullShare} g)
    ∗ (e32M.view.loc (cc : Thread nD τ) ↦{fullShare} e32) ∗ semVal ((cc : Thread nD τ), SemLoc.dma cc1_scratch1.sem) 0 ∗ (∃ W, owes (cc : Thread nD τ) 0 W)
    ∗ ∃ f, (arg10.view.loc (cc : Thread nD τ) ↦{fullShare} f)
      ∗ ⌜arg10.view.read (Elt F) f = accN (i 0).val ord sid es e32 lo.toNat X (min (64 * b) (hi.toNat - lo.toNat))⌝)

theorem batch_step [∀ e, Nonempty (Elt F e)] (k1_h2 : k1_cond2 i = 1#1) (hw : k1_chk1 i lo hi) (T : Tab (i 0).val ord sid lo hi)
    (X : S640x4096.Idx → F .f32) (b : Fin (k1_t1_loop lo hi).trips) (a : Unit) :
    batchesAt (F := F) cc i arg9 harg9 arg10 ord sid es e32 lo hi X b a
      ⊢ wp frame (wpE (defs₀ (F := F)) Variants.none (cc : Thread nD τ) none) Set.univ
        (Gen.k1_t1_body i ordM (Memref.isWhole_whole _) sidM (Memref.isWhole_whole _) offM (Memref.isWhole_whole _) arg5 harg5 arg6 harg6 arg7 harg7
          e32M (Memref.isWhole_whole _) arg9 harg9 arg10 harg10 scrM (Memref.isWhole_whole _) cc1_scratch1 arg0 k1_h2 lo hi hw b a)
        (batchesAt (F := F) cc i arg9 harg9 arg10 ord sid es e32 lo hi X (b.val + 1)) := by
  have hb : lo.toNat + 64 * b.val < hi.toNat := batch_lt lo hi T.seg b
  have hseg := T.seg.2
  obtain ⟨n, hn⟩ : ∃ n, n = min (hi.toNat - lo.toNat - 64 * b.val) 64 := ⟨_, rfl⟩
  obtain ⟨m, hm⟩ : ∃ m, m = b.val := ⟨_, rfl⟩
  rw [← hm] at hb hn
  have hn64 : n ≤ 64 := by omega
  have hn0 : 0 < n := by omega
  obtain ⟨p₀, hp₀⟩ : ∃ p, p = lo.toNat + 64 * m := ⟨_, rfl⟩
  have hpn : p₀ + n ≤ 6144 := by omega
  have ht2 : (k1_t2_loop lo hi b).trips = n := (t2_trips lo hi T.seg b).trans (by rw [hn, hm])
  have ht4 : (k1_t4_loop lo hi b).trips = n := (t4_trips lo hi T.seg b).trans (by rw [hn, hm])
  have ht6 : (k1_t6_loop lo hi b).trips = n := (t6_trips lo hi T.seg b).trans (by rw [hn, hm])
  have hm0 : min (64 * m) (hi.toNat - lo.toNat) = 64 * m + 0 := by omega
  have hm1 : min (64 * (m + 1)) (hi.toNat - lo.toNat) = 64 * m + n := by omega
  unfold batchesAt
  rw [← hm, hm0, hm1]
  iintro ⟨Hord, Hsid, Hes, ⟨%g, Hscr⟩, He32, Hsem, ⟨%W, HO⟩, ⟨%f, Hout, %hf⟩⟩
  ihave Hopen := (rows_open (F := F) cc e32 n hn64 g) $$ [Hscr He32]
  · isplitl [Hscr]; · iexact Hscr
    iexact He32
  icases Hopen with ⟨Hbef, Hrest, Hdrop⟩
  imod (Transfers.batch_alloc' (Lvl := ℕ) (countersEmb (U := Pipeline.UC sig nD τ)) (cc : Thread nD τ) () NN (deliv (F := F) cc ord e32 T.ord_lt p₀ n hn64) (sm := .dma cc1_scratch1.sem) (E := Set.univ)) $$ Hsem with HB
  unfold Gen.k1_t1_body
  sl_exec
  sl_for (issueAt (F := F) cc ord e32 T.ord_lt p₀ n hn64 g) $$ [Hord HB Hbef]
  · intro k acc
    exact issue_step (F := F) cc i arg5 harg5 arg6 harg6 arg7 harg7 arg9 harg9 arg10 harg10 ord e32 lo hi T.ord_lt p₀ n hn64 hpn k1_h2 hw T.seg b (by rw [hp₀, hm]) ht2 g 1#32 0#32 0#32 1#32 k acc
  · unfold issueAt
    isplitl [Hord]; · iexact Hord
    isplitl [HB]; · iexact HB
    isplitl [Hbef]; · iexact Hbef
    rw [Ring.bigSep_rangeSet_empty (le_refl _)]
    iempintro
  iintro %acc HL
  ihave HL := (show issueAt (F := F) cc ord e32 T.ord_lt p₀ n hn64 g (k1_t2_loop lo hi b).trips acc ⊢
      iprop((ordM.view.loc (cc : Thread nD τ) ↦{fullShare} ord) ∗ batchAt (F := F) cc ord e32 T.ord_lt p₀ n hn64 n 0
        ∗ bigSep (Ring.rangeSet n 0 n) (stays (F := F) cc ord e32 T.ord_lt p₀ n)) from by
    rw [ht2]; unfold issueAt
    iintro ⟨H1, H2, H3, H4⟩
    isplitl [H1]; · iexact H1
    isplitl [H2]; · iexact H2
    iexact H4) $$ HL
  icases HL with ⟨Hord, HB, Hstay⟩
  sl_exec
  sl_for (drainAt (F := F) cc ord e32 T.ord_lt p₀ n hn64) $$ [HO HB]
  · intro k acc
    exact drain_step (F := F) cc i arg5 harg5 arg6 harg6 arg7 harg7 arg9 harg9 arg10 harg10 ord e32 lo hi T.ord_lt p₀ n hn64 k1_h2 hw b ht4 1#32 0#32 0#32 1#32 k acc
  · unfold drainAt
    rw [if_pos hn0, Nat.zero_mul]
    isplitr; · ipureintro; omega
    isplitl [HO]; · iexists _; iexact HO
    iexact HB
  iintro %acc' HL
  ihave HL := (show drainAt (F := F) cc ord e32 T.ord_lt p₀ n hn64 (k1_t4_loop lo hi b).trips acc' ⊢
      iprop((∃ W, owes (cc : Thread nD τ) 0 W) ∗ semVal ((cc : Thread nD τ), SemLoc.dma cc1_scratch1.sem) 0
        ∗ bigSep Finset.univ (deliv (F := F) cc ord e32 T.ord_lt p₀ n hn64)) from by
    rw [ht4]; unfold drainAt; rw [if_neg (Nat.lt_irrefl _)]
    iintro ⟨-, H2, H3, H4⟩
    isplitl [H2]; · iexact H2
    isplitl [H3]; · iexact H3
    iexact H4) $$ HL
  icases HL with ⟨⟨%W', HO⟩, Hsem, Hall⟩
  ihave Hback := (rows_close (F := F) cc ord e32 T.ord_lt p₀ n hn64 g) $$ [Hall Hstay Hrest Hdrop]
  · isplitl [Hall]; · iexact Hall
    isplitl [Hstay]; · iexact Hstay
    isplitl [Hrest]; · iexact Hrest
    iexact Hdrop
  icases Hback with ⟨⟨%g', %hg', Hscr⟩, He32⟩
  sl_exec
  have hrows : Rows ord e32 g' (lo.toNat + 64 * b.val) (cnt lo hi b) := by
    have e1 : lo.toNat + 64 * b.val = p₀ := by rw [hp₀, hm]
    have e2 : cnt lo hi b = n := by rw [hn, hm]
    rw [e1, e2]; exact hg'
  sl_for (accAt (F := F) cc i arg9 harg9 arg10 ord sid es e32 lo g' X m) $$ [Hord Hsid Hes Hscr Hout]
  · intro k acc
    rw [hm]
    exact acc_step (F := F) cc i arg5 harg5 arg6 harg6 arg7 harg7 arg9 harg9 arg10 harg10 arg0 ord sid es e32 lo hi k1_h2 hw T b g' hrows X _ _ k acc
  · unfold accAt
    isplitl [Hord]; · iexact Hord
    isplitl [Hsid]; · iexact Hsid
    isplitl [Hes]; · iexact Hes
    isplitl [Hscr]; · iexact Hscr
    iexists f
    isplitl [Hout]; · iexact Hout
    ipureintro; exact hf
  iintro %acc'' HL
  ihave HL := (show accAt (F := F) cc i arg9 harg9 arg10 ord sid es e32 lo g' X m (k1_t6_loop lo hi b).trips acc'' ⊢
      accAt (F := F) cc i arg9 harg9 arg10 ord sid es e32 lo g' X m n acc'' from by rw [ht6]) $$ HL
  unfold accAt
  icases HL with ⟨Hord, Hsid, Hes, Hscr, ⟨%f', Hout, %hf'⟩⟩
  sl_exec
  sl_step
  isplitl [Hord]; · iexact Hord
  isplitl [Hsid]; · iexact Hsid
  isplitl [Hes]; · iexact Hes
  isplitl [Hscr]; · iexists g'; iexact Hscr
  isplitl [He32]; · iexact He32
  isplitl [Hsem]; · iexact Hsem
  isplitl [HO]; · iexists _; iexact HO
  iexists f'
  isplitl [Hout]; · iexact Hout
  ipureintro; exact hf'

end Cert.Kernel.Hand
-- ==== Proof.K.Body.lean ====
/-
  The second call's body at one grid point: what it leaves in the output block, from the blocks of its operands and the tables.
-/
module

public import proofs.«01_k».proof.Proof.K.Tokens

@[expose] public section

set_option maxRecDepth 8192

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-- Position `c` of the table of segment bounds, and the bound there. -/
def at51 (c : ℕ) : S51.Idx := fun a => ⟨c % 51, by fin_cases a; exact Nat.mod_lt _ (by decide)⟩
def bound (offs : S51.Idx → BitVec 32) (c : ℕ) : BitVec 32 := offs (at51 c)

/-- The block after a step's matrix product. -/
def mulStep (k : ℕ) (C : S1024x640.Idx → Elt F .fp8e5m2) (G : S1x1024x1.Idx → F .f32) (H : S1024x4096.Idx → F .bf16) (X : S640x4096.Idx → F .f32) :
    S640x4096.Idx → F .f32 := Gen.k1_pay2 C G (if k = 0 then Gen.k1_pay1 else X) H

/-- The block after a step: the product, and after the last one the tokens of the block's segment. -/
def blkStep (c k : ℕ) (ord sid : S6144.Idx → BitVec 32) (offs : S51.Idx → BitVec 32) (es : S6144.Idx → F .f32) (e32 : S1536x4096.Idx → BitVec 32)
    (C : S1024x640.Idx → Elt F .fp8e5m2) (G : S1x1024x1.Idx → F .f32) (H : S1024x4096.Idx → F .bf16) (X : S640x4096.Idx → F .f32) : S640x4096.Idx → F .f32 :=
  if k = 5 then accN c ord sid es e32 (bound offs c).toNat (mulStep k C G H X) ((bound offs (c + 1)).toNat - (bound offs c).toNat) else mulStep k C G H X

section Reads
variable {κ : Kind} {sp : Space} {Val : EltTy → Type} {e : EltTy}

theorem readAt_bound (v : View sig κ sp S51 e) (f : v.ty.Contents Val) {o : Fin 1 → ℕ} {p : ℕ} (eo : o = ![p]) (hp : p < 51) (h) (h') :
    View.readAt Val v (Rect.unit (s := S51) o S1.size h).toLoadRect f (Shape.Idx.first (s := S1) h') = v.read Val f (at51 p) := by
  subst eo
  refine congrArg (v.read Val f) (funext fun a => Fin.ext ?_)
  fin_cases a
  show p + 1 * _ = p % 51
  rw [Nat.mod_eq_of_lt hp]; rfl

/-- A whole block loaded is its contents; -/
theorem full_read {s : Shape} (v : View sig κ sp s e) (f : v.ty.Contents Val) (o : Fin s.rank → ℕ) (h0 : ∀ a, o a = 0) (h) :
    View.readAt Val v (Rect.unit (s := s) o s.size h).toLoadRect f = v.read Val f := by
  funext x
  refine congrArg (v.read Val f) (funext fun a => Fin.ext ?_)
  show o a + 1 * (x a).val = (x a).val
  rw [h0]; omega

/-- a whole block stored reads as what was stored. -/
theorem full_write {s : Shape} (v : View sig κ sp s e) (f : v.ty.Contents Val) (o : Fin s.rank → ℕ) (h0 : ∀ a, o a = 0) (h) (w : s.Idx → Val e) :
    v.read Val (v.writes Val f [⟨Rect.unit (s := s) o s.size h, w⟩]) = w := by
  funext y
  rw [View.read_writes_cons_unit (heq := rfl), dif_pos (fun a => by have := (y a).isLt; rw [h0]; omega)]
  refine congrArg w (funext fun a => Fin.ext ?_)
  show (y a).val - o a = (y a).val
  rw [h0]; omega

end Reads

theorem zero2 : ∀ a : Fin 2, (![0, 0] : Fin 2 → ℕ) a = 0 := by decide
theorem zero3 : ∀ a : Fin 3, (![0, 0, 0] : Fin 3 → ℕ) a = 0 := by decide

theorem first_iff (k : ℕ) (hk : k < 6) : Scalar.cmpi .ne (Scalar.extui (Scalar.cmpi .eq (BitVec.ofNat 32 k) 0#32) : BitVec 32) 0#32 = 1#1 ↔ k = 0 := by
  have h : ∀ k : Fin 6, Scalar.cmpi .ne (Scalar.extui (Scalar.cmpi .eq (BitVec.ofNat 32 k.val) 0#32) : BitVec 32) 0#32 = 1#1 ↔ k.val = 0 := by decide
  exact h ⟨k, hk⟩
theorem last_iff (i : grid1.Coords) : k1_cond2 i = 1#1 ↔ (i 1).val = 5 := by
  have h : ∀ k : Fin 6, Scalar.cmpi .ne (Scalar.extui (Scalar.cmpi .eq (BitVec.ofNat 32 k.val) 5#32) : BitVec 32) 0#32 = 1#1 ↔ k.val = 5 := by decide
  exact h (i 1)

variable (cc : Dev nD) (i : grid1.Coords)
variable (arg5 : Memref sig .tc .vmem S1024x640 .fp8e5m2) (harg5 : arg5.IsWhole) (arg6 : Memref sig .tc .vmem S1x1024x1 .f32) (harg6 : arg6.IsWhole)
  (arg7 : Memref sig .tc .vmem S1024x4096 .bf16) (harg7 : arg7.IsWhole) (arg9 : Memref sig .tc .smem S6144 .f32) (harg9 : arg9.IsWhole)
  (arg10 : Memref sig .tc .vmem S640x4096 .f32) (harg10 : arg10.IsWhole)
variable (ord sid : S6144.Idx → BitVec 32) (offs : S51.Idx → BitVec 32) (es : S6144.Idx → F .f32) (e32 : S1536x4096.Idx → BitVec 32)
variable (C : S1024x640.Idx → Elt F .fp8e5m2) (G : S1x1024x1.Idx → F .f32) (H : S1024x4096.Idx → F .bf16)

/-- What the body neither reads from a block nor leaves in one: the tables, the packed words, the row buffer, the semaphore at zero. -/
def tabs : sProp 𝕄 :=
  iprop((ordM.view.loc (cc : Thread nD τ) ↦{fullShare} ord) ∗ (sidM.view.loc (cc : Thread nD τ) ↦{fullShare} sid) ∗ (offM.view.loc (cc : Thread nD τ) ↦{fullShare} offs)
    ∗ (∃ g, scrM.view.loc (cc : Thread nD τ) ↦{fullShare} g) ∗ (e32M.view.loc (cc : Thread nD τ) ↦{fullShare} e32)
    ∗ semVal ((cc : Thread nD τ), SemLoc.dma cc1_scratch1.sem) 0)

theorem body_step [∀ e, Nonempty (Elt F e)] (T : Tab (i 0).val ord sid (bound offs (i 0).val) (bound offs ((i 0).val + 1))) (f : Buf (Elt F) (arg10.view.loc (cc : Thread nD τ)))
    (W : Waits sig Unit) :
    iprop(tabs (F := F) cc ord sid offs e32 ∗ owes (cc : Thread nD τ) 0 W
      ∗ (arg5.view.loc (cc : Thread nD τ) ↦{fullShare} harg5.unread C) ∗ (arg6.view.loc (cc : Thread nD τ) ↦{fullShare} harg6.unread G)
      ∗ (arg7.view.loc (cc : Thread nD τ) ↦{fullShare} harg7.unread H) ∗ (arg9.view.loc (cc : Thread nD τ) ↦{fullShare} harg9.unread es)
      ∗ (arg10.view.loc (cc : Thread nD τ) ↦{fullShare} f))
      ⊢ wp frame (wpE (defs₀ (F := F)) Variants.none (cc : Thread nD τ) none) Set.univ
        (cc1_dw i ordM (Memref.isWhole_whole _) sidM (Memref.isWhole_whole _) offM (Memref.isWhole_whole _) arg5 harg5 arg6 harg6 arg7 harg7
          e32M (Memref.isWhole_whole _) arg9 harg9 arg10 harg10 scrM (Memref.isWhole_whole _) cc1_scratch1)
        (fun _ => iprop(tabs (F := F) cc ord sid offs e32 ∗ (∃ W, owes (cc : Thread nD τ) 0 W)
          ∗ (arg5.view.loc (cc : Thread nD τ) ↦{fullShare} harg5.unread C) ∗ (arg6.view.loc (cc : Thread nD τ) ↦{fullShare} harg6.unread G)
          ∗ (arg7.view.loc (cc : Thread nD τ) ↦{fullShare} harg7.unread H) ∗ (arg9.view.loc (cc : Thread nD τ) ↦{fullShare} harg9.unread es)
          ∗ ∃ f', (arg10.view.loc (cc : Thread nD τ) ↦{fullShare} f')
            ∗ ⌜arg10.view.read (Elt F) f' = blkStep (i 0).val (i 1).val ord sid offs es e32 C G H (arg10.view.read (Elt F) f)⌝)) := by
  unfold tabs
  iintro ⟨⟨Hord, Hsid, Hoff, ⟨%g, Hscr⟩, He32, Hsem⟩, HO, H5, H6, H7, H9, Hout⟩
  rw [Gen.cc1_dw_eq_skeleton]
  unfold Gen.cc1_dw_skel
  sl_exec
  ihave Hout := (show iprop(arg10.view.loc (cc : Thread nD τ) ↦{fullShare} _) ⊢ iprop(∃ f1, (arg10.view.loc (cc : Thread nD τ) ↦{fullShare} f1)
      ∗ ⌜arg10.view.read (Elt F) f1 = mulStep (i 1).val C G H (arg10.view.read (Elt F) f)⌝) from by
    iintro H
    iexists _
    isplitl [H]; · iexact H
    ipureintro
    rw [full_write _ _ _ zero2, full_read _ _ _ zero2, full_read _ _ _ zero3, full_read _ _ _ zero2, harg5.read_unread, harg6.read_unread, harg7.read_unread]
    unfold mulStep
    have hv : body_step.sl.v10 i = 1#1 ↔ (i 1).val = 0 := first_iff (i 1).val (i 1).isLt
    have e11 : body_step.sl.v11 cc i arg10 f = if (i 1).val = 0 then Gen.k1_pay1 else arg10.view.read (Elt F) f := by
      unfold body_step.sl.v11
      rw [full_read _ _ _ zero2]
      by_cases h0 : (i 1).val = 0
      · rw [dif_pos (hv.mpr h0), if_pos h0, full_write _ _ _ zero2]
      · rw [dif_neg (fun h => h0 (hv.mp h)), if_neg h0]
    rw [e11]) $$ Hout
  icases Hout with ⟨%f1, Hout, %hf1⟩
  by_cases h2 : k1_cond2 i = 1#1
  · have h5 := (last_iff i).mp h2
    sl_exec
    have hi0 : (i 0).val < 50 := (i 0).isLt
    have e2 : body_step.sl.r_2 (F := F) i offs h2 = bound offs (i 0).val :=
      readAt_bound (Val := Elt F) offM.view offs (off1_eq i) (by omega) _ _
    have e3 : body_step.sl.r_3 (F := F) i offs h2 = bound offs ((i 0).val + 1) :=
      readAt_bound (Val := Elt F) offM.view offs (off2_eq i) (by omega) _ _
    have T' : Tab (i 0).val ord sid (body_step.sl.r_2 (F := F) i offs h2) (body_step.sl.r_3 (F := F) i offs h2) := by rw [e2, e3]; exact T
    have hw := chk1_of i _ _ T'.seg
    iapply (wp_assume _ _ _ _ hw)
    sl_exec
    sl_for (batchesAt (F := F) cc i arg9 harg9 arg10 ord sid es e32 (body_step.sl.r_2 (F := F) i offs h2) (body_step.sl.r_3 (F := F) i offs h2)
      (mulStep (i 1).val C G H (arg10.view.read (Elt F) f))) $$ [Hord Hsid H9 Hscr He32 Hsem HO Hout]
    · intro k acc
      exact batch_step (F := F) cc i arg5 harg5 arg6 harg6 arg7 harg7 arg9 harg9 arg10 harg10 _ ord sid es e32 _ _ h2 hw T' _ k acc
    · unfold batchesAt
      isplitl [Hord]; · iexact Hord
      isplitl [Hsid]; · iexact Hsid
      isplitl [H9]; · iexact H9
      isplitl [Hscr]; · iexists g; iexact Hscr
      isplitl [He32]; · iexact He32
      isplitl [Hsem]; · iexact Hsem
      isplitl [HO]; · iexists _; iexact HO
      iexists f1
      isplitl [Hout]; · iexact Hout
      ipureintro; rw [Nat.mul_zero, Nat.zero_min]; exact hf1
    iintro %acc HL
    unfold batchesAt
    icases HL with ⟨Hord, Hsid, H9, ⟨%g', Hscr⟩, He32, Hsem, ⟨%W', HO⟩, ⟨%f', Hout, %hf'⟩⟩
    have hlast : arg10.view.read (Elt F) f' = blkStep (i 0).val (i 1).val ord sid offs es e32 C G H (arg10.view.read (Elt F) f) := by
      refine hf'.trans ?_
      unfold blkStep
      rw [if_pos h5, show Scf.trips _ _ _ = _ from t1_trips _ _ T'.seg, e2, e3]
      congr 1
      omega
    sl_exec
    sl_step
    isplitl [Hord Hsid Hoff Hscr He32 Hsem]
    · isplitl [Hord]; · iexact Hord
      isplitl [Hsid]; · iexact Hsid
      isplitl [Hoff]; · iexact Hoff
      isplitl [Hscr]; · iexists g'; iexact Hscr
      isplitl [He32]; · iexact He32
      iexact Hsem
    isplitl [HO]; · iexists _; iexact HO
    isplitl [H5]; · iexact H5
    isplitl [H6]; · iexact H6
    isplitl [H7]; · iexact H7
    isplitl [H9]; · iexact H9
    iexists f'
    isplitl [Hout]; · iexact Hout
    ipureintro; exact hlast
  · have h5 : ¬(i 1).val = 5 := fun h => h2 ((last_iff i).mpr h)
    sl_exec
    sl_step
    isplitl [Hord Hsid Hoff Hscr He32 Hsem]
    · isplitl [Hord]; · iexact Hord
      isplitl [Hsid]; · iexact Hsid
      isplitl [Hoff]; · iexact Hoff
      isplitl [Hscr]; · iexists g; iexact Hscr
      isplitl [He32]; · iexact He32
      iexact Hsem
    isplitl [HO]; · iexists _; iexact HO
    isplitl [H5]; · iexact H5
    isplitl [H6]; · iexact H6
    isplitl [H7]; · iexact H7
    isplitl [H9]; · iexact H9
    iexists f1
    isplitl [Hout]; · iexact Hout
    ipureintro; unfold blkStep; rw [if_neg h5]; exact hf1

end Cert.Kernel.Hand
-- ==== Proof.K.Region1.lean ====
/-
  The second call over its 300 grid points: the contents of its windows' blocks, and its body's obligation at every point.
-/
module

public import proofs.«01_k».proof.Proof.K.Body
public import proofs.«01_k».proof.Proof.Gen.Kernel.Regions

@[expose] public section

set_option maxRecDepth 8192

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UC sig nD τ) ℕ

variable (Vb : Dev nD → Valuation τ sig (Elt F))

/-- The tables' contents when the call begins. -/
def tbl : pre1.Contents (Elt F) := fun k => Vb 0 (Proc.devRef .tc (pre1.ref k))
/-- The configurations of the two calls at these tables. -/
abbrev adm1 : (pcfg1 (F := F)).Adm := ⟨tbl Vb, trivial⟩
def adm : (p : Fin 2) → (pcfgs (F := F) p).Adm
  | ⟨0, _⟩ => cfg0.toPCfg_adm
  | ⟨1, _⟩ => adm1 Vb

/-- Window `w`'s block at point `t`, as the call finds its array. -/
def iblk (c : Dev nD) (w : Fin 5) (t : Fin (cfg1 (adm1 Vb)).N) :
    (((cfg1 (adm1 Vb)).win w).xblock ((cfg1 (adm1 Vb)).grid.coords t)).Idx → Elt F ((cfg1 (adm1 Vb)).win w).elt :=
  (((cfg1 (adm1 Vb)).win w).blk t).view.read (Elt F) (Vb c (Proc.devRef .tc (Pipeline.arrRef spec1 w)))

/-- The output block after point `n`, from the block before it. -/
def stepAt (c : Dev nD) (n : ℕ) (X : S640x4096.Idx → F .f32) : S640x4096.Idx → F .f32 :=
  if h : n < grid1.N then
    blkStep (n / 6) (n % 6) (Vb 0 main_v4) (Vb 0 main_v11) (Vb 0 main_v15) (iblk Vb c 3 ⟨n, h⟩) (Vb c main_v30)
      (iblk Vb c 0 ⟨n, h⟩) (iblk Vb c 1 ⟨n, h⟩) (iblk Vb c 2 ⟨n, h⟩) X
  else X

/-- The output block after point `n`. -/
def outAt (c : Dev nD) : ℕ → S640x4096.Idx → F .f32
  | 0 => stepAt Vb c 0 Gen.k1_pay1
  | n + 1 => stepAt Vb c (n + 1) (outAt c n)

/-- The first step of a block forgets what the block held. -/
theorem stepAt_first (c : Dev nD) (n : ℕ) (h : n % 6 = 0) (X Y : S640x4096.Idx → F .f32) : stepAt Vb c n X = stepAt Vb c n Y ∨ grid1.N ≤ n := by
  by_cases hn : n < grid1.N
  · left
    unfold stepAt
    rw [dif_pos hn, dif_pos hn]
    unfold blkStep mulStep
    rw [h, if_neg (by decide : ¬ (0 : ℕ) = 5), if_neg (by decide : ¬ (0 : ℕ) = 5), if_pos rfl, if_pos rfl]
  · right; omega

def Phi1 (c : Dev nD) : sProp 𝕄 :=
  iprop(iprop(Pipeline.scopedRest (Ix := Unit) (Name := ℕ) (U := Pipeline.UC sig nD τ) (Lvl := ℕ) (Val := Elt F) spec1 c ∗ (∃ r, prngReg c r)
    ∗ Pipeline.ownSems0 (Ix := Unit) (Name := ℕ) (U := Pipeline.UC sig nD τ) (Lvl := ℕ) (Val := Elt F) (τ := τ) (fun _ : Unit => SemLoc.dma cc1_scratch1.sem) c
    ∗ (bigSep {main_v30} fun b => ((c.tc : Thread nD τ).loc b) ↦{fullShare} Vb c (Proc.devRef .tc b)))
    ∗ Pipeline.prefHeld pre1 c (fun _ => fullShare) (tbl Vb))

/-- The second call's contents, point by point. -/
def dat1 (c : Dev nD) : Dat τ (Elt F) Unit ℕ (Pipeline.UC sig nD τ) ℕ (cfg1 (adm1 Vb)) c where
  A w := Vb c (Proc.devRef .tc (Pipeline.arrRef spec1 w))
  after w t := match w with
    | ⟨0, _⟩ => iblk Vb c 0 t
    | ⟨1, _⟩ => iblk Vb c 1 t
    | ⟨2, _⟩ => iblk Vb c 2 t
    | ⟨3, _⟩ => iblk Vb c 3 t
    | ⟨4, _⟩ => outAt Vb c t.val
  Φ _ := Phi1 Vb c
  q _ := fullShare
  owed _ := 0

theorem before1_0 (c : Dev nD) (t : Fin (cfg1 (adm1 Vb)).N) (d) : (dat1 Vb c).before 0 t d = iblk Vb c 0 t :=
  ((dat1 Vb c).before_in_eq_fetched 0 rfl (fun _ => rfl) (fun _ _ _ => rfl) (fun t => rfl) t d).trans rfl
theorem before1_1 (c : Dev nD) (t : Fin (cfg1 (adm1 Vb)).N) (d) : (dat1 Vb c).before 1 t d = iblk Vb c 1 t :=
  ((dat1 Vb c).before_in_eq_fetched 1 rfl (fun _ => rfl) (fun _ _ _ => rfl) (fun t => rfl) t d).trans rfl
theorem before1_2 (c : Dev nD) (t : Fin (cfg1 (adm1 Vb)).N) (d) : (dat1 Vb c).before 2 t d = iblk Vb c 2 t :=
  ((dat1 Vb c).before_in_eq_fetched 2 rfl (fun _ => rfl) (fun _ _ _ => rfl) (fun t => rfl) t d).trans rfl
theorem before1_3 (c : Dev nD) (t : Fin (cfg1 (adm1 Vb)).N) (d) : (dat1 Vb c).before 3 t d = iblk Vb c 3 t :=
  ((dat1 Vb c).before_in_eq_fetched 3 rfl (fun _ => rfl) (fun _ _ _ => rfl) (fun t => rfl) t d).trans rfl

theorem coords1_0 : ∀ t : Fin grid1.N, (grid1.coords t 0).val = t.val / 6 := by decide +kernel
theorem coords1_1 : ∀ t : Fin grid1.N, (grid1.coords t 1).val = t.val % 6 := by decide +kernel
/-- The output block is written back after a block's last step, and only then. -/
theorem flush1 (t : Fin (cfg1 (adm1 Vb)).N) : ((cfg1 (adm1 Vb)).win 4).flush t = decide (t.val % 6 = 5) := by
  have h : ∀ t : Fin grid1.N, Pipeline.Window.flushOf grid1 true cc1_transform_5 t = decide (t.val % 6 = 5) := by decide +kernel
  exact h t

/-- The output block before a point that is no block's first is what the point before left. -/
theorem before1_4 (c : Dev nD) (t : Fin (cfg1 (adm1 Vb)).N) (h : t.val % 6 ≠ 0) (d) : (dat1 Vb c).before 4 t d = outAt Vb c (t.val - 1) := by
  rw [Dat.before_of_pos _ 4 t (by omega) rfl, flush1, if_neg (by simp only [decide_eq_true_eq]; omega)]
  rfl

theorem outAt_eq (c : Dev nD) (t : Fin (cfg1 (adm1 Vb)).N) (d) : outAt Vb c t.val = stepAt Vb c t.val ((dat1 Vb c).before 4 t d) := by
  have ht : t.val < grid1.N := t.isLt
  have hN : grid1.N = 300 := Gen.N_1
  by_cases h : t.val % 6 = 0
  · rcases hn : t.val with _ | n
    · rw [outAt]; exact (stepAt_first Vb c 0 rfl _ _).resolve_right (by omega)
    · rw [outAt]; exact (stepAt_first Vb c (n + 1) (by omega) _ _).resolve_right (by omega)
  · rw [before1_4 Vb c t h]
    obtain ⟨n, hn⟩ : ∃ n, t.val = n + 1 := ⟨t.val - 1, by omega⟩
    rw [hn, outAt, Nat.add_sub_cancel]

theorem owns_in (c : Dev nD) {sp : Space} {sh : Shape} {e : EltTy} (M : Memref sig .tc sp sh e) (h : M.IsWhole) (X Y : sh.Idx → Elt F e)
    (e : X = Y) : (owns (c : Thread nD τ) M fullShare X : sProp 𝕄) ⊢ M.view.loc (c : Thread nD τ) ↦{fullShare} h.unread Y := by
  subst e
  unfold owns
  rw [h.set_eq_univ]
  iintro ⟨%f, %hf, H⟩
  obtain rfl := h.eq_unread hf
  iexact H

theorem owns_out (c : Dev nD) {sp : Space} {sh : Shape} {e : EltTy} (M : Memref sig .tc sp sh e) (h : M.IsWhole) (X : sh.Idx → Elt F e)
    (f : Buf (Elt F) (M.view.loc (c : Thread nD τ))) (hf : M.view.read (Elt F) f = X) :
    (M.view.loc (c : Thread nD τ) ↦{fullShare} f) ⊢ (owns (c : Thread nD τ) M fullShare X : sProp 𝕄) := by
  unfold owns
  rw [h.set_eq_univ]
  iintro H
  iexists f; isplitr; · ipureintro; exact hf
  iexact H

/-- Every block's tables are as its tokens need them. -/
def TabAll : Prop := ∀ c < 50, Tab c (Vb 0 main_v4) (Vb 0 main_v11) (bound (Vb 0 main_v15) c) (bound (Vb 0 main_v15) (c + 1))

/-- What the body needs of `Phi1`, and what rides along. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ r, prngReg c r))

theorem prefHeld1 (c : Dev nD) (X : pre1.Contents (Elt F)) :
    (Pipeline.prefHeld pre1 c (fun _ => fullShare) X : sProp 𝕄)
      = iprop((((c.tc : Thread nD τ).loc main_v4) ↦{fullShare} X 0) ∗ (((c.tc : Thread nD τ).loc main_v11) ↦{fullShare} X 1)
        ∗ (((c.tc : Thread nD τ).loc main_v15) ↦{fullShare} X 2)) := by
  unfold Pipeline.prefHeld
  exact bigSep_univ_eq_bigSepL [(0 : Fin 3), (1 : Fin 3), (2 : Fin 3)] (by decide) (by decide) _

theorem ownSems1 (c : Dev nD) :
    (Pipeline.ownSems0 (Ix := Unit) (Name := ℕ) (U := Pipeline.UC sig nD τ) (Lvl := ℕ) (Val := Elt F) (τ := τ) (fun _ : Unit => SemLoc.dma cc1_scratch1.sem) c : sProp 𝕄)
      = semVal ((c : Thread nD τ), SemLoc.dma cc1_scratch1.sem) 0 :=
  (Pipeline.ownSems0_eq_of_list c _ [()] (by decide) (by decide)).trans rfl

theorem Phi1_open (c : Dev nD) : Phi1 Vb c ⊢ iprop(tabs (F := F) c (Vb 0 main_v4) (Vb 0 main_v11) (Vb 0 main_v15) (Vb c main_v30) ∗ rest1 c) := by
  unfold Phi1 tabs rest1
  rw [Gen.scopedRest1_eq, ownSems1, BI.bigSep_singleton, prefHeld1]
  iintro ⟨⟨⟨G0, G1, G2, G3, G4, G5, Hs⟩, Hp, Hsem, He⟩, ⟨Ho, Hi, Hf⟩⟩
  isplitl [Ho Hi Hf Hs He Hsem]
  · isplitl [Ho]; · iexact Ho
    isplitl [Hi]; · iexact Hi
    isplitl [Hf]; · iexact Hf
    isplitl [Hs]; · iexact Hs
    isplitl [He]; · iexact He
    iexact Hsem
  isplitl [G0]; · iexact G0
  isplitl [G1]; · iexact G1
  isplitl [G2]; · iexact G2
  isplitl [G3]; · iexact G3
  isplitl [G4]; · iexact G4
  isplitl [G5]; · iexact G5
  iexact Hp

theorem Phi1_close (c : Dev nD) : iprop(tabs (F := F) c (Vb 0 main_v4) (Vb 0 main_v11) (Vb 0 main_v15) (Vb c main_v30) ∗ rest1 c) ⊢ Phi1 Vb c := by
  unfold Phi1 tabs rest1
  rw [Gen.scopedRest1_eq, ownSems1, BI.bigSep_singleton, prefHeld1]
  iintro ⟨⟨Ho, Hi, Hf, Hs, He, Hsem⟩, G0, G1, G2, G3, G4, G5, Hp⟩
  isplitl [G0 G1 G2 G3 G4 G5 Hs Hp Hsem He]
  · isplitl [G0 G1 G2 G3 G4 G5 Hs]
    · isplitl [G0]; · iexact G0
      isplitl [G1]; · iexact G1
      isplitl [G2]; · iexact G2
      isplitl [G3]; · iexact G3
      isplitl [G4]; · iexact G4
      isplitl [G5]; · iexact G5
      iexact Hs
    isplitl [Hp]; · iexact Hp
    isplitl [Hsem]; · iexact Hsem
    iexact He
  isplitl [Ho]; · iexact Ho
  isplitl [Hi]; · iexact Hi
  iexact Hf

set_option backward.isDefEq.respectTransparency.types false in
/-- The call's body keeps its contents' promise at every point. -/
theorem body1 [∀ e, Nonempty (Elt F e)] (T : TabAll Vb) (c : Dev nD) : BodyObligation (dat1 Vb c) (defs₀ (F := F)) Variants.none () Set.univ := fun t => by
  obtain rfl : c = 0 := Subsingleton.elim _ _
  have h0 := coords1_0 t
  have h1 := coords1_1 t
  have hN : grid1.N = 300 := Gen.N_1
  have ht : t.val < grid1.N := t.isLt
  rw [Gen.bigSep_W1, Gen.bigSep_W1]
  rw [show (dat1 Vb 0).Φ t.castSucc = Phi1 Vb 0 from rfl, show (dat1 Vb 0).Φ t.succ = Phi1 Vb 0 from rfl]
  unfold Dat.owesAt Pipeline.owesWithin
  rw [show (dat1 Vb 0).owed t.castSucc = 0 from rfl, show (dat1 Vb 0).owed t.succ = 0 from rfl]
  let s := (cfg1 (adm1 Vb)).slots t
  let w0 := Facts₀.hstage1_0 ((s 0).cast Facts₀.nbuf1_0)
  let w1 := Facts₀.hstage1_1 ((s 1).cast Facts₀.nbuf1_1)
  let w2 := Facts₀.hstage1_2 ((s 2).cast Facts₀.nbuf1_2)
  let w3 := Facts₀.hstage1_3 ((s 3).cast Facts₀.nbuf1_3)
  let w4 := Facts₀.hstage1_4 ((s 4).cast Facts₀.nbuf1_4)
  have T' : Tab (grid1.coords t 0).val (Vb 0 main_v4) (Vb 0 main_v11) (bound (Vb 0 main_v15) (grid1.coords t 0).val) (bound (Vb 0 main_v15) ((grid1.coords t 0).val + 1)) :=
    T _ (by rw [h0]; omega)
  iintro ⟨HΦ, ⟨%W, %hW, HO⟩, ⟨%d0, H0⟩, ⟨%d1, H1⟩, ⟨%d2, H2⟩, ⟨%d3, H3⟩, ⟨%d4, H4⟩⟩
  ihave HΦ := Phi1_open Vb 0 $$ HΦ
  icases HΦ with ⟨HT, HR⟩
  ihave H0 := (owns_in 0 (spec1_0.stage (s 0)) w0 _ _ (before1_0 Vb 0 t d0)) $$ H0
  ihave H1 := (owns_in 0 (spec1_1.stage (s 1)) w1 _ _ (before1_1 Vb 0 t d1)) $$ H1
  ihave H2 := (owns_in 0 (spec1_2.stage (s 2)) w2 _ _ (before1_2 Vb 0 t d2)) $$ H2
  ihave H3 := (owns_in 0 (spec1_3.stage (s 3)) w3 _ _ (before1_3 Vb 0 t d3)) $$ H3
  ihave H4 := (owns_in 0 (spec1_4.stage (s 4)) w4 _ ((dat1 Vb 0).before 4 t d4) rfl) $$ H4
  ihave Hw := (body_step (F := F) 0 (grid1.coords t) (spec1_0.stage (s 0)) w0 (spec1_1.stage (s 1)) w1 (spec1_2.stage (s 2)) w2
    (spec1_3.stage (s 3)) w3 (spec1_4.stage (s 4)) w4 (Vb 0 main_v4) (Vb 0 main_v11) (Vb 0 main_v15) (iblk Vb 0 3 t) (Vb 0 main_v30)
    (iblk Vb 0 0 t) (iblk Vb 0 1 t) (iblk Vb 0 2 t) T' (w4.unread ((dat1 Vb 0).before 4 t d4)) W) $$ [HT HO H0 H1 H2 H3 H4]
  · isplitl [HT]; · iexact HT
    isplitl [HO]; · iexact HO
    isplitl [H0]; · iexact H0
    isplitl [H1]; · iexact H1
    isplitl [H2]; · iexact H2
    isplitl [H3]; · iexact H3
    iexact H4
  iapply (wp_wand _ _) $$ Hw
  iintro %_ ⟨HT, ⟨%W', HO⟩, H0, H1, H2, H3, ⟨%f', H4, %hf'⟩⟩
  isplitl [HT HR]
  · iapply (Phi1_close Vb 0); isplitl [HT]; · iexact HT
    iexact HR
  isplitl [HO]
  · iexists W'; isplitr; · ipureintro; exact fun _ _ => Or.inl trivial
    iexact HO
  isplitl [H0]; · iapply (owns_out 0 (spec1_0.stage (s 0)) w0 _ _ (w0.read_unread _)); iexact H0
  isplitl [H1]; · iapply (owns_out 0 (spec1_1.stage (s 1)) w1 _ _ (w1.read_unread _)); iexact H1
  isplitl [H2]; · iapply (owns_out 0 (spec1_2.stage (s 2)) w2 _ _ (w2.read_unread _)); iexact H2
  isplitl [H3]; · iapply (owns_out 0 (spec1_3.stage (s 3)) w3 _ _ (w3.read_unread _)); iexact H3
  have he : (spec1_4.stage (s 4)).view.read (Elt F) f' = (dat1 Vb 0).after 4 t := by
    refine (hf'.trans (congrArg _ (w4.read_unread _))).trans ?_
    rw [h0, h1]
    refine Eq.trans ?_ (outAt_eq Vb 0 t d4).symm
    unfold stepAt
    rw [dif_pos ht]
  iapply (owns_out 0 (spec1_4.stage (s 4)) w4 _ _ he)
  iexact H4

end Cert.Kernel.Hand

end
-- ==== Proof.K.Region0.lean ====
/-
  The first call: every block of activations multiplied by its scales, point by point.
-/
module

public import proofs.«01_k».proof.Proof.K.Region1
public import proofs.«01_k».proof.Proof.Gen.Kernel.Points

@[expose] public section

set_option maxRecDepth 8192

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UC sig nD τ) ℕ

variable (Va : Dev nD → Valuation τ sig (Elt F))

/-- Window `w`'s block at point `t`, as the first call finds its array. -/
def iblk0 (c : Dev nD) (w : Fin 3) (t : Fin cfg0.N) : ((cfg0.win w).xblock (cfg0.grid.coords t)).Idx → Elt F (cfg0.win w).elt :=
  ((cfg0.win w).blk t).view.read (Elt F) (Va c (Proc.devRef .tc (Pipeline.arrRef spec0 w)))

/-- The first call's contents, point by point. -/
def dat0 (c : Dev nD) : Dat τ (Elt F) Unit ℕ (Pipeline.UC sig nD τ) ℕ cfg0 c where
  A w := Va c (Proc.devRef .tc (Pipeline.arrRef spec0 w))
  after w t := match w with
    | ⟨0, _⟩ => iblk0 Va c 0 t
    | ⟨1, _⟩ => iblk0 Va c 1 t
    | ⟨2, _⟩ => Gen.k0_pay1 (iblk0 Va c 0 t) (iblk0 Va c 1 t)
  Φ _ := Pipeline.scopedRest (Ix := Unit) (Name := ℕ) (U := Pipeline.UC sig nD τ) (Lvl := ℕ) (Val := Elt F) spec0 c
  q _ := fullShare
  owed _ := 0

theorem before0_0 (c : Dev nD) (t : Fin cfg0.N) (d) : (dat0 Va c).before 0 t d = iblk0 Va c 0 t :=
  ((dat0 Va c).before_in_eq_fetched 0 rfl (fun _ => rfl) (fun _ _ _ => rfl) (fun t => rfl) t d).trans rfl
theorem before0_1 (c : Dev nD) (t : Fin cfg0.N) (d) : (dat0 Va c).before 1 t d = iblk0 Va c 1 t :=
  ((dat0 Va c).before_in_eq_fetched 1 rfl (fun _ => rfl) (fun _ _ _ => rfl) (fun t => rfl) t d).trans rfl

/-- The first call's body: the output block becomes the activations times their scales. -/
theorem body_step0 (c : Dev nD) (i : grid0.Coords) (arg1 : Memref sig .tc .vmem S512x4096 .fp8e4m3) (harg1 : arg1.IsWhole)
    (arg2 : Memref sig .tc .vmem S512x1 .f32) (harg2 : arg2.IsWhole) (arg3 : Memref sig .tc .vmem S512x4096 .bf16) (harg3 : arg3.IsWhole)
    (X : S512x4096.Idx → Elt F .fp8e4m3) (S : S512x1.Idx → F .f32) (f : Buf (Elt F) (arg3.view.loc (c : Thread nD τ))) :
    iprop((arg1.view.loc (c : Thread nD τ) ↦{fullShare} harg1.unread X) ∗ (arg2.view.loc (c : Thread nD τ) ↦{fullShare} harg2.unread S)
      ∗ (arg3.view.loc (c : Thread nD τ) ↦{fullShare} f) : sProp 𝕄)
      ⊢ wp frame (wpE (defs₀ (F := F)) Variants.none (c : Thread nD τ) none) Set.univ (cc0_hx i arg1 harg1 arg2 harg2 arg3 harg3)
        (fun _ => iprop((arg1.view.loc (c : Thread nD τ) ↦{fullShare} harg1.unread X) ∗ (arg2.view.loc (c : Thread nD τ) ↦{fullShare} harg2.unread S)
          ∗ ∃ f', (arg3.view.loc (c : Thread nD τ) ↦{fullShare} f') ∗ ⌜arg3.view.read (Elt F) f' = Gen.k0_pay1 X S⌝)) := by
  iintro ⟨H1, H2, H3⟩
  rw [Gen.cc0_hx_eq_skeleton]
  unfold Gen.cc0_hx_skel
  sl_exec
  sl_step
  isplitl [H1]; · iexact H1
  isplitl [H2]; · iexact H2
  iexists _
  isplitl [H3]; · iexact H3
  ipureintro
  rw [full_write _ _ _ zero2, full_read _ _ _ zero2, full_read _ _ _ zero2, harg1.read_unread, harg2.read_unread]

set_option backward.isDefEq.respectTransparency.types false in
/-- The first call's body keeps its contents' promise at every point. -/
theorem body0 (c : Dev nD) : BodyObligation (dat0 Va c) (defs₀ (F := F)) Variants.none () Set.univ := fun t => by
  rw [Gen.bigSep_W0, Gen.bigSep_W0]
  rw [show (dat0 Va c).Φ t.succ = (dat0 Va c).Φ t.castSucc from rfl, show (dat0 Va c).owesAt () t.succ = (dat0 Va c).owesAt () t.castSucc from rfl]
  let s := cfg0.slots t
  let w0 := Facts₀.hstage0_0 ((s 0).cast Facts₀.nbuf0_0)
  let w1 := Facts₀.hstage0_1 ((s 1).cast Facts₀.nbuf0_1)
  let w2 := Facts₀.hstage0_2 ((s 2).cast Facts₀.nbuf0_2)
  iintro ⟨HΦ, HO, ⟨%d0, H0⟩, ⟨%d1, H1⟩, ⟨%d2, H2⟩⟩
  ihave H0 := (owns_in c (win0_0.stage (s 0)) w0 _ _ (before0_0 Va c t d0)) $$ H0
  ihave H1 := (owns_in c (win0_1.stage (s 1)) w1 _ _ (before0_1 Va c t d1)) $$ H1
  ihave H2 := (owns_in c (win0_2.stage (s 2)) w2 _ ((dat0 Va c).before 2 t d2) rfl) $$ H2
  ihave Hw := (body_step0 (F := F) c (grid0.coords t) (win0_0.stage (s 0)) w0 (win0_1.stage (s 1)) w1 (win0_2.stage (s 2)) w2
    (iblk0 Va c 0 t) (iblk0 Va c 1 t) (w2.unread ((dat0 Va c).before 2 t d2))) $$ [H0 H1 H2]
  · isplitl [H0]; · iexact H0
    isplitl [H1]; · iexact H1
    iexact H2
  iapply (wp_wand _ _) $$ Hw
  iintro %_ ⟨H0, H1, ⟨%f', H2, %hf'⟩⟩
  isplitl [HΦ]; · iexact HΦ
  isplitl [HO]; · iexact HO
  isplitl [H0]; · iapply (owns_out c (win0_0.stage (s 0)) w0 _ _ (w0.read_unread _)); iexact H0
  isplitl [H1]; · iapply (owns_out c (win0_1.stage (s 1)) w1 _ _ (w1.read_unread _)); iexact H1
  have he : (win0_2.stage (s 2)).view.read (Elt F) f' = (dat0 Va c).after 2 t := hf'
  iapply (owns_out c (win0_2.stage (s 2)) w2 _ _ he)
  iexact H2

end Cert.Kernel.Hand

end
-- ==== Proof.K.Run.lean ====
/-
  The whole program's run: the two calls between the host's lines, and what the buffers hold at the end.
-/
module

public import proofs.«01_k».proof.Proof.K.Region0
public import Idealize.ShloMosaic.Lib.Pipeline.RegionArraysS
public import Idealize.ShloMosaic.Lib.Pipeline.RegionArraysDT
public import Idealize.ShloMosaic.Adequacy
public import Idealize.ShloMosaic.Init

@[expose] public section

set_option maxRecDepth 8192

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation RegionSeg HostSeg Seg ucRefs arrRefs tblRefs arrRef afterRegion)

variable {F : FTy → Type} [FloatOps F]

local notation "𝕄" => MT nD τ sig Unit (Elt F) ℕ (Pipeline.UC sig nD τ) ℕ

variable (m : (ℓ : Loc nD τ sig) → Buf (Elt F) ℓ)

set_option maxHeartbeats 4000000 in
set_option backward.isDefEq.respectTransparency.types false in
/-- Given the two calls' records, entered from and left at the host lines' buffers, every run of the program ends with the arguments as
    launched and the result at what the second call leaves. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 2) → (pcfgs (F := F) p).Adm)
    (pdats : (p : Fin 2) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_v31) = V8 m outs c main_v31)
      ∧ r.2.sem = fun _ => 0) := by
  refine Pipeline.θ_run_regions_kit_dev_sems (pcfgs (F := F)) a pdats ι (cellOf_inj a) EP defs₀ 𝒱₀ L lv m ρ main
    (segs m outs 𝒱₀ L lv E ι a pdats R0 R1)
    (fun c Q => by
      rewrite [main_chain c, Seg.run_eq_chain,
        show (segs m outs 𝒱₀ L lv E ι a pdats R0 R1 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()) ] from rfl]
      dsimp (config := { failIfUnchanged := false }) only
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V8 m outs c))
    (hch := fun c => ⟨.rfl, hpre0 c, hpost0 c, .rfl, .rfl, .rfl, .rfl, hpre1 c, (hpost1 c).trans (sep_mono .rfl (hE2 c))⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_v31) = V8 m outs c main_v31)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V8 m outs c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V8_main_arg0 m outs c),
        (h (Proc.devRef .tc main_arg1) (Finset.mem_filter.mpr ⟨StableHlo.devRef_mem_tcRefs main_arg1, by decide⟩)).trans (V8_main_arg1 m outs c),
        (h (Proc.devRef .tc main_arg2) (Finset.mem_filter.mpr ⟨StableHlo.devRef_mem_tcRefs main_arg2, by decide⟩)).trans (V8_main_arg2 m outs c),
        (h (Proc.devRef .tc main_arg3) (Finset.mem_filter.mpr ⟨StableHlo.devRef_mem_tcRefs main_arg3, by decide⟩)).trans (V8_main_arg3 m outs c),
        (h (Proc.devRef .tc main_arg4) (Finset.mem_filter.mpr ⟨StableHlo.devRef_mem_tcRefs main_arg4, by decide⟩)).trans (V8_main_arg4 m outs c),
        (h (Proc.devRef .tc main_arg5) (Finset.mem_filter.mpr ⟨StableHlo.devRef_mem_tcRefs main_arg5, by decide⟩)).trans (V8_main_arg5 m outs c),
        (h (Proc.devRef .tc main_arg6) (Finset.mem_filter.mpr ⟨StableHlo.devRef_mem_tcRefs main_arg6, by decide⟩)).trans (V8_main_arg6 m outs c),
        h (Proc.devRef .tc main_v31) (Finset.mem_filter.mpr ⟨StableHlo.devRef_mem_tcRefs main_v31, by decide⟩)⟩
    · iexact HSI

/-! ## What the calls leave -/

abbrev V1t : Dev nD → Valuation τ sig (Elt F) := fun c => V1 m c
/-- After the first call. -/
def outs0 : Outs (F := F) := fun _ r c => afterRegion (dat0 (V1t m) c) (V1 m c) (Proc.devRef .tc r)
/-- The buffers when the second call begins. -/
abbrev V7t : Dev nD → Valuation τ sig (Elt F) := fun c => V7 m (outs0 m) c
/-- After either call. -/
def outs : Outs (F := F) := fun j r c => if j = 8 then afterRegion (dat1 (V7t m) c) (V7t m c) (Proc.devRef .tc r) else outs0 m j r c

theorem V2_eq (c : Dev nD) : V2 m (outs m) c = V2 m (outs0 m) c := rfl
theorem V7_eq (c : Dev nD) : V7 m (outs m) c = V7t m c := rfl

theorem out0 : ∀ w : Fin 3, arrRef spec0 w ≠ main_v2 → (spec0 w).isOut = false := by decide
theorem out1 : ∀ w : Fin 5, arrRef spec1 w ≠ main_v31 → (spec1 w).isOut = false := by decide

/-- The buffers after the first call. -/
theorem V2_after (c : Dev nD) : V2 m (outs m) c = afterRegion (dat0 (V1t m) c) (V1 m c) := by
  funext b
  by_cases hb : b = Proc.devRef .tc main_v2
  · subst hb
    exact Function.update_self ..
  · refine (Function.update_of_ne hb ..).trans ?_
    by_cases hw : b ∈ arrRefs (τ := τ) spec0
    · obtain ⟨r, hr, rfl⟩ := Finset.mem_map.mp hw
      obtain ⟨w, -, rfl⟩ := Finset.mem_image.mp hr
      refine (Pipeline.afterRegion_keeps (dat0 (V1t m) c) (V1 m c) (launch0 (F := F)).win.arr_inj (fun _ => rfl) _ fun w' hw' => ?_).symm
      exact out0 w' fun h => hb (congrArg _ (hw'.symm.trans h))
    · exact (Pipeline.afterRegion_off (dat0 (V1t m) c) (V1 m c) Finset.univ b (Finset.mem_sdiff.mpr ⟨Finset.mem_univ _, hw⟩)).symm

/-- The buffers after the second call. -/
theorem V8_after (c : Dev nD) : V8 m (outs m) c = afterRegion (dat1 (V7t m) c) (V7t m c) := by
  funext b
  by_cases hb0 : b = Proc.devRef .tc main_v30
  · subst hb0
    exact Function.update_self ..
  · refine (Function.update_of_ne hb0 ..).trans ?_
    by_cases hb : b = Proc.devRef .tc main_v31
    · subst hb
      exact Function.update_self ..
    · refine (Function.update_of_ne hb ..).trans ?_
      by_cases hw : b ∈ arrRefs (τ := τ) spec1
      · obtain ⟨r, hr, rfl⟩ := Finset.mem_map.mp hw
        obtain ⟨w, -, rfl⟩ := Finset.mem_image.mp hr
        refine (Pipeline.afterRegion_keeps (dat1 (V7t m) c) (V7t m c) winFacts1.arr_inj (fun _ => rfl) _ fun w' hw' => ?_).symm
        exact out1 w' fun h => hb (congrArg _ (hw'.symm.trans h))
      · exact (Pipeline.afterRegion_off (dat1 (V7t m) c) (V7t m c) Finset.univ b (Finset.mem_sdiff.mpr ⟨Finset.mem_univ _, hw⟩)).symm

/-! ## The calls' records -/

/-- No core owes another anything. -/
def Lv : GSem nD τ sig → Finset Unit := fun g => if g.1.2 = .tc then {()} else ∅
abbrev lv : GSem nD τ sig → Unit → ℕ := fun _ _ => 0

abbrev admm : (p : Fin 2) → (pcfgs (F := F) p).Adm := adm (V7t m)

/-- The two calls' contents. -/
def pdats : (p : Fin 2) → (c : Dev nD) → Dat τ (Elt F) Unit ℕ (Pipeline.UC sig nD τ) ℕ (Pipeline.pin (pcfgs (F := F)) (admm m) p) c
  | ⟨0, _⟩ => fun c => dat0 (V1t m) c
  | ⟨1, _⟩ => fun c => dat1 (V7t m) c

/-- What a core carries beside the buffers. -/
def Ej (_ : Fin 3) (c : Dev nD) : sProp 𝕄 :=
  iprop((∃ Wd, owes (c : Thread nD τ) (0 : CellTallies nD τ sig Unit) Wd) ∗ emp ∗ (∃ r, prngReg c r))

theorem cut (p : Fin 2) : Pipeline.LevelCut (pcfgs (F := F)) (admm m) () Lv lv p (fun _ => 0) (fun _ => 0) where
  hι c w s := by unfold Lv; rw [if_pos rfl]; exact Finset.mem_singleton_self _
  hιb c w s := le_refl _
  hD c g i h := absurd h (lt_irrefl _)

theorem hS0 : arrRefs (τ := τ) spec0 ⊆ ucRefs τ sig := Pipeline.arrRefs_sub_ucRefs spec0 (by decide)
theorem hS1 : arrRefs (τ := τ) spec1 ⊆ ucRefs τ sig := Pipeline.arrRefs_sub_ucRefs spec1 winFacts1.arr_unscoped
theorem hT1 : tblRefs (τ := τ) pre1 ⊆ ucRefs τ sig \ arrRefs spec1 :=
  Pipeline.tblRefs_sub_ucRefs_sdiff spec1 pre1 preFacts1.unscoped preFacts1.disj

set_option backward.isDefEq.respectTransparency.types false in
/-- The first call's record. -/
def R0 : RegionSeg (pcfgs (F := F)) (admm m) (pdats m) () defs₀ Variants.none Lv lv 0 :=
  RegionSeg.ofHeldIn (pcfgs (F := F)) (admm m) (pdats m) () defs₀ Variants.none Lv lv 0 (fun _ => 0) (ucRefs τ sig) (fun _ => BI.emp) (fun _ => BI.emp)
    launch0 rfl (fun c => (body0 (V1t m) c).loose) (fun _ _ => rfl) (fun _ => rfl) (fun c w => (dat0 (V1t m) c).share_full (fun _ => rfl) w)
    (fun c => by show iprop(_ ∗ emp) ⊢ Pipeline.scopedRest spec0 c; iintro ⟨H, -⟩; iexact H)
    (fun c => by show Pipeline.scopedRest spec0 c ⊢ iprop(_ ∗ emp); iintro H; isplitl [H]; (· iexact H); iempintro)
    (fun _ => 0) (cut m 0) (fun c => iprop(∃ r, prngReg c r)) (V1t m) (fun c w => rfl)

theorem pre0 (c : Dev nD) : iprop(StableHlo.held (c : Thread nD τ) (ucRefs τ sig) (V1 m c) ∗ Ej 0 c) ⊢ (R0 m).pre c :=
by
  show _ ⊢ iprop(StableHlo.held (c.tc : Thread nD τ) (arrRefs spec0) (V1t m c) ∗ BI.emp
    ∗ (StableHlo.held (c.tc : Thread nD τ) (ucRefs τ sig \ arrRefs spec0) (V1t m c) ∗ ∃ r, prngReg c r)
    ∗ ∃ Wd, owes (c : Thread nD τ) (0 : CellTallies nD τ sig Unit) Wd)
  unfold Ej
  rw [StableHlo.held_sub_split (c.tc : Thread nD τ) hS0 (V1t m c)]
  iintro ⟨⟨Ha, Hs⟩, HO, -, Hp⟩
  isplitl [Ha]; · iexact Ha
  isplitr; · iempintro
  isplitl [Hs Hp]
  · isplitl [Hs]; · iexact Hs
    iexact Hp
  iexact HO
theorem post0 (c : Dev nD) : (R0 m).post c ⊢ iprop(StableHlo.held (c : Thread nD τ) (ucRefs τ sig) (V2 m (outs m) c) ∗ Ej 1 c) := by
  show iprop(StableHlo.held (c.tc : Thread nD τ) (arrRefs spec0) (afterRegion (dat0 (V1t m) c) (V1t m c)) ∗ BI.emp
    ∗ (StableHlo.held (c.tc : Thread nD τ) (ucRefs τ sig \ arrRefs spec0) (V1t m c) ∗ ∃ r, prngReg c r)
    ∗ ∃ Wd, owes (c : Thread nD τ) (0 : CellTallies nD τ sig Unit) Wd) ⊢ _
  rw [V2_after]
  unfold Ej
  rw [StableHlo.held_sub_split (c.tc : Thread nD τ) hS0 (afterRegion (dat0 (V1t m) c) (V1t m c)),
    StableHlo.held_congr (c.tc : Thread nD τ) (S := ucRefs τ sig \ arrRefs spec0) (V := afterRegion (dat0 (V1t m) c) (V1t m c)) (V' := V1t m c)
      (fun b hb => Pipeline.afterRegion_off (dat0 (V1t m) c) (V1t m c) _ b hb)]
  iintro ⟨Ha, -, ⟨Hs, Hp⟩, HO⟩
  isplitl [Ha Hs]
  · isplitl [Ha]; · iexact Ha
    iexact Hs
  isplitl [HO]; · iexact HO
  isplitr; · iempintro
  iexact Hp

/-- The buffers that the second call neither stages nor reads as a table. -/
abbrev Sr : Finset (DevRef τ sig) := (ucRefs τ sig \ arrRefs spec1) \ tblRefs pre1

theorem v30_in : Pipeline.hbmRefs (τ := τ) {main_v30} ⊆ Sr := by
  intro b hb
  obtain ⟨r, hr, rfl⟩ := Finset.mem_map.mp hb
  obtain rfl := Finset.mem_singleton.mp hr
  refine Finset.mem_sdiff.mpr ⟨Finset.mem_sdiff.mpr ⟨Finset.mem_filter.mpr ⟨StableHlo.devRef_mem_tcRefs main_v30, by decide⟩, fun h => ?_⟩, fun h => ?_⟩
  · obtain ⟨r, hr, e⟩ := Finset.mem_map.mp h
    obtain ⟨w, -, rfl⟩ := Finset.mem_image.mp hr
    exact (by decide : ∀ w : Fin 5, arrRef spec1 w ≠ main_v30) w (Proc.devRef_injective _ e)
  · obtain ⟨r, hr, e⟩ := Finset.mem_map.mp h
    obtain ⟨w, -, rfl⟩ := Finset.mem_image.mp hr
    exact (by decide : ∀ w : Fin 3, pre1.ref w ≠ main_v30) w (Proc.devRef_injective _ e)

theorem own1 : Pipeline.OwnSemFacts spec1 (fun _ : Unit => SemLoc.dma cc1_scratch1.sem) := by decide

variable [∀ e, Nonempty (Elt F e)] (T : TabAll (V7t m))

theorem tbl_after (c : Dev nD) (k : Fin 3) : tbl (V7t m) k = afterRegion (dat1 (V7t m) c) (V7t m c) (Proc.devRef .tc (pre1.ref k)) := by
  obtain rfl : c = 0 := Subsingleton.elim _ _
  refine (Pipeline.afterRegion_off (dat1 (V7t m) 0) (V7t m 0) Finset.univ _ (Finset.mem_sdiff.mpr ⟨Finset.mem_univ _, fun h => ?_⟩)).symm
  obtain ⟨r, hr, e⟩ := Finset.mem_map.mp h
  obtain ⟨w, -, rfl⟩ := Finset.mem_image.mp hr
  exact preFacts1.disj k w (Proc.devRef_injective _ e).symm

set_option backward.isDefEq.respectTransparency.types false in
/-- The second call's record. -/
def R1 : RegionSeg (pcfgs (F := F)) (admm m) (pdats m) () defs₀ Variants.none Lv lv 1 :=
  RegionSeg.ofHeldDHT (pcfgs (F := F)) (admm m) (pdats m) () defs₀ Variants.none Lv lv 1 (fun _ => 0) () (fun _ : Unit => SemLoc.dma cc1_scratch1.sem)
    own1 {main_v30} Sr v30_in launch1 (fun c => (body1 (V7t m) T c).loose) (fun _ _ => rfl) (fun _ => rfl)
    (fun c w => (dat1 (V7t m) c).share_full (fun _ => rfl) w)
    (fun c => by iintro -; iapply (Transfers.MayWaits.zero (c : Thread nD τ) ()); iempintro)
    (V7t m) (fun c => afterRegion (dat1 (V7t m) c) (V7t m c))
    (fun c => by
      show _ ⊢ Phi1 (V7t m) c
      unfold Phi1
      iintro ⟨⟨Hr, Hp, Hs, Hh, -⟩, Ht⟩
      isplitr [Ht]
      · isplitl [Hr]; · iexact Hr
        isplitl [Hp]; · iexact Hp
        isplitl [Hs]; · iexact Hs
        iexact Hh
      iexact Ht)
    (fun c => BI.Entails.refl _)
    (fun _ => 0) (cut m 1) (fun _ => BI.emp) (fun c w => rfl)
    (fun c k => by obtain rfl : c = 0 := Subsingleton.elim _ _; rfl)
    (fun c w => (Pipeline.afterRegion_arr (dat1 (V7t m) c) (V7t m c) winFacts1.arr_inj w).symm)
    (fun c k => tbl_after m c k)

theorem pre1' (c : Dev nD) : iprop(StableHlo.held (c : Thread nD τ) (ucRefs τ sig) (V7 m (outs m) c) ∗ Ej 1 c) ⊢ (R1 m T).pre c := by
  show _ ⊢ iprop(StableHlo.held (c.tc : Thread nD τ) (arrRefs spec1) (V7t m c) ∗ StableHlo.held (c.tc : Thread nD τ) (tblRefs pre1) (V7t m c) ∗ (∃ r, prngReg c r)
    ∗ (StableHlo.held (c.tc : Thread nD τ) Sr (V7t m c) ∗ BI.emp) ∗ ∃ Wd, owes (c : Thread nD τ) (0 : CellTallies nD τ sig Unit) Wd)
  rw [V7_eq]
  unfold Ej
  rw [StableHlo.held_sub_split (c.tc : Thread nD τ) hS1 (V7t m c), StableHlo.held_sub_split (c.tc : Thread nD τ) hT1 (V7t m c)]
  iintro ⟨⟨Ha, Ht, Hs⟩, HO, -, Hp⟩
  isplitl [Ha]; · iexact Ha
  isplitl [Ht]; · iexact Ht
  isplitl [Hp]; · iexact Hp
  isplitl [Hs]
  · isplitl [Hs]; · iexact Hs
    iempintro
  iexact HO

theorem post1 (c : Dev nD) : (R1 m T).post c ⊢ iprop(StableHlo.held (c : Thread nD τ) (ucRefs τ sig) (V8 m (outs m) c) ∗ Ej 2 c) := by
  show iprop(StableHlo.held (c.tc : Thread nD τ) (arrRefs spec1) (afterRegion (dat1 (V7t m) c) (V7t m c))
    ∗ StableHlo.held (c.tc : Thread nD τ) (tblRefs pre1) (afterRegion (dat1 (V7t m) c) (V7t m c)) ∗ (∃ r, prngReg c r)
    ∗ (StableHlo.held (c.tc : Thread nD τ) Sr (V7t m c) ∗ BI.emp) ∗ ∃ Wd, owes (c : Thread nD τ) (0 : CellTallies nD τ sig Unit) Wd) ⊢ _
  rw [V8_after]
  unfold Ej
  rw [StableHlo.held_sub_split (c.tc : Thread nD τ) hS1 (afterRegion (dat1 (V7t m) c) (V7t m c)),
    StableHlo.held_sub_split (c.tc : Thread nD τ) hT1 (afterRegion (dat1 (V7t m) c) (V7t m c)),
    StableHlo.held_congr (c.tc : Thread nD τ) (S := Sr) (V := afterRegion (dat1 (V7t m) c) (V7t m c)) (V' := V7t m c)
      (fun b hb => Pipeline.afterRegion_off (dat1 (V7t m) c) (V7t m c) _ b (Finset.mem_sdiff.mp hb).1)]
  iintro ⟨Ha, Ht, Hp, ⟨Hs, -⟩, HO⟩
  isplitl [Ha Ht Hs]
  · isplitl [Ha]; · iexact Ha
    isplitl [Ht]; · iexact Ht
    iexact Hs
  isplitl [HO]; · iexact HO
  isplitr; · iempintro
  iexact Hp

variable (ρ : Dev nD → PrngReg)

/-- The launch element: the staging cells' rounds and the pipeline's transfers; no counter yet. -/
def u₀ : Pipeline.UC sig nD τ :=
  (initOf (Pipeline.cells (Pipeline.pin (pcfgs (F := F)) (admm m)) (cellOf_inj (admm m))) (Pipeline.launchToks (Pipeline.pin (pcfgs (F := F)) (admm m)) (cellOf_inj (admm m))), 1)

set_option backward.isDefEq.respectTransparency.types false in
/-- Every run of the program ends with the arguments as launched and the result at what the second call leaves, once the tables are as the
    tokens need them. -/
theorem run (T : TabAll (V7t m)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_v31) = V8 m (outs m) c main_v31)
      ∧ r.2.sem = fun _ => 0) :=
  run_cond m embL () Variants.none Lv lv (fun g h => if_neg h) ρ (outs m) (admm m) (pdats m) 0 (fun _ => BI.emp) (u₀ m)
    (by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    Ej
    (by
      iintro ⟨H, -⟩
      imodintro
      iapply (show (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ BI.emp))
          ⊢ (bigSep Finset.univ (Ej 0) : sProp 𝕄) from bigSep_mono (fun c _ => show iprop(unscopedSems0 c ∗ owes (c : Thread nD τ) ((0 : Dev nD → CellTallies nD τ sig Unit) c) ∅ ∗ Pipeline.launchCred (0 : Dev nD → CellTallies nD τ sig Unit) c ∗ prngReg c (ρ c) ∗ BI.emp) ⊢ (Ej 0 c : sProp 𝕄) from by
        unfold Ej
        iintro ⟨-, HO, -, Hp, -⟩
        isplitl [HO]; · iexists ∅; iexact HO
        isplitr; · iempintro
        iexists _; iexact Hp))
      iexact H)
    (fun c => by unfold Ej; iintro ⟨HO, -⟩; iexact HO)
    (R0 m) (pre0 m) (post0 m) (R1 m T) (pre1' m T) (post1 m T)

end Cert.Kernel.Hand

end
-- ==== Proof.K.Host.lean ====
/-
  What the host operations between the two calls leave in the buffers the second call reads, as functions of the arguments.
-/
module

public import proofs.«01_k».proof.Proof.K.Run
public import Idealize.ShloMosaic.Lib.StableHlo.RunRead
public import Idealize.ShloMosaic.Lib.StableHlo.Predicate

@[expose] public section

set_option maxRecDepth 8192

noncomputable section

namespace Cert.Kernel.Hand

open Idealize.ShloMosaic Idealize.ShloMosaic.TcCoe Idealize.ShloMosaic.Tactic
open Cert.Kernel.Gen

variable {F : FTy → Type} [FloatOps F]

/-- The positions sorted by their ids. -/
def ordOf (ids : S6144.Idx → BitVec 32) : S6144.Idx → BitVec 32 :=
  (Host.sort2 S6144 0 comparator_i32_i32_d0 ids (iotaInDim S6144 32 0)).2

/-- Indices wrapped once: a negative one counts from the end. -/
def wrapped (ord : S6144.Idx → BitVec 32) : S6144.Idx → BitVec 32 :=
  select (cmpi .slt ord (broadcastInDim S6144 ![] bcast_S_S6144 (constantI S_ 32 0#32)))
    (addi ord (broadcastInDim S6144 ![] bcast_S_S6144 (constantI S_ 32 6144#32))) ord

/-- The table read in the sorted order. -/
def taken {α : Type} (x : S6144.Idx → α) (ord : S6144.Idx → BitVec 32) : S6144.Idx → α :=
  Host.gather gather_S6144_S6144x1_S6144_n_0_n_n_0_1_1 x (broadcastInDim S6144x1 ![0] bcast_S6144_S6144x1_0 (wrapped ord))

/-- The 51 multiples of 640. -/
def limits : S51.Idx → BitVec 32 :=
  muli (iotaInDim S51 32 0) (broadcastInDim S51 ![] bcast_S_S51 (constantI S_ 32 640#32))

/-- How many of the sorted ids lie below each limit. -/
def offsOf (sid : S6144.Idx → BitVec 32) (lim : S51.Idx → BitVec 32) : S51.Idx → BitVec 32 :=
  Host.reduce IntOp.addi (extui 32 (cmpi .slt
    (broadcastInDim S6144x51 ![0, 1] bcast_S6144x1_S6144x51_0_1 (broadcastInDim S6144x1 ![0] bcast_S6144_S6144x1_0 sid))
    (broadcastInDim S6144x51 ![0, 1] bcast_S1x51_S6144x51_0_1 (broadcastInDim S1x51 ![1] bcast_S51_S1x51_1 lim))) natLt_1_32)
    (constantI S_ 32 0#32) reducesTo_S6144x51_S51_d0 h_S_

variable (V : Valuation τ sig (Elt F))

theorem read_v3 : StableHlo.after hostOps1 V main_v3 = shapeCast S6144 (V main_arg6 : S2x3072.Idx → BitVec 32) shapeCasts_S2x3072_S6144 := by
  after_reads_simp
  rfl
theorem read_v4 : StableHlo.after hostOps1_1 V main_v4 = ordOf (V main_v3) := by
  after_reads_simp
  rfl
theorem read_v11 : StableHlo.after hostOps1_2 V main_v11 = taken (V main_v3 : S6144.Idx → BitVec 32) (V main_v4) := by
  after_reads_simp
  rfl
theorem read_v14 : StableHlo.after hostOps1_2 V main_v14 = limits := by
  after_reads_simp
  rfl
theorem read_v15 : StableHlo.after hostOps1_3 V main_v15 = offsOf (V main_v11) (V main_v14) := by
  after_reads_simp
  simp only [StableHlo.TRef.ofBuf_toBuf]
  have k15 : ∀ X : (⟨S51, .i32⟩ : BufTy).Contents (Elt F), (StableHlo.TRef.of main_v15 : StableHlo.TRef sig ⟨S51, .i32⟩).toBuf X = X := fun _ => rfl
  have k14 : ∀ X, (StableHlo.TRef.of main_v14 : StableHlo.TRef sig ⟨S51, .i32⟩).ofBuf X = (X : (⟨S51, .i32⟩ : BufTy).Contents (Elt F)) := fun _ => rfl
  have k11 : ∀ X, (StableHlo.TRef.of main_v11 : StableHlo.TRef sig ⟨S6144, .i32⟩).ofBuf X = (X : (⟨S6144, .i32⟩ : BufTy).Contents (Elt F)) := fun _ => rfl
  refine (k15 _).trans ?_
  rw [k14, k11]
  unfold offsOf
  with_reducible rfl
theorem read_v23 : StableHlo.after hostOps1_4 V main_v23
    = taken (shapeCast S6144 (V main_arg5 : S2x3072.Idx → F .f32) shapeCasts_S2x3072_S6144) (V main_v4) := by
  after_reads_simp
  rfl
theorem read_v26 : StableHlo.after hostOps1_4 V main_v26
    = shapeCast S50x6144x1 (transpose S50x6144 [1, 0] (shapeCast S6144x50 (V main_arg1 : S2x3072x50.Idx → F .f32) shapeCasts_S2x3072x50_S6144x50)
        transposes_S6144x50_S50x6144_1_0) shapeCasts_S50x6144_S50x6144x1 := by
  after_reads_simp
  rfl
theorem read_v27 : StableHlo.after hostOps1_4 V main_v27
    = shapeCast S6144x32000 (V main_arg0 : S2x3072x32000.Idx → Elt F .fp8e5m2) shapeCasts_S2x3072x32000_S6144x32000 := by
  after_reads_simp
  rfl
theorem read_v30 : StableHlo.after hostOps1_4 V main_v30
    = Host.bitcastConvertWiden S1536x4096 32 (transpose S1536x4096x4 [0, 2, 1]
        (shapeCast S1536x4x4096 (V main_arg4 : S2x3072x4096.Idx → BitVec 8) shapeCasts_S2x3072x4096_S1536x4x4096)
        transposes_S1536x4x4096_S1536x4096x4_0_2_1) splits_S1536x4096_w32_S1536x4096x4_w8 := by
  after_reads_simp
  rfl

variable (m : (ℓ : Loc nD τ sig) → Buf (Elt F) ℓ) (c : Dev nD)

/-- The ids in one row. -/
abbrev idsOf : S6144.Idx → BitVec 32 :=
  shapeCast S6144 (m ((c : Thread nD τ).loc main_arg6) : S2x3072.Idx → BitVec 32) shapeCasts_S2x3072_S6144

theorem V_v3 (outs : Outs (F := F)) : V3 m outs c main_v3 = idsOf m c := by
  refine (read_v3 _).trans ?_
  rw [V2_of m outs c main_arg6 (by decide), V1_of m c main_arg6 (by decide)]
theorem V_v4 : V7t m c main_v4 = ordOf (idsOf m c) := by
  refine (V7_of m _ c main_v4 (by decide)).trans ((V6_of m _ c main_v4 (by decide)).trans ((V5_of m _ c main_v4 (by decide)).trans ?_))
  refine (read_v4 _).trans ?_
  rw [V_v3]
theorem V_v11 : V7t m c main_v11 = taken (idsOf m c) (ordOf (idsOf m c)) := by
  refine (V7_of m _ c main_v11 (by decide)).trans ((V6_of m _ c main_v11 (by decide)).trans ?_)
  refine (read_v11 _).trans ?_
  rw [V4_of m _ c main_v3 (by decide), V_v3]
  exact congrArg _ ((read_v4 _).trans (by rw [V_v3]))
theorem V_v15 : V7t m c main_v15 = offsOf (taken (idsOf m c) (ordOf (idsOf m c))) limits := by
  refine (V7_of m _ c main_v15 (by decide)).trans ?_
  refine (read_v15 _).trans ?_
  rw [show V5 m (outs0 m) c main_v14 = limits from read_v14 _]
  rw [← V_v11]
  exact congrArg (offsOf · limits) ((V7_of m _ c main_v11 (by decide)).trans (V6_of m _ c main_v11 (by decide))).symm

end Cert.Kernel.Hand
-- ==== Proof.Sorted.lean ====
/-
  The permutation that sorts a row of signed words, and the count of the words below a limit.
-/
module

public import Idealize.ShloMosaic.Lib.SortFacts
public import Idealize.ShloMosaic.Lib.StableHlo.Predicate

@[expose] public section

noncomputable section

namespace Sorted

open Idealize.ShloMosaic

variable {n : ℕ}

/-- Word `k` comes before word `k'`. -/
def less (w : Fin n → BitVec 32) (k k' : Fin n) : Bool := IntOp.cmpi .slt (w k) (w k') == 1#1

/-- The position of the word that sorting puts at place `p`. -/
def src (w : Fin n → BitVec 32) : Fin n → Fin n := sortedFrom (less w)

theorem less_iff (w : Fin n → BitVec 32) (k k' : Fin n) : less w k k' = decide ((w k).toInt < (w k').toInt) := by
  unfold less
  rw [Bool.eq_iff_iff, beq_iff_eq, decide_eq_true_iff]
  show BitVec.ofBool ((w k).slt (w k')) = 1#1 ↔ _
  rw [StableHlo.Predicate.ofBool_eq_one_iff, BitVec.slt_iff_toInt_lt]

/-- Every position has exactly one place. -/
theorem src_bijective (w : Fin n → BitVec 32) : Function.Bijective (src w) :=
  ⟨sortedFrom_injective _, sortedFrom_surjective _⟩

/-- The words at the places ascend. -/
theorem src_mono (w : Fin n → BitVec 32) {i j : Fin n} (h : i ≤ j) : (w (src w i)).toInt ≤ (w (src w j)).toInt := by
  rcases eq_or_lt_of_le h with rfl | h
  · exact le_rfl
  · have := sortedFrom_noInversion (less w) (less w) (fun a b => by simp only [less_iff, decide_eq_true_iff, decide_eq_false_iff_not]; omega)
      (fun a b h => h) (fun a b c => by simp only [less_iff, decide_eq_false_iff_not]; omega) i j h
    rw [less_iff, decide_eq_false_iff_not] at this
    exact not_lt.mp this

/-- In an ascending row the places below a limit are the first ones, as many as there are. -/
theorem lt_card_iff (f : Fin n → ℤ) (hf : ∀ i j : Fin n, i ≤ j → f i ≤ f j) (K : ℤ) (p : Fin n) :
    p.val < (Finset.univ.filter fun q => f q < K).card ↔ f p < K := by
  constructor
  · intro h
    by_contra hp
    have hs : (Finset.univ.filter fun q => f q < K) ⊆ Finset.Iio p := by
      intro q hq
      rw [Finset.mem_filter] at hq
      rw [Finset.mem_Iio]
      by_contra hqp
      exact hp (lt_of_le_of_lt (hf p q (not_lt.mp hqp)) hq.2)
    have := Finset.card_le_card hs
    rw [Fin.card_Iio] at this
    omega
  · intro h
    have hs : Finset.Iic p ⊆ (Finset.univ.filter fun q => f q < K) := by
      intro q hq
      rw [Finset.mem_Iic] at hq
      rw [Finset.mem_filter]
      exact ⟨Finset.mem_univ _, lt_of_le_of_lt (hf q p hq) h⟩
    have := Finset.card_le_card hs
    rw [Fin.card_Iic] at this
    omega

/-! ## The same, read off the printed operations on a row of `n` words -/

local notation "Row" n => (⟨1, ![n]⟩ : Shape)

/-- The row's words by position. -/
abbrev words (x : (Row n).Idx → BitVec 32) : Fin n → BitVec 32 := fun k => x (Shape.Idx.ofFin k)

/-- A sort of the row carrying its positions puts the source position at each place. -/
theorem argsort_apply (cmp : BitVec 32 × BitVec 32 → BitVec 32 × BitVec 32 → BitVec 1)
    (hcmp : ∀ a b, cmp a b = IntOp.cmpi .slt a.1 b.1) (x : (Row n).Idx → BitVec 32) (p : Fin n) :
    (Host.sort2 (Row n) 0 cmp x (iotaInDim (Row n) 32 0)).2 (Shape.Idx.ofFin p) = BitVec.ofNat 32 (src (words x) p).val := by
  unfold Host.sort2
  simp [hcmp]
  rfl

/-- A word read as a natural below `2 ^ 31` is not negative. -/
theorem not_neg {w : BitVec 32} (h : w.toNat < 2 ^ 31) : IntOp.cmpi .slt w 0#32 ≠ 1#1 := by
  show ¬ BitVec.ofBool (w.slt 0#32) = 1#1
  rw [StableHlo.Predicate.ofBool_eq_one_iff, BitVec.slt_iff_toInt_lt, StableHlo.Predicate.toInt_eq_toNat_of_lt h]
  simp

/-- A row read at a column of positions inside it. -/
theorem take_apply {α : Type} (d : GatherDims (Row n) ⟨2, ![n, 1]⟩ (Row n)) (hcoll : d.collapsedSliceDims = [0])
    (hob : d.operandBatchingDims = []) (hsim : d.startIndexMap = [0]) (hivd : d.indexVectorDim = 1)
    (hb : (Row n).BroadcastsInDim ⟨2, ![n, 1]⟩ ![0]) (hn : n < 2 ^ 31)
    (x : (Row n).Idx → α) (o : (Row n).Idx → BitVec 32) (p q : Fin n) (h : (o (Shape.Idx.ofFin p)).toNat = q.val) :
    Host.gather d x (broadcastInDim ⟨2, ![n, 1]⟩ ![0] hb o) (Shape.Idx.ofFin p) = x (Shape.Idx.ofFin q) := by
  have hq := q.isLt
  refine (StableHlo.Predicate.gather_take d hcoll hob hsim hivd x _ p (by omega)).trans ?_
  congr 2
  apply Fin.ext
  show min (broadcastInDim ⟨2, ![n, 1]⟩ ![0] hb o (StableHlo.Predicate.ixP p)).toInt.toNat (n - 1) = q.val
  rw [StableHlo.Predicate.bcast_col1, StableHlo.Predicate.toInt_eq_toNat_of_lt (by omega)]
  omega

/-- A word that is not below a nonnegative number is its own natural number. -/
theorem toNat_of_le {w : BitVec 32} {K : ℕ} (h : ¬ w.toInt < (K : ℤ)) : (w.toNat : ℤ) = w.toInt := by
  rw [BitVec.toInt_eq_toNat_cond] at h ⊢
  split
  · rfl
  · rename_i hh
    rw [if_neg hh] at h
    have := w.isLt
    omega

end Sorted
-- ==== Proof.K.Tables.lean ====
/-
  The tables the second call walks: a sorting permutation, the ids in that order, and the 51 bounds of their runs.
-/
module

public import proofs.«01_k».proof.Proof.K.Host
public import proofs.«01_k».proof.Proof.Sorted

@[expose] public section

set_option maxRecDepth 8192

noncomputable section

namespace Cert.Kernel.Hand

open Idealize.ShloMosaic Idealize.ShloMosaic.TcCoe Idealize.ShloMosaic.Tactic
open Cert.Kernel.Gen

variable {F : FTy → Type} [FloatOps F]

/-- Place `p` of a row of 6144. -/
def place (p : Fin 6144) : S6144.Idx := Shape.Idx.ofFin p
/-- Bound `q` of the 51. -/
def place51 (q : Fin 51) : S51.Idx := Shape.Idx.ofFin q

theorem eq_place (i : S6144.Idx) : ∃ p, i = place p := ⟨i 0, Shape.Idx.eq_ofFin (n := 6144) i⟩

/-- The row's words by position. -/
abbrev words (ids : S6144.Idx → BitVec 32) : Fin 6144 → BitVec 32 := fun k => ids (place k)

/-- The position of the word at sorted place `p`. -/
abbrev src (ids : S6144.Idx → BitVec 32) : Fin 6144 → Fin 6144 := Sorted.src (words ids)

theorem ordOf_apply (ids : S6144.Idx → BitVec 32) (p : Fin 6144) :
    ordOf ids (place p) = BitVec.ofNat 32 (src ids p).val :=
  Sorted.argsort_apply (n := 6144) comparator_i32_i32_d0 (fun _ _ => rfl) ids p

theorem ordOf_toNat (ids : S6144.Idx → BitVec 32) (p : Fin 6144) : (ordOf ids (place p)).toNat = (src ids p).val := by
  rw [ordOf_apply, BitVec.toNat_ofNat]
  have := (src ids p).isLt
  omega

theorem ordOf_lt (ids : S6144.Idx → BitVec 32) (i : S6144.Idx) : (ordOf ids i).toNat < 6144 := by
  obtain ⟨p, rfl⟩ := eq_place i
  rw [ordOf_toNat]
  exact Fin.isLt _

theorem wrapped_eq (ord : S6144.Idx → BitVec 32) (h : ∀ i, (ord i).toNat < 6144) : wrapped ord = ord := by
  funext i
  have e : IntOp.cmpi .slt (ord i) 0#32 ≠ 1#1 := Sorted.not_neg (lt_trans (h i) (by decide))
  show (if IntOp.cmpi .slt (ord i) 0#32 = 1#1 then IntOp.addi (ord i) 6144#32 else ord i) = ord i
  exact if_neg e

theorem wrapped_ordOf (ids : S6144.Idx → BitVec 32) : wrapped (ordOf ids) = ordOf ids := wrapped_eq _ (ordOf_lt ids)

theorem taken_ordOf {α : Type} (x : S6144.Idx → α) (ids : S6144.Idx → BitVec 32) (p : Fin 6144) :
    taken x (ordOf ids) (place p) = x (place (src ids p)) := by
  unfold taken
  rw [wrapped_ordOf]
  exact Sorted.take_apply (n := 6144) _ rfl rfl rfl rfl _ (by decide) x (ordOf ids) p (src ids p) (ordOf_toNat ids p)

theorem limits_toInt (q : Fin 51) : (limits (place51 q)).toInt = 640 * (q.val : ℤ) := by
  show (BitVec.ofNat 32 q.val * 640#32).toInt = _
  have := q.isLt
  have e : (BitVec.ofNat 32 q.val * 640#32).toNat = 640 * q.val := by
    rw [BitVec.toNat_mul, BitVec.toNat_ofNat, BitVec.toNat_ofNat, Nat.mod_eq_of_lt (by omega : q.val < 2 ^ 32)]
    omega
  rw [StableHlo.Predicate.toInt_eq_toNat_of_lt (by omega), e]
  push_cast
  rfl

theorem offsOf_toNat (sid : S6144.Idx → BitVec 32) (q : Fin 51) :
    (offsOf sid limits (place51 q)).toNat
      = (Finset.univ.filter fun p : Fin 6144 => (sid (place p)).toInt < 640 * (q.val : ℤ)).card := by
  unfold offsOf
  refine (StableHlo.Predicate.toNat_reduce_count_rows (n := 6144) (m := 51) (by decide) _ _ _ _ _).trans ?_
  refine congrArg Finset.card (Finset.filter_congr fun p _ => ?_)
  show BitVec.ofBool ((broadcastInDim S6144x51 ![0, 1] _ (broadcastInDim S6144x1 ![0] _ sid) (StableHlo.Predicate.ij p q)).slt
    (broadcastInDim S6144x51 ![0, 1] _ (broadcastInDim S1x51 ![1] _ limits) (StableHlo.Predicate.ij p q))) = 1#1 ↔ _
  rw [StableHlo.Predicate.ofBool_eq_one_iff, BitVec.slt_iff_toInt_lt]
  refine iff_of_eq (congrArg₂ _ ?_ ?_)
  · exact congrArg BitVec.toInt (StableHlo.Predicate.bcast_rows (n := 6144) (m := 51) _ _ sid p q)
  · exact (congrArg BitVec.toInt (StableHlo.Predicate.bcast_cols (n := 6144) (m := 51) _ _ limits p q)).trans (limits_toInt q)

variable (ids : S6144.Idx → BitVec 32)

/-- The ids in sorted order. -/
abbrev sidOf : S6144.Idx → BitVec 32 := taken ids (ordOf ids)
/-- The bounds of the runs. -/
abbrev boundsOf : S51.Idx → BitVec 32 := offsOf (sidOf ids) limits

theorem at51_eq (c : ℕ) (hc : c ≤ 50) : at51 c = place51 ⟨c, by omega⟩ := by
  funext a
  apply Fin.ext
  have : a = 0 := Subsingleton.elim _ _
  subst this
  exact Nat.mod_eq_of_lt (by omega)

/-- A place lies before bound `c` exactly when its id is below `640 c`. -/
theorem lt_bound_iff (c : ℕ) (hc : c ≤ 50) (p : Fin 6144) :
    p.val < (bound (boundsOf ids) c).toNat ↔ (words ids (src ids p)).toInt < 640 * (c : ℤ) := by
  unfold bound
  rw [at51_eq c hc, offsOf_toNat]
  simp only [taken_ordOf]
  exact Sorted.lt_card_iff (fun q => (words ids (src ids q)).toInt) (fun i j h => Sorted.src_mono _ h) _ p

theorem bound_le (c : ℕ) (hc : c ≤ 50) : (bound (boundsOf ids) c).toNat ≤ 6144 := by
  by_contra h
  unfold bound at h
  rw [at51_eq c hc, offsOf_toNat] at h
  have := Finset.card_le_univ (Finset.univ.filter fun p : Fin 6144 => (sidOf ids (place p)).toInt < 640 * (c : ℤ))
  rw [Fintype.card_fin] at this
  exact h this

theorem pos_eq (p : Fin 6144) : pos p.val = place p := by
  funext a
  apply Fin.ext
  have : a = 0 := Subsingleton.elim _ _
  subst this
  exact Nat.mod_eq_of_lt p.isLt

/-- Tables whose bounds split the places by multiples of 640 are in order: in run `c` every id lies in the block's 640 rows. -/
theorem tab_of (B : ℕ → BitVec 32) (ord sid : S6144.Idx → BitVec 32) (hB : ∀ c ≤ 50, (B c).toNat ≤ 6144) (hord : ∀ i, (ord i).toNat < 6144)
    (hlt : ∀ c ≤ 50, ∀ p : Fin 6144, p.val < (B c).toNat ↔ (sid (place p)).toInt < 640 * (c : ℤ)) (c : ℕ) (hc : c < 50) :
    Tab c ord sid (B c) (B (c + 1)) where
  seg := by
    refine ⟨?_, hB _ (by omega)⟩
    by_contra h
    have h' := not_le.mp h
    have hp := lt_of_lt_of_le h' (hB c (by omega))
    have h1 := (hlt c (by omega) ⟨_, hp⟩).mp h'
    have h2 := (not_congr (hlt (c + 1) (by omega) ⟨_, hp⟩)).mp (lt_irrefl _)
    push_cast at h2
    omega
  ord_lt := hord
  sid_in := by
    intro p h1 h2
    have hp : p < 6144 := lt_of_lt_of_le h2 (hB (c + 1) (by omega))
    have h1' := (not_congr (hlt c (by omega) ⟨p, hp⟩)).mp (not_lt.mpr h1)
    have h2' := (hlt (c + 1) (by omega) ⟨p, hp⟩).mp h2
    rw [show pos p = place ⟨p, hp⟩ from pos_eq ⟨p, hp⟩]
    have hn := Sorted.toNat_of_le (K := 640 * c) (by push_cast; exact h1')
    push_cast at h2'
    exact ⟨(sid (place ⟨p, hp⟩)).toNat - 640 * c, by omega, by omega⟩

theorem tab (c : ℕ) (hc : c < 50) : Tab c (ordOf ids) (sidOf ids) (bound (boundsOf ids) c) (bound (boundsOf ids) (c + 1)) :=
  tab_of (bound (boundsOf ids)) (ordOf ids) (sidOf ids) (bound_le ids) (ordOf_lt ids)
    (fun c hc p => (lt_bound_iff ids c hc p).trans (iff_of_eq (congrArg (· < 640 * (c : ℤ)) (congrArg BitVec.toInt (taken_ordOf ids ids p).symm)))) c hc

/-- The tables are in order, whatever the arguments. -/
theorem tabAll (m : (ℓ : Loc nD τ sig) → Buf (Elt F) ℓ) : TabAll (V7t m) := by
  intro c hc
  rw [V_v4, V_v11, V_v15]
  exact tab _ c hc

end Cert.Kernel.Hand
-- ==== Proof.KI.Words.lean ====
/-
  The words that the second call's loops compute: how many trips each loop makes, which positions its trips read, and that every access is in
  bounds, for a segment `[lo, hi)` of the sorted token list.
-/
module

public import proofs.«01_k».proof.Proof.Gen.KernelIdeal.Loops
public import Idealize.ShloMosaic.Lib.LoopRemainder

@[expose] public section

namespace Cert.KernelIdeal.Hand

open Idealize.ShloMosaic Idealize.ShloMosaic.Affine

/-- A segment of the sorted list: its two end words are ordered and within the 6144 tokens. -/
def Seg (lo hi : BitVec 32) : Prop := lo.toNat ≤ hi.toNat ∧ hi.toNat ≤ 6144

theorem isInt_of_toNat (x : BitVec 32) (h : x.toNat < 2 ^ 31) : IsInt x (x.toNat : Int) := by
  have := Affine.word x
  rwa [BitVec.toInt_eq_toNat_of_lt (by omega)] at this

/-- A loop bound as the lowering spells it is the count itself. -/
theorem count_word (x : BitVec 32) :
    Scalar.addi 0#32 (Scalar.muli (Scalar.divsi (Scalar.subi (Scalar.divsi (Scalar.addi (Scalar.subi x 0#32) (Scalar.subi 1#32 1#32)) 1#32) 0#32) 1#32) 1#32) = x := by
  simp only [Scalar.addi, Scalar.muli, Scalar.divsi, Scalar.subi, WordArith.divsi_one, IntOp.addi, IntOp.muli, IntOp.subi]
  simp

/-- The number of 64-token batches. -/
theorem batches (lo hi : BitVec 32) (h : Seg lo hi) :
    IsInt (Scalar.divsi (Scalar.addi (Scalar.subi hi lo) 63#32) 64#32) (((hi.toNat - lo.toNat + 63) / 64 : ℕ) : Int) := by
  obtain ⟨h1, h2⟩ := h
  exact Affine.divsi (ea := (hi.toNat : Int) - lo.toNat + 63) (eb := 64)
    (Affine.addi (Affine.subi (isInt_of_toNat hi (by omega)) (isInt_of_toNat lo (by omega)) ⟨rfl, by omega, by omega⟩)
      (Affine.ofNat 63 ⟨rfl, by omega⟩) ⟨rfl, by omega, by omega⟩) (Affine.ofNat 64 ⟨rfl, by omega⟩) ⟨by omega, by omega, by omega⟩

/-- The first position of batch `b`. -/
theorem batch_start (lo hi : BitVec 32) (h : Seg lo hi) (b : ℕ) (hb : b ≤ 96) :
    IsInt (Scalar.addi lo (Scalar.muli (Scalar.addi 0#32 (Scalar.muli (Scf.iv 0#32 1#32 b) 1#32)) 64#32)) (lo.toNat + 64 * b : Int) := by
  obtain ⟨h1, h2⟩ := h
  refine Affine.addi (eb := 64 * b) (isInt_of_toNat lo (by omega))
    (Affine.muli (ea := b) (Affine.addi (ea := 0) (eb := b) (Affine.ofNat 0 ⟨rfl, by omega⟩)
      (Affine.muli (ea := b) (Affine.iv (Affine.ofNat 0 ⟨rfl, by omega⟩) (Affine.ofNat 1 ⟨rfl, by omega⟩) b ⟨by omega, by omega, by omega⟩)
        (Affine.ofNat 1 ⟨rfl, by omega⟩) ⟨by omega, by omega, by omega⟩) ⟨by omega, by omega, by omega⟩)
      (Affine.ofNat 64 ⟨rfl, by omega⟩) ⟨by push_cast; omega, by omega, by omega⟩) ⟨rfl, by omega, by omega⟩

/-- The number of tokens of batch `b`. -/
theorem batch_count (lo hi : BitVec 32) (h : Seg lo hi) (b : ℕ) (hb : lo.toNat + 64 * b ≤ hi.toNat) :
    IsInt (Scalar.minsi (Scalar.subi hi (Scalar.addi lo (Scalar.muli (Scalar.addi 0#32 (Scalar.muli (Scf.iv 0#32 1#32 b) 1#32)) 64#32))) 64#32)
      ((min (hi.toNat - lo.toNat - 64 * b) 64 : ℕ) : Int) := by
  have h' := h
  obtain ⟨h1, h2⟩ := h
  exact Affine.minsi (Affine.subi (isInt_of_toNat hi (by omega)) (batch_start lo hi h' b (by omega)) ⟨rfl, by omega, by omega⟩)
    (Affine.ofNat 64 ⟨rfl, by omega⟩) (by push_cast; omega)

/-- An inner loop's induction word. -/
theorem inner (j : ℕ) (hj : j ≤ 64) : IsInt (Scalar.addi 0#32 (Scalar.muli (Scf.iv 0#32 1#32 j) 1#32)) (j : Int) :=
  Affine.addi (ea := 0) (eb := j) (Affine.ofNat 0 ⟨rfl, by omega⟩)
    (Affine.muli (ea := j) (Affine.iv (Affine.ofNat 0 ⟨rfl, by omega⟩) (Affine.ofNat 1 ⟨rfl, by omega⟩) j ⟨by omega, by omega, by omega⟩)
      (Affine.ofNat 1 ⟨rfl, by omega⟩) ⟨by omega, by omega, by omega⟩) ⟨by omega, by omega, by omega⟩

/-- A count loop makes as many trips as its word says, and has a meaning. -/
theorem count_trips (x : BitVec 32) (n : ℕ) (hx : IsInt x (n : Int)) : Scf.trips 0#32 x 1#32 = n :=
  Affine.trips_eq (Affine.ofNat 0 ⟨rfl, by omega⟩) hx (Affine.ofNat 1 ⟨rfl, by omega⟩) n ⟨by omega, by omega⟩
theorem count_ok (x : BitVec 32) (n : ℕ) (hn : n < 2 ^ 30) (hx : IsInt x (n : Int)) : Scf.OK 0#32 x 1#32 :=
  Affine.ok (Affine.ofNat 0 ⟨rfl, by omega⟩) hx (Affine.ofNat 1 ⟨rfl, by omega⟩) ⟨by omega, by omega⟩

section Trips

variable (lo hi : BitVec 32) (h : Seg lo hi)

theorem t1_ub : (k1_t1_loop lo hi).ub = Scalar.divsi (Scalar.addi (Scalar.subi hi lo) 63#32) 64#32 := count_word _
include h in
/-- The outer loop makes one trip per batch. -/
theorem t1_trips : (k1_t1_loop lo hi).trips = (hi.toNat - lo.toNat + 63) / 64 := by
  show Scf.trips 0#32 (k1_t1_loop lo hi).ub 1#32 = _
  rw [t1_ub]; exact count_trips _ _ (batches lo hi h)
include h in
theorem t1_okay : (k1_t1_loop lo hi).OK := by
  show Scf.OK 0#32 (k1_t1_loop lo hi).ub 1#32
  rw [t1_ub]; exact count_ok _ _ (by have := h.2; omega) (batches lo hi h)

/-- The tokens of batch `b`. -/
abbrev cnt (lo hi : BitVec 32) (b : ℕ) : ℕ := min (hi.toNat - lo.toNat - 64 * b) 64

variable (b : Fin (k1_t1_loop lo hi).trips)

include h in
theorem batch_lt : lo.toNat + 64 * b.val < hi.toNat := by
  have hb : b.val < (hi.toNat - lo.toNat + 63) / 64 := lt_of_lt_of_eq b.isLt (t1_trips lo hi h)
  generalize b.val = n at hb ⊢
  omega
include h in
theorem t2_trips : (k1_t2_loop lo hi b).trips = cnt lo hi b := by
  have hc := batch_count lo hi h b (by have := batch_lt lo hi h b; omega)
  have e : (k1_t2_loop lo hi b).ub = _ := count_word _
  show Scf.trips 0#32 (k1_t2_loop lo hi b).ub 1#32 = _
  rw [e]; exact count_trips _ _ hc
include h in
theorem t2_okay : (k1_t2_loop lo hi b).OK := by
  have hc := batch_count lo hi h b (by have := batch_lt lo hi h b; omega)
  have e : (k1_t2_loop lo hi b).ub = _ := count_word _
  show Scf.OK 0#32 (k1_t2_loop lo hi b).ub 1#32
  rw [e]; exact count_ok _ _ (by omega) hc
include h in
theorem t4_trips : (k1_t4_loop lo hi b).trips = cnt lo hi b := t2_trips lo hi h b
include h in
theorem t6_trips : (k1_t6_loop lo hi b).trips = cnt lo hi b := t2_trips lo hi h b

/-- The issue loop's trip `j` reads the order table at position `lo + 64 b + j`; -/
theorem off3_eq (h : Seg lo hi) (j : Fin (k1_t2_loop lo hi b).trips) : k1_off3 lo hi b j = ![lo.toNat + 64 * b.val + j.val] := by
  have hj : j.val < min (hi.toNat - lo.toNat - 64 * b.val) 64 := lt_of_lt_of_eq j.isLt (t2_trips lo hi h b)
  have hb := batch_lt lo hi h b; have h2 := h.2
  exact Affine.vec_cons (Affine.addi (batch_start lo hi h b (by omega)) (inner j (by omega)) ⟨rfl, by omega, by omega⟩) (by push_cast; omega) rfl
/-- and fills row `j` of the row buffer; -/
theorem off4_eq (h : Seg lo hi) (j : Fin (k1_t2_loop lo hi b).trips) : k1_off4 lo hi b j = ![j.val, 0] := by
  have hj : j.val < min (hi.toNat - lo.toNat - 64 * b.val) 64 := lt_of_lt_of_eq j.isLt (t2_trips lo hi h b)
  exact Affine.vec_cons (inner j (by omega)) rfl rfl
/-- the waiting loop's trip `j` names row `j`; -/
theorem off9_eq (h : Seg lo hi) (j : Fin (k1_t4_loop lo hi b).trips) : k1_off9 lo hi b j = ![j.val, 0] := off4_eq lo hi b h j
/-- the accumulating loop's trip `j` reads the tables at position `lo + 64 b + j` -/
theorem off11_eq (h : Seg lo hi) (j : Fin (k1_t6_loop lo hi b).trips) : k1_off11 lo hi b j = ![lo.toNat + 64 * b.val + j.val] := off3_eq lo hi b h j
theorem off14_eq (h : Seg lo hi) (j : Fin (k1_t6_loop lo hi b).trips) : k1_off14 lo hi b j = ![lo.toNat + 64 * b.val + j.val] := off3_eq lo hi b h j
/-- and row `j` of the row buffer. -/
theorem off12_eq (h : Seg lo hi) (j : Fin (k1_t6_loop lo hi b).trips) : k1_off12 lo hi b j = ![j.val, 0] := off4_eq lo hi b h j

end Trips

/-- Every loop that jax adds for a remainder makes no trip. -/
theorem t3_none (lo hi : BitVec 32) (b) (j : Fin (k1_t3_loop lo hi b).trips) : False := Scf.rem_no_trip _ _ j
theorem t5_none (lo hi : BitVec 32) (b) (j : Fin (k1_t5_loop lo hi b).trips) : False := Scf.rem_no_trip _ _ j
theorem t7_none (lo hi : BitVec 32) (b) (j : Fin (k1_t7_loop lo hi b).trips) : False := Scf.rem_no_trip _ _ j
theorem t8_none (lo hi : BitVec 32) (j : Fin (k1_t8_loop lo hi).trips) : False := Scf.rem_no_trip _ _ j

/-- One position is in bounds of a table; one row is in bounds of the row buffer. -/
theorem inb_pos {f : Fin 1 → ℕ} {p : ℕ} (e : f = ![p]) (hp : p < 6144) : ∀ a, f a + S1.size a ≤ S6144.size a := by
  subst e; intro a; fin_cases a; show p + 1 ≤ 6144; omega
theorem inb_row {f : Fin 2 → ℕ} {p : ℕ} (e : f = ![p, 0]) (hp : p < 64) : ∀ a, f a + S1x4096.size a ≤ S64x4096.size a := by
  subst e; intro a; fin_cases a
  · show p + 1 ≤ 64; omega
  · show 0 + 4096 ≤ 4096; omega

/-- The side condition the body assumes of the segment's two end words holds. -/
theorem chk1_of (i : grid1.Coords) (lo hi : BitVec 32) (h : Seg lo hi) : k1_chk1 i lo hi := by
  have h2 := h.2
  have hpos : ∀ (b : Fin (k1_t1_loop lo hi).trips) (j : Fin (k1_t2_loop lo hi b).trips), lo.toNat + 64 * b.val + j.val < 6144 ∧ j.val < 64 := fun b j => by
    have hj : j.val < min (hi.toNat - lo.toNat - 64 * b.val) 64 := lt_of_lt_of_eq j.isLt (t2_trips lo hi h b)
    have hb := batch_lt lo hi h b
    generalize b.val = n at hj hb ⊢; generalize j.val = m at hj ⊢; omega
  refine ⟨⟨fun _ => t1_okay lo hi h, fun b _ => t2_okay lo hi h b, fun b j _ => inb_pos (off3_eq lo hi b h j) (hpos b j).1,
    fun b j _ => inb_row (off4_eq lo hi b h j) (hpos b j).2, fun b _ => Scf.rem_ok _ _, fun b j _ => (t3_none lo hi b j).elim, fun b j _ => (t3_none lo hi b j).elim,
    fun b _ => t2_okay lo hi h b, fun b j _ => inb_row (off9_eq lo hi b h j) (hpos b j).2, fun b _ => Scf.rem_ok _ _, fun b j _ => (t5_none lo hi b j).elim,
    fun b _ => t2_okay lo hi h b, fun b j _ => inb_pos (off11_eq lo hi b h j) (hpos b j).1, fun b j _ => inb_row (off12_eq lo hi b h j) (hpos b j).2,
    fun b j _ => inb_pos (off14_eq lo hi b h j) (hpos b j).1, fun b _ => Scf.rem_ok _ _, fun b j _ => (t7_none lo hi b j).elim, fun b j _ => (t7_none lo hi b j).elim,
    fun b j _ => (t7_none lo hi b j).elim, fun _ => Scf.rem_ok _ _, ?_⟩, ?_⟩
  · repeat' apply And.intro
    all_goals exact fun b => (t8_none lo hi b).elim
  · unfold k1_chk1_1
    repeat' apply And.intro
    all_goals exact fun b => (t8_none lo hi b).elim

/-- A word of the order table below 6144 names a row of packed words. -/
theorem off5_eq (x : BitVec 32) : k1_off5 x = ![x.toNat / 4, 0] := by
  have : (Scalar.shrui x 2#32).toNat = x.toNat / 4 := by
    simp [Scalar.shrui, IntOp.shrui, Nat.shiftRight_eq_div_pow]
  unfold k1_off5; simp only [this]
theorem chk2_of (i : grid1.Coords) (x : BitVec 32) (h : x.toNat < 6144) : k1_chk2 i x := by
  intro _; rw [off5_eq]; intro a; fin_cases a
  · show x.toNat / 4 + 1 ≤ 1536; omega
  · show 0 + 4096 ≤ 4096; omega

/-- A sorted id inside the block's 640 names a row of the block. -/
theorem off13_eq (i : grid1.Coords) (x : BitVec 32) (r : ℕ) (hr : r < 640) (h : x.toNat = 640 * (i 0).val + r) : k1_off13 i x = ![r, 0] := by
  have hi : (i 0).val < 50 := (i 0).isLt
  refine Affine.vec_cons (Affine.subi (ea := 640 * (i 0).val + r) (eb := (i 0).val * 640) ?_ ?_ ⟨rfl, by omega, by omega⟩) (by push_cast; omega) rfl
  · have := isInt_of_toNat x (by omega); rw [h] at this; exact_mod_cast this
  · exact Affine.muli (Affine.ofNat (i 0).val ⟨rfl, by omega⟩) (Affine.ofNat 640 ⟨rfl, by omega⟩) ⟨rfl, by omega, by omega⟩
theorem chk4_of (i : grid1.Coords) (x : BitVec 32) (r : ℕ) (hr : r < 640) (h : x.toNat = 640 * (i 0).val + r) : k1_chk4 i x := by
  intro _; rw [off13_eq i x r hr h]; intro a; fin_cases a
  · show r + 1 ≤ 640; omega
  · show 0 + 4096 ≤ 4096; omega

/-- The block number and its successor index the segment table. -/
theorem off1_eq (i : grid1.Coords) : k1_off1 i = ![(i 0).val] := by
  have hi : (i 0).val < 50 := (i 0).isLt
  exact Affine.vec_cons (Affine.ofNat (i 0).val ⟨rfl, by omega⟩) rfl rfl
theorem off2_eq (i : grid1.Coords) : k1_off2 i = ![(i 0).val + 1] := by
  have hi : (i 0).val < 50 := (i 0).isLt
  exact Affine.vec_cons (Affine.addi (Affine.ofNat (i 0).val ⟨rfl, by omega⟩) (Affine.ofNat 1 ⟨rfl, by omega⟩) ⟨rfl, by omega, by omega⟩) (by push_cast; omega) rfl

end Cert.KernelIdeal.Hand

end
-- ==== Proof.KI.Acc.lean ====
/-
  What the second call's token loop computes: one token's step on the output block, the run of steps over a segment, and the loop that
  accumulates one batch's tokens.
-/
module

public import proofs.«01_k».proof.Proof.KI.Words
public import Idealize.ShloMosaic.Lib.Pipeline.Routed
public import Idealize.ShloMosaic.Lib.WritesUnit
public import Idealize.ShloMosaic.Lib.WholeRead
public import Idealize.ShloMosaic.Lib.Batch
public import Idealize.ShloMosaic.Lib.Ring

@[expose] public section

set_option maxRecDepth 8192

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-! ## The values -/

/-- A position of a table of 6144 words. -/
def pos (p : ℕ) : S6144.Idx := fun | 0 => ⟨p % 6144, Nat.mod_lt _ (by decide)⟩
/-- A row and column of the packed words. -/
def wordAt (r : ℕ) (x : Fin 4096) : S1536x4096.Idx := fun | 0 => ⟨r % 1536, Nat.mod_lt _ (by decide)⟩ | 1 => x
/-- A column of a row. -/
def col (x : Fin 4096) : S1x4096.Idx := fun | 0 => ⟨0, by decide⟩ | 1 => x
/-- A row and column of the output block. -/
def at640 (r : Fin 640) (x : Fin 4096) : S640x4096.Idx := fun | 0 => r | 1 => x

/-- The row of packed words that holds token `w`'s codes. -/
def packed (e32 : S1536x4096.Idx → BitVec 32) (w : BitVec 32) : S1x4096.Idx → BitVec 32 := fun x => e32 (wordAt (w.toNat / 4) (x 1))

/-- A row of the output block with one token's decoded and scaled row added. -/
def added (w : BitVec 32) (row : S1x4096.Idx → BitVec 32) (s : F .f32) (base : S1x4096.Idx → F .f32) : S1x4096.Idx → F .f32 :=
  Gen.k1_pay3 (Gen.k1_pay7 (F := F) base) (Gen.k1_pay9 (F := F) w row) (Gen.k1_pay10 (F := F) w row) (Gen.k1_pay11 (F := F)) s

/-- The output block after one token: its row has the token's row added. -/
def tokStep (r : ℕ) (w : BitVec 32) (row : S1x4096.Idx → BitVec 32) (s : F .f32) (X : S640x4096.Idx → F .f32) : S640x4096.Idx → F .f32 :=
  fun y => if (y 0).val = r then added w row s (fun x => X (at640 (y 0) (x 1))) (col (y 1)) else X y

/-- The output block after the first `n` tokens of the segment that starts at position `lo`. -/
def accN (c : ℕ) (ord sid : S6144.Idx → BitVec 32) (es : S6144.Idx → F .f32) (e32 : S1536x4096.Idx → BitVec 32) (lo : ℕ) (X : S640x4096.Idx → F .f32) :
    ℕ → S640x4096.Idx → F .f32
  | 0 => X
  | n + 1 => tokStep ((sid (pos (lo + n))).toNat - 640 * c) (ord (pos (lo + n))) (packed e32 (ord (pos (lo + n)))) (es (pos (lo + n)))
      (accN c ord sid es e32 lo X n)

/-- What the tables hold over block `c`'s segment: token numbers, and ids inside the block. -/
structure Tab (c : ℕ) (ord sid : S6144.Idx → BitVec 32) (lo hi : BitVec 32) : Prop where
  seg : Seg lo hi
  ord_lt : ∀ p, (ord p).toNat < 6144
  sid_in : ∀ p, lo.toNat ≤ p → p < hi.toNat → ∃ r < 640, (sid (pos p)).toNat = 640 * c + r

/-! ## The accumulating loop -/

section Acc

variable (cc : Dev nD) (i : grid1.Coords)
variable (arg5 : Memref sig .tc .vmem S1024x640 .fp8e5m2) (harg5 : arg5.IsWhole) (arg6 : Memref sig .tc .vmem S1x1024x1 .f32) (harg6 : arg6.IsWhole)
  (arg7 : Memref sig .tc .vmem S1024x4096 .bf16) (harg7 : arg7.IsWhole) (arg9 : Memref sig .tc .smem S6144 .f32) (harg9 : arg9.IsWhole)
  (arg10 : Memref sig .tc .vmem S640x4096 .f32) (harg10 : arg10.IsWhole) (arg0 : BitVec 32)
variable (ord sid : S6144.Idx → BitVec 32) (es : S6144.Idx → F .f32) (e32 : S1536x4096.Idx → BitVec 32) (lo hi : BitVec 32)

abbrev ordM : Memref sig .tc .smem S6144 .i32 := Memref.whole main_v4
abbrev sidM : Memref sig .tc .smem S6144 .i32 := Memref.whole main_v11
abbrev offM : Memref sig .tc .smem S51 .i32 := Memref.whole main_v15
abbrev e32M : Memref sig .tc .hbm S1536x4096 .i32 := Memref.whole main_v30
abbrev scrM : Memref sig .tc .vmem S64x4096 .i32 := Memref.whole cc1_scratch0

/-- The row buffer holds, in its first `n` rows, the packed rows of the `n` tokens from position `p₀` on. -/
def Rows (g : S64x4096.Idx → BitVec 32) (p₀ n : ℕ) : Prop :=
  ∀ y : S64x4096.Idx, (y 0).val < n → g y = packed e32 (ord (pos (p₀ + (y 0).val))) (col (y 1))

variable {κ : Kind} {sp : Space} {Val : EltTy → Type} {e : EltTy}

/-- One word of a table, loaded; -/
theorem readAt_pos (v : View sig κ sp S6144 e) (f : v.ty.Contents Val) {o : Fin 1 → ℕ} {p : ℕ} (eo : o = ![p]) (hp : p < 6144) (h) (h') :
    View.readAt Val v (Rect.unit (s := S6144) o S1.size h).toLoadRect f (Shape.Idx.first (s := S1) h') = v.read Val f (pos p) := by
  subst eo
  refine congrArg (v.read Val f) (funext fun a => Fin.ext ?_)
  fin_cases a
  show p + 1 * _ = p % 6144
  rw [Nat.mod_eq_of_lt hp]; rfl

/-- one row of the output block, loaded; -/
theorem readAt_row640 (v : View sig κ sp S640x4096 e) (f : v.ty.Contents Val) {o : Fin 2 → ℕ} {r : ℕ} (eo : o = ![r, 0]) (hr : r < 640) (h) (x : S1x4096.Idx) :
    View.readAt Val v (Rect.unit (s := S640x4096) o S1x4096.size h).toLoadRect f x = v.read Val f (at640 ⟨r, hr⟩ (x 1)) := by
  subst eo
  refine congrArg (v.read Val f) (funext fun a => Fin.ext ?_)
  fin_cases a
  · show r + 1 * (x 0).val = r
    have : (x 0).val < 1 := (x 0).isLt
    omega
  · show 0 + 1 * (x 1).val = (x 1).val
    omega

/-- A row and column of the row buffer. -/
def at64 (r : Fin 64) (x : Fin 4096) : S64x4096.Idx := fun | 0 => r | 1 => x

/-- one row of the row buffer, loaded. -/
theorem readAt_row64 (v : View sig κ sp S64x4096 e) (f : v.ty.Contents Val) {o : Fin 2 → ℕ} {r : ℕ} (eo : o = ![r, 0]) (hr : r < 64) (h) (x : S1x4096.Idx) :
    View.readAt Val v (Rect.unit (s := S64x4096) o S1x4096.size h).toLoadRect f x = v.read Val f (at64 ⟨r, hr⟩ (x 1)) := by
  subst eo
  refine congrArg (v.read Val f) (funext fun a => Fin.ext ?_)
  fin_cases a
  · show r + 1 * (x 0).val = r
    have : (x 0).val < 1 := (x 0).isLt
    omega
  · show 0 + 1 * (x 1).val = (x 1).val
    omega

omit [FloatOps F] in
theorem Rows.row {ord : S6144.Idx → BitVec 32} {e32 : S1536x4096.Idx → BitVec 32} {g : S64x4096.Idx → BitVec 32} {p₀ n : ℕ} (h : Rows ord e32 g p₀ n)
    (q : ℕ) (hq : q < 64) (hn : q < n) (x : Fin 4096) : g (at64 ⟨q, hq⟩ x) = e32 (wordAt ((ord (pos (p₀ + q))).toNat / 4) x) :=
  h (at64 ⟨q, hq⟩ x) hn

/-- Before trip `j` of the accumulating loop of batch `b`. -/
def accAt (g : S64x4096.Idx → BitVec 32) (X : S640x4096.Idx → F .f32) (b : ℕ) (j : ℕ) (_ : Unit) : sProp 𝕄 :=
  iprop((ordM.view.loc (cc : Thread nD τ) ↦{fullShare} ord) ∗ (sidM.view.loc (cc : Thread nD τ) ↦{fullShare} sid)
    ∗ (arg9.view.loc (cc : Thread nD τ) ↦{fullShare} harg9.unread es) ∗ (scrM.view.loc (cc : Thread nD τ) ↦{fullShare} g)
    ∗ ∃ f, (arg10.view.loc (cc : Thread nD τ) ↦{fullShare} f)
      ∗ ⌜arg10.view.read (Elt F) f = accN (i 0).val ord sid es e32 lo.toNat X (64 * b + j)⌝)

theorem acc_step [∀ e, Nonempty (Elt F e)] (k1_h2 : k1_cond2 i = 1#1) (hw : k1_chk1 i lo hi) (T : Tab (i 0).val ord sid lo hi)
    (b : Fin (k1_t1_loop lo hi).trips) (g : S64x4096.Idx → BitVec 32) (hg : Rows ord e32 g (lo.toNat + 64 * b.val) (cnt lo hi b))
    (X : S640x4096.Idx → F .f32) (v41 : BitVec 32) (w1 : BitVec 32) (j : Fin (k1_t6_loop lo hi b).trips) (a : Unit) :
    accAt cc i arg9 harg9 arg10 ord sid es e32 lo g X b j a
      ⊢ wp frame (wpE (defs₀ (F := F)) Variants.none (cc : Thread nD τ) none) Set.univ
        (Gen.k1_t6_body i ordM (Memref.isWhole_whole _) sidM (Memref.isWhole_whole _) offM (Memref.isWhole_whole _) arg5 harg5 arg6 harg6 arg7 harg7
          e32M (Memref.isWhole_whole _) arg9 harg9 arg10 harg10 scrM (Memref.isWhole_whole _) cc1_scratch1 arg0 k1_h2 lo hi hw b v41 w1 j a)
        (accAt cc i arg9 harg9 arg10 ord sid es e32 lo g X b (j.val + 1)) := by
  unfold accAt
  iintro ⟨Hord, Hsid, Hes, Hscr, ⟨%f, Hout, %hf⟩⟩
  unfold Gen.k1_t6_body
  sl_exec
  have hj : j.val < min (hi.toNat - lo.toNat - 64 * b.val) 64 := lt_of_lt_of_eq j.isLt (t6_trips lo hi T.seg b)
  have hb : lo.toNat + 64 * b.val < hi.toNat := batch_lt lo hi T.seg b
  have hseg := T.seg.2
  have hp : lo.toNat + 64 * b.val + j.val < 6144 := by
    clear * - hj hb hseg
    generalize b.val = m at hj hb ⊢; generalize j.val = n at hj ⊢; omega
  have hj64 : j.val < 64 := lt_of_lt_of_le hj (min_le_right _ _)
  have e0 : acc_step.sl.r (F := F) i ord lo hi k1_h2 hw b j = ord (pos (lo.toNat + 64 * b.val + j.val)) :=
    readAt_pos (Val := Elt F) ordM.view ord (off11_eq lo hi b T.seg j) hp _ _
  have e1 : acc_step.sl.r_1 (F := F) i sid lo hi k1_h2 hw b j = sid (pos (lo.toNat + 64 * b.val + j.val)) :=
    readAt_pos (Val := Elt F) sidM.view sid (off11_eq lo hi b T.seg j) hp _ _
  obtain ⟨r, hr, hsid⟩ := T.sid_in (lo.toNat + 64 * b.val + j.val) (by omega) (by
    clear * - hj hb
    generalize b.val = m at hj hb ⊢; generalize j.val = n at hj ⊢; omega)
  have h4 : k1_chk4 i (acc_step.sl.r_1 (F := F) i sid lo hi k1_h2 hw b j) := by rw [e1]; exact chk4_of i _ r hr hsid
  have eo : k1_off13 i (acc_step.sl.r_1 (F := F) i sid lo hi k1_h2 hw b j) = ![r, 0] := by rw [e1]; exact off13_eq i _ r hr hsid
  iapply (wp_assume _ _ _ _ h4)
  sl_exec
  have e2 : acc_step.sl.r_2 (F := F) cc i arg10 sid lo hi k1_h2 hw b j f h4 = Gen.k1_pay7 (fun x => arg10.view.read (Elt F) f (at640 ⟨r, hr⟩ (x 1))) :=
    congrArg Gen.k1_pay7 (funext fun x => readAt_row640 (Val := Elt F) arg10.view f eo hr _ x)
  have hrow : View.readAt (Elt F) scrM.view (Rect.unit (s := S64x4096) (k1_off12 lo hi b j) S1x4096.size (k1_off12_inb i lo hi hw b j k1_h2)).toLoadRect g
      = packed e32 (ord (pos (lo.toNat + 64 * b.val + j.val))) := funext fun x => by
    rw [readAt_row64 (Val := Elt F) scrM.view g (off12_eq lo hi b T.seg j) hj64 _ x]
    exact Rows.row hg _ hj64 hj (x 1)
  have e3 : acc_step.sl.r_3 (F := F) i ord lo hi k1_h2 hw b g j = Gen.k1_pay9 (F := F) (ord (pos (lo.toNat + 64 * b.val + j.val))) (packed e32 (ord (pos (lo.toNat + 64 * b.val + j.val)))) := by
    unfold acc_step.sl.r_3; rw [e0, hrow]
  have e4 : acc_step.sl.r_4 (F := F) i ord lo hi k1_h2 hw b g j = Gen.k1_pay10 (F := F) (ord (pos (lo.toNat + 64 * b.val + j.val))) (packed e32 (ord (pos (lo.toNat + 64 * b.val + j.val)))) := by
    unfold acc_step.sl.r_4; rw [e0, hrow]
  have e5 : acc_step.sl.r_5 (F := F) i arg9 harg9 es lo hi k1_h2 hw b j = es (pos (lo.toNat + 64 * b.val + j.val)) :=
    (readAt_pos (Val := Elt F) arg9.view (harg9.unread es) (off14_eq lo hi b T.seg j) hp _ _).trans (congrFun (harg9.read_unread (Val := Elt F) es) (pos (lo.toNat + 64 * b.val + j.val)))
  sl_step
  isplitl [Hord]; · iexact Hord
  isplitl [Hsid]; · iexact Hsid
  isplitl [Hes]; · iexact Hes
  isplitl [Hscr]; · iexact Hscr
  iexists _
  isplitl [Hout]; · iexact Hout
  ipureintro
  funext y
  rw [View.read_writes_cons_unit (heq := eo)]
  show _ = accN (i 0).val ord sid es e32 lo.toNat X (64 * b.val + j.val + 1) y
  have ep : lo.toNat + (64 * b.val + j.val) = lo.toNat + 64 * b.val + j.val := by omega
  simp only [accN, tokStep, ep]
  have er : (sid (pos (lo.toNat + 64 * b.val + j.val))).toNat - 640 * (i 0).val = r := by omega
  rw [er]
  by_cases hy : (y 0).val = r
  · rw [if_pos hy, dif_pos (fun a => by
      fin_cases a
      · show r ≤ (y 0).val ∧ (y 0).val < r + 1; omega
      · show 0 ≤ (y 1).val ∧ (y 1).val < 0 + 4096; have : (y 1).val < 4096 := (y 1).isLt; omega)]
    rw [e2, e3, e4, e5, hf]
    have hy0 : (⟨r, hr⟩ : Fin 640) = y 0 := Fin.ext hy.symm
    rw [hy0]
    refine congrArg (added _ _ _ _) (funext fun a => ?_)
    fin_cases a
    · exact Fin.ext (show (y 0).val - r = 0 by omega)
    · exact Fin.ext (show (y 1).val - 0 = (y 1).val by omega)
  · rw [if_neg hy, dif_neg (fun h => hy (by have h0 : r ≤ (y 0).val ∧ (y 0).val < r + 1 := h 0; omega))]
    exact congrFun hf y

end Acc

end Cert.KernelIdeal.Hand

end

end
-- ==== Proof.KI.Dma.lean ====
/-
  One batch of row transfers of the second call: the loop that starts them, the loop that waits for them, and what the row buffer holds after.
-/
module

public import proofs.«01_k».proof.Proof.KI.Acc

@[expose] public section

set_option maxRecDepth 8192

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

section Dma

variable (cc : Dev nD) (i : grid1.Coords)
variable (arg5 : Memref sig .tc .vmem S1024x640 .fp8e5m2) (harg5 : arg5.IsWhole) (arg6 : Memref sig .tc .vmem S1x1024x1 .f32) (harg6 : arg6.IsWhole)
  (arg7 : Memref sig .tc .vmem S1024x4096 .bf16) (harg7 : arg7.IsWhole) (arg9 : Memref sig .tc .smem S6144 .f32) (harg9 : arg9.IsWhole)
  (arg10 : Memref sig .tc .vmem S640x4096 .f32) (harg10 : arg10.IsWhole) (arg0 : BitVec 32)
variable (ord sid : S6144.Idx → BitVec 32) (e32 : S1536x4096.Idx → BitVec 32) (lo hi : BitVec 32)

/-- Row `r` of the row buffer, and row `r` of the packed words, as memrefs. -/
def scrRow (r : ℕ) (hr : r < 64) : Memref sig .tc .vmem S1x4096 .i32 :=
  scrM.slice (Rect.unit (s := S64x4096) ![r, 0] S1x4096.size (inb_row rfl hr)) (fun _ => rfl)
theorem inb_packed {f : Fin 2 → ℕ} {p : ℕ} (e : f = ![p, 0]) (hp : p < 1536) : ∀ a, f a + S1x4096.size a ≤ S1536x4096.size a := by
  subst e; intro a; fin_cases a
  · show p + 1 ≤ 1536; omega
  · show 0 + 4096 ≤ 4096; omega
/-- Their elements. -/
def scrSet (r : ℕ) (hr : r < 64) : Finset S64x4096.Idx := (Rect.unit (s := S64x4096) ![r, 0] S1x4096.size (inb_row rfl hr)).set
def e32Set (r : ℕ) (hr : r < 1536) : Finset S1536x4096.Idx := (Rect.unit (s := S1536x4096) ![r, 0] S1x4096.size (inb_packed rfl hr)).set

theorem mem_scrSet (r : ℕ) (hr : r < 64) (y : S64x4096.Idx) : y ∈ scrSet r hr ↔ (y 0).val = r := by
  unfold scrSet
  rw [Rect.mem_set_unit]
  have h1 : (y 1).val < 4096 := (y 1).isLt
  constructor
  · intro H; have a0 : r ≤ (y 0).val ∧ (y 0).val < r + 1 := H 0; omega
  · intro H a; fin_cases a
    · show r ≤ (y 0).val ∧ (y 0).val < r + 1; omega
    · show 0 ≤ (y 1).val ∧ (y 1).val < 0 + 4096; omega

/-- The amount that one row credits the semaphore. -/
def NN : ℕ := (scrRow 0 (by decide)).view.dmaCredit

variable (hord : ∀ p, (ord p).toNat < 6144) (p₀ : ℕ)

/-- What the row buffer holds when every row of the batch has arrived. -/
def arrived : S64x4096.Idx → BitVec 32 := fun y => packed e32 (ord (pos (p₀ + (y 0).val))) (col (y 1))

/-- The elements of the packed words that transfer `t` reads. -/
def srcSet (t : ℕ) : Finset S1536x4096.Idx := e32Set ((ord (pos (p₀ + t))).toNat / 4) (by have := hord (pos (p₀ + t)); omega)

variable (n : ℕ) (hn : n ≤ 64)

abbrev scrPts (I : Finset S64x4096.Idx) (g : S64x4096.Idx → BitVec 32) : sProp 𝕄 := scrM.view.loc (cc : Thread nD τ) ↦[I]{fullShare} g
abbrev e32Pts (I : Finset S1536x4096.Idx) (q : PosShare TreeShare) : sProp 𝕄 := e32M.view.loc (cc : Thread nD τ) ↦[I]{q} e32

/-- Transfer `t` delivers row `t` of the row buffer and the share of the packed row that it read. -/
def deliv (t : Fin n) : sProp 𝕄 :=
  iprop(scrPts (F := F) cc (scrSet t.val (t.isLt.trans_le hn)) (arrived ord e32 p₀) ∗ e32Pts (F := F) cc e32 (srcSet ord hord p₀ t.val) (Transfers.shareTokN fullShare t.val))
instance (t : Fin n) : BI.Storable (upEmb : UEmb _ 𝕄) (deliv (F := F) cc ord e32 hord p₀ n hn t) := by unfold deliv; infer_instance

/-- What transfer `t` takes: row `t` of the row buffer and a share of the packed words. -/
def before (g : S64x4096.Idx → BitVec 32) (t : Fin n) : sProp 𝕄 :=
  iprop(scrPts (F := F) cc (scrSet t.val (t.isLt.trans_le hn)) g ∗ e32Pts (F := F) cc e32 Finset.univ (Transfers.shareTokN fullShare t.val))
/-- What stays while transfer `t` is in flight: its share of the rows that it does not read. -/
def stays (t : Fin n) : sProp 𝕄 := e32Pts (F := F) cc e32 (Finset.univ \ srcSet ord hord p₀ t.val) (Transfers.shareTokN fullShare t.val)

abbrev batchAt (j u : ℕ) : sProp 𝕄 :=
  Transfers.Batch (countersEmb (U := Pipeline.UC sig nD τ)) (cc : Thread nD τ) (.dma cc1_scratch1.sem) () NN (deliv (F := F) cc ord e32 hord p₀ n hn) j u

/-- Before trip `j` of the loop that starts the transfers. -/
def issueAt (g : S64x4096.Idx → BitVec 32) (j : ℕ) (_ : Unit) : sProp 𝕄 :=
  iprop((ordM.view.loc (cc : Thread nD τ) ↦{fullShare} ord) ∗ batchAt (F := F) cc ord e32 hord p₀ n hn j 0
    ∗ bigSep (Ring.rangeSet n j n) (before (F := F) cc e32 n hn g) ∗ bigSep (Ring.rangeSet n 0 j) (stays (F := F) cc ord e32 hord p₀ n))

end Dma

section Issue

variable (cc : Dev nD) (i : grid1.Coords)
variable (arg5 : Memref sig .tc .vmem S1024x640 .fp8e5m2) (harg5 : arg5.IsWhole) (arg6 : Memref sig .tc .vmem S1x1024x1 .f32) (harg6 : arg6.IsWhole)
  (arg7 : Memref sig .tc .vmem S1024x4096 .bf16) (harg7 : arg7.IsWhole) (arg9 : Memref sig .tc .smem S6144 .f32) (harg9 : arg9.IsWhole)
  (arg10 : Memref sig .tc .vmem S640x4096 .f32) (harg10 : arg10.IsWhole) (arg0 : BitVec 32)
variable (ord sid : S6144.Idx → BitVec 32) (e32 : S1536x4096.Idx → BitVec 32) (lo hi : BitVec 32)

theorem rangeSet_snoc {n : ℕ} (Φ : Fin n → sProp 𝕄) (j : ℕ) (hj : j < n) :
    bigSep (Ring.rangeSet n 0 (j + 1)) Φ = iprop(Φ ⟨j, hj⟩ ∗ bigSep (Ring.rangeSet n 0 j) Φ) :=
  Ring.bigSep_rangeSet_last (hi := j + 1) (Nat.succ_pos _) hj

theorem scr_slice_set {o : Fin 2 → ℕ} {r : ℕ} (eo : o = ![r, 0]) (hr : r < 64) (h) (hs) :
    (scrM.slice (Rect.unit (s := S64x4096) o S1x4096.size h) hs : Memref sig .tc .vmem S1x4096 .i32).view.set = scrSet r hr := by
  subst eo; exact View.set_slice_whole _ _
theorem e32_slice_set {o : Fin 2 → ℕ} {r : ℕ} (eo : o = ![r, 0]) (hr : r < 1536) (h) (hs) :
    (e32M.slice (Rect.unit (s := S1536x4096) o S1x4096.size h) hs : Memref sig .tc .hbm S1x4096 .i32).view.set = e32Set r hr := by
  subst eo; exact View.set_slice_whole _ _

/-- Copying packed row `p` onto row `r` of the buffer leaves word `x` of row `p` at position `x` of row `r`. -/
theorem landed {o o' : Fin 2 → ℕ} {r p : ℕ} (eo : o = ![r, 0]) (eo' : o' = ![p, 0]) (hr : r < 64) (hp : p < 1536) (h) (hs) (h') (hs')
    (g : S64x4096.Idx → BitVec 32) (y : S64x4096.Idx) (hy : (y 0).val = r) :
    (scrM.slice (Rect.unit (s := S64x4096) o S1x4096.size h) hs : Memref sig .tc .vmem S1x4096 .i32).view.write (Elt F) g
      (ReadAs.same.apply ((e32M.slice (Rect.unit (s := S1536x4096) o' S1x4096.size h') hs' : Memref sig .tc .hbm S1x4096 .i32).view.read (Elt F) e32)) Finset.univ y
      = e32 (wordAt p (y 1)) := by
  subst eo; subst eo'
  have ey : y = (scrM.slice (Rect.unit (s := S64x4096) ![r, 0] S1x4096.size h) hs : Memref sig .tc .vmem S1x4096 .i32).view.emb (col (y 1)) := by
    funext a; apply Fin.ext; fin_cases a
    · show (y 0).val = r + 1 * 0; omega
    · show (y 1).val = 0 + 1 * (y 1).val; omega
  conv_lhs => rw [ey]
  refine (View.write_emb_of_mem (Val := Elt F) _ _ (Finset.mem_univ _)).trans ?_
  show e32 _ = e32 _
  refine congrArg e32 (funext fun a => Fin.ext ?_)
  fin_cases a
  · show p + 1 * 0 = p % 1536; rw [Nat.mod_eq_of_lt hp]; rfl
  · show 0 + 1 * (y 1).val = (y 1).val; omega

theorem bind_ret {E : Type → Type} {α β : Type} (a : α) (k : α → Prog E β) : (Prog.ret a).bind k = k a := rfl

theorem NN_pos : 0 < NN := View.dmaCredit_pos _ (by decide)

variable (hord : ∀ p, (ord p).toNat < 6144) (p₀ n : ℕ) (hn : n ≤ 64) (hpn : p₀ + n ≤ 6144)

include hpn in
theorem issue_step [∀ e, Nonempty (Elt F e)] (k1_h2 : k1_cond2 i = 1#1) (hw : k1_chk1 i lo hi) (S : Seg lo hi)
    (b : Fin (k1_t1_loop lo hi).trips) (hp₀ : lo.toNat + 64 * b.val = p₀) (hnt : (k1_t2_loop lo hi b).trips = n)
    (g : S64x4096.Idx → BitVec 32) (w1 w2 w3 w4 : BitVec 32) (j : Fin (k1_t2_loop lo hi b).trips) (a : Unit) :
    issueAt (F := F) cc ord e32 hord p₀ n hn g j a
      ⊢ wp frame (wpE (defs₀ (F := F)) Variants.none (cc : Thread nD τ) none) Set.univ
        (Gen.k1_t2_body i ordM (Memref.isWhole_whole _) sidM (Memref.isWhole_whole _) offM (Memref.isWhole_whole _) arg5 harg5 arg6 harg6 arg7 harg7
          e32M (Memref.isWhole_whole _) arg9 harg9 arg10 harg10 scrM (Memref.isWhole_whole _) cc1_scratch1 k1_h2 lo hi hw w1 w2 w3 w4 b j a)
        (issueAt (F := F) cc ord e32 hord p₀ n hn g (j.val + 1)) := by
  have hj : j.val < n := lt_of_lt_of_eq j.isLt hnt
  have hp : p₀ + j.val < 6144 := by omega
  have hj64 : j.val < 64 := by omega
  have eo3 : k1_off3 lo hi b j = ![p₀ + j.val] := by rw [off3_eq lo hi b S j, hp₀]
  have eo4 : k1_off4 lo hi b j = ![j.val, 0] := off4_eq lo hi b S j
  unfold issueAt
  rw [Ring.bigSep_rangeSet_head (Φ := before (F := F) cc e32 n hn g) hj hj, rangeSet_snoc _ _ hj]
  iintro ⟨Hord, HB, ⟨Hnow, Hlater⟩, Hstay⟩
  unfold Gen.k1_t2_body
  sl_exec
  have e0 : issue_step.sl.r (F := F) i ord lo hi k1_h2 hw b j = ord (pos (p₀ + j.val)) :=
    readAt_pos (Val := Elt F) ordM.view ord eo3 hp _ _
  have h2 : k1_chk2 i (issue_step.sl.r (F := F) i ord lo hi k1_h2 hw b j) := by rw [e0]; exact chk2_of i _ (hord _)
  iapply (wp_assume _ _ _ _ h2)
  have hp4 : (ord (pos (p₀ + j.val))).toNat / 4 < 1536 := by have := hord (pos (p₀ + j.val)); omega
  have eo : k1_off5 (issue_step.sl.r (F := F) i ord lo hi k1_h2 hw b j) = ![(ord (pos (p₀ + j.val))).toNat / 4, 0] := by rw [e0]; exact off5_eq _
  unfold before
  icases Hnow with ⟨Hrow, Htok⟩
  ihave Htok := (pointsTo_split_subset (Finset.subset_univ (srcSet ord hord p₀ j.val))).1 $$ Htok
  icases Htok with ⟨Hsrc, Hleft⟩
  have es : ∀ h hs, (scrM.slice (Rect.unit (s := S64x4096) (k1_off4 lo hi b j) S1x4096.size h) hs : Memref sig .tc .vmem S1x4096 .i32).view.set
      = scrSet j.val hj64 := fun h hs => scr_slice_set eo4 hj64 h hs
  have ee : ∀ h hs, (e32M.slice (Rect.unit (s := S1536x4096) (k1_off5 (issue_step.sl.r (F := F) i ord lo hi k1_h2 hw b j)) S1x4096.size h) hs : Memref sig .tc .hbm S1x4096 .i32).view.set
      = srcSet ord hord p₀ j.val := fun h hs => e32_slice_set eo hp4 h hs
  iapply (Transfers.wp_dmaBatch (countersEmb (U := Pipeline.UC sig nD τ)) Variants.none (cc : Thread nD τ) none () NN rfl
    (Sd := scrSet j.val hj64) (fd := g) (fs := e32) (q := Transfers.shareTokN fullShare j.val) (le_of_eq (es _ _)) hj (Nat.zero_le _) (D := deliv (F := F) cc ord e32 hord p₀ n hn) (by
      unfold deliv
      refine BI.sep_mono (Entails.of_eq (pointsTo_congr fun y hy => ?_)) (Entails.of_eq (congrArg (fun I => (e32M.view.loc (cc : Thread nD τ) ↦[I]{Transfers.shareTokN fullShare j.val} e32 : sProp 𝕄)) (ee _ _)))
      have hy' : (y 0).val = j.val := (mem_scrSet _ hj64 y).mp hy
      refine (landed (F := F) e32 eo4 eo hj64 hp4 _ _ _ _ g y hy').trans ?_
      unfold arrived packed
      rw [hy']; rfl)) $$ [Hsrc Hrow HB]
  · isplitl [Hsrc]
    · iapply (Entails.of_eq (congrArg (fun I => (e32M.view.loc (cc : Thread nD τ) ↦[I]{Transfers.shareTokN fullShare j.val} e32 : sProp 𝕄)) (ee _ _).symm)) $$ Hsrc
    isplitl [Hrow]; · iexact Hrow
    iexact HB
  iintro HB
  rw [bind_ret]
  sl_step
  isplitl [Hord]; · iexact Hord
  isplitl [HB]; · iexact HB
  isplitl [Hlater]; · iexact Hlater
  isplitl [Hleft]; · unfold stays; iexact Hleft
  iexact Hstay

/-- Before trip `j` of the loop that waits: the units so far taken off the batch, or, after the last one, the semaphore at zero and every row. -/
def drainAt (j : ℕ) (_ : Unit) : sProp 𝕄 :=
  iprop(⌜j ≤ n⌝ ∗ (∃ W, owes (cc : Thread nD τ) 0 W)
    ∗ (if j < n then batchAt (F := F) cc ord e32 hord p₀ n hn n (j * NN)
       else iprop(semVal ((cc : Thread nD τ), SemLoc.dma cc1_scratch1.sem) 0 ∗ bigSep Finset.univ (deliv (F := F) cc ord e32 hord p₀ n hn))))

theorem drain_step [∀ e, Nonempty (Elt F e)] (k1_h2 : k1_cond2 i = 1#1) (hw : k1_chk1 i lo hi)
    (b : Fin (k1_t1_loop lo hi).trips) (hnt : (k1_t4_loop lo hi b).trips = n)
    (w1 w2 w3 w4 : BitVec 32) (j : Fin (k1_t4_loop lo hi b).trips) (a : Unit) :
    drainAt (F := F) cc ord e32 hord p₀ n hn j a
      ⊢ wp frame (wpE (defs₀ (F := F)) Variants.none (cc : Thread nD τ) none) Set.univ
        (Gen.k1_t4_body i ordM (Memref.isWhole_whole _) sidM (Memref.isWhole_whole _) offM (Memref.isWhole_whole _) arg5 harg5 arg6 harg6 arg7 harg7
          e32M (Memref.isWhole_whole _) arg9 harg9 arg10 harg10 scrM (Memref.isWhole_whole _) cc1_scratch1 k1_h2 lo hi hw w1 w2 w3 w4 b j a)
        (drainAt (F := F) cc ord e32 hord p₀ n hn (j.val + 1)) := by
  have hj : j.val < n := lt_of_lt_of_eq j.isLt hnt
  unfold drainAt
  simp only [if_pos hj]
  have hs : (j.val + 1) * NN = j.val * NN + NN := Nat.succ_mul _ _
  rcases Nat.lt_or_ge (j.val + 1) n with h1 | h1
  · simp only [if_pos h1]
    iintro ⟨-, ⟨%W, HO⟩, HB⟩
    unfold Gen.k1_t4_body
    iapply (Transfers.wp_waitBatch (countersEmb (U := Pipeline.UC sig nD τ)) Variants.none (cc : Thread nD τ) none () (N := NN) (by rfl) (u := j.val * NN)
      (by rw [← hs, Nat.mul_comm NN]; exact Nat.mul_lt_mul_of_pos_right h1 NN_pos)) $$ [HB HO]
    · isplitl [HB]; · iexact HB
      iexact HO
    iintro ⟨HB, HO⟩
    rw [bind_ret]
    sl_step
    isplitr; · ipureintro; omega
    isplitl [HO]; · iexists _; iexact HO
    rw [hs]
    iexact HB
  · simp only [if_neg (Nat.not_lt.mpr h1)]
    iintro ⟨-, ⟨%W, HO⟩, HB⟩
    unfold Gen.k1_t4_body
    iapply (Transfers.wp_waitBatchLast (countersEmb (U := Pipeline.UC sig nD τ)) Variants.none (cc : Thread nD τ) none () (N := NN) (by rfl) NN_pos (u := j.val * NN)
      (by rw [← hs, Nat.mul_comm NN, show j.val + 1 = n by omega])) $$ [HB HO]
    · isplitl [HB]; · iexact HB
      iexact HO
    iintro ⟨HD, HV, HO⟩
    rw [bind_ret]
    sl_step
    isplitr; · ipureintro; omega
    isplitl [HO]; · iexists _; iexact HO
    isplitl [HV]; · iexact HV
    iexact HD

/-- The rows of the buffer that the batch fills. -/
def filled : Finset S64x4096.Idx := (Finset.univ : Finset (Fin n)).biUnion fun t => scrSet t.val (t.isLt.trans_le hn)

theorem mem_filled (y : S64x4096.Idx) : y ∈ filled n hn ↔ (y 0).val < n := by
  unfold filled
  rw [Finset.mem_biUnion]
  constructor
  · rintro ⟨t, -, ht⟩; rw [mem_scrSet] at ht; omega
  · intro h; exact ⟨⟨(y 0).val, h⟩, Finset.mem_univ _, (mem_scrSet _ _ _).mpr rfl⟩

theorem filled_iff (y : S64x4096.Idx) : y ∈ filled n hn ↔ ∃ t : Fin n, y ∈ scrSet t.val (t.isLt.trans_le hn) := by
  unfold filled; rw [Finset.mem_biUnion]; simp

theorem scrSet_disjoint : ∀ t ∈ (Finset.univ : Finset (Fin n)), ∀ t' ∈ (Finset.univ : Finset (Fin n)), t ≠ t' →
    Disjoint (scrSet t.val (t.isLt.trans_le hn)) (scrSet t'.val (t'.isLt.trans_le hn)) := fun t _ t' _ hne => by
  rw [Finset.disjoint_left]; intro y hy hy'; rw [mem_scrSet] at hy hy'; exact hne (Fin.ext (by omega))

theorem toks_fin (I : Finset S1536x4096.Idx) :
    (bigSep (Finset.range n) fun t => e32Pts (F := F) cc e32 I (Transfers.shareTokN fullShare t) : sProp 𝕄)
      = bigSep Finset.univ (fun t : Fin n => e32Pts (F := F) cc e32 I (Transfers.shareTokN fullShare t.val)) := by
  rw [← Ring.rangeSet_univ]
  exact (Ring.bigSep_rangeSet_eq_range (NB := n) (lo := 0) (hi := n) (Φ := fun t : Fin n => e32Pts (F := F) cc e32 I (Transfers.shareTokN fullShare t.val)) le_rfl
    (fun t => e32Pts (F := F) cc e32 I (Transfers.shareTokN fullShare t)) (fun k hk => by
      show e32Pts (F := F) cc e32 I (Transfers.shareTokN fullShare k) = e32Pts (F := F) cc e32 I (Transfers.shareTokN fullShare (0 + k)); rw [Nat.zero_add])).symm

/-- A region cut into pairwise disjoint parts. -/
theorem parts {ℓ : Loc nD τ sig} {m : ℕ} (U : Finset (Idx ℓ)) (K : Fin m → Finset (Idx ℓ)) (hU : ∀ y, y ∈ U ↔ ∃ t, y ∈ K t)
    (hK : ∀ t ∈ (Finset.univ : Finset (Fin m)), ∀ t' ∈ (Finset.univ : Finset (Fin m)), t ≠ t' → Disjoint (K t) (K t')) (q : PosShare TreeShare) (f : Buf (Elt F) ℓ) :
    (ℓ ↦[U]{q} f : sProp 𝕄) = bigSep Finset.univ fun t => ℓ ↦[K t]{q} f := by
  rw [← pointsTo_biUnion Finset.univ K hK]
  refine congrArg (fun I => (ℓ ↦[I]{q} f : sProp 𝕄)) (Finset.ext fun y => ?_)
  rw [hU, Finset.mem_biUnion]; simp

theorem filled_pts (g : S64x4096.Idx → BitVec 32) :
    scrPts (F := F) cc (filled n hn) g = bigSep Finset.univ (fun t : Fin n => scrPts (F := F) cc (scrSet t.val (t.isLt.trans_le hn)) g) :=
  parts (F := F) (ℓ := scrM.view.loc (cc : Thread nD τ)) (filled n hn) (fun t : Fin n => scrSet t.val (t.isLt.trans_le hn))
    (filled_iff n hn) (scrSet_disjoint n hn) fullShare g

theorem deliv_sep : bigSep Finset.univ (deliv (F := F) cc ord e32 hord p₀ n hn)
    = iprop(bigSep Finset.univ (fun t : Fin n => scrPts (F := F) cc (scrSet t.val (t.isLt.trans_le hn)) (arrived ord e32 p₀))
      ∗ bigSep Finset.univ (fun t : Fin n => e32Pts (F := F) cc e32 (srcSet ord hord p₀ t.val) (Transfers.shareTokN fullShare t.val))) := BI.bigSep_sep _ _ _
theorem before_sep (g : S64x4096.Idx → BitVec 32) : bigSep Finset.univ (before (F := F) cc e32 n hn g)
    = iprop(bigSep Finset.univ (fun t : Fin n => scrPts (F := F) cc (scrSet t.val (t.isLt.trans_le hn)) g)
      ∗ bigSep Finset.univ (fun t : Fin n => e32Pts (F := F) cc e32 Finset.univ (Transfers.shareTokN fullShare t.val))) := BI.bigSep_sep _ _ _

/-- The buffer and the packed words apart, as the transfers take them. -/
theorem rows_open (g : S64x4096.Idx → BitVec 32) :
    iprop(scrPts (F := F) cc Finset.univ g ∗ e32Pts (F := F) cc e32 Finset.univ fullShare)
      ⊢ iprop(bigSep (Ring.rangeSet n 0 n) (before (F := F) cc e32 n hn g) ∗ scrPts (F := F) cc (Finset.univ \ filled n hn) g
        ∗ e32Pts (F := F) cc e32 Finset.univ (Transfers.shareDrop fullShare n)) := by
  iintro ⟨Hscr, He⟩
  ihave Hscr := (pointsTo_split_subset (Finset.subset_univ (filled n hn))).1 $$ Hscr
  icases Hscr with ⟨Hin, Hout⟩
  ihave He := (Transfers.pointsTo_toks_range fullShare n).1 $$ He
  icases He with ⟨Hdrop, Htoks⟩
  isplitl [Hin Htoks]
  · ihave Htoks := (Entails.of_eq (toks_fin (F := F) cc e32 n Finset.univ)) $$ Htoks
    ihave Hin := (Entails.of_eq (filled_pts (F := F) cc n hn g)) $$ Hin
    rw [Ring.rangeSet_univ, before_sep]
    isplitl [Hin]; · iexact Hin
    iexact Htoks
  isplitl [Hout]; · iexact Hout
  iexact Hdrop

/-- And together again, the batch's rows in place. -/
theorem rows_close (g : S64x4096.Idx → BitVec 32) :
    iprop(bigSep Finset.univ (deliv (F := F) cc ord e32 hord p₀ n hn) ∗ bigSep (Ring.rangeSet n 0 n) (stays (F := F) cc ord e32 hord p₀ n)
        ∗ scrPts (F := F) cc (Finset.univ \ filled n hn) g ∗ e32Pts (F := F) cc e32 Finset.univ (Transfers.shareDrop fullShare n))
      ⊢ iprop((∃ g', ⌜Rows ord e32 g' p₀ n⌝ ∗ scrPts (F := F) cc Finset.univ g') ∗ e32Pts (F := F) cc e32 Finset.univ fullShare) := by
  rw [Ring.rangeSet_univ, deliv_sep]
  iintro ⟨⟨Hin, Hsrc⟩, Hleft, Hout, Hdrop⟩
  isplitl [Hin Hout]
  · iexists (filled n hn).piecewise (arrived ord e32 p₀) g
    isplitr
    · ipureintro
      intro y hy
      exact Finset.piecewise_eq_of_mem _ _ _ ((mem_filled n hn y).mpr hy)
    ihave Hin := (Entails.of_eq (filled_pts (F := F) cc n hn _).symm) $$ Hin
    iapply (pointsTo_join_subset (Finset.subset_univ (filled n hn)))
    isplitl [Hin]; · iexact Hin
    iexact Hout
  · iapply (Transfers.pointsTo_toks_range fullShare n).2
    isplitl [Hdrop]; · iexact Hdrop
    iapply (Entails.of_eq (toks_fin (F := F) cc e32 n Finset.univ).symm)
    ihave H := (show iprop(bigSep Finset.univ (fun t : Fin n => e32Pts (F := F) cc e32 (srcSet ord hord p₀ t.val) (Transfers.shareTokN fullShare t.val))
        ∗ bigSep Finset.univ (stays (F := F) cc ord e32 hord p₀ n)) ⊢ bigSep Finset.univ (fun t : Fin n => e32Pts (F := F) cc e32 Finset.univ (Transfers.shareTokN fullShare t.val)) from by
      refine (Entails.of_eq (BI.bigSep_sep _ _ _).symm).trans (BI.bigSep_mono fun t _ => ?_)
      exact (pointsTo_split_subset (Finset.subset_univ (srcSet ord hord p₀ t.val))).2) $$ [Hsrc Hleft]
    · isplitl [Hsrc]; · iexact Hsrc
      iexact Hleft
    iexact H

end Issue

end Cert.KernelIdeal.Hand

end

end
-- ==== Proof.KI.Tokens.lean ====
/-
  The token loop of the second call: one batch (start the transfers, wait, accumulate), and all batches.
-/
module

public import proofs.«01_k».proof.Proof.KI.Dma

@[expose] public section

set_option maxRecDepth 8192

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

variable (cc : Dev nD) (i : grid1.Coords)
variable (arg5 : Memref sig .tc .vmem S1024x640 .fp8e5m2) (harg5 : arg5.IsWhole) (arg6 : Memref sig .tc .vmem S1x1024x1 .f32) (harg6 : arg6.IsWhole)
  (arg7 : Memref sig .tc .vmem S1024x4096 .bf16) (harg7 : arg7.IsWhole) (arg9 : Memref sig .tc .smem S6144 .f32) (harg9 : arg9.IsWhole)
  (arg10 : Memref sig .tc .vmem S640x4096 .f32) (harg10 : arg10.IsWhole) (arg0 : BitVec 32)
variable (ord sid : S6144.Idx → BitVec 32) (es : S6144.Idx → F .f32) (e32 : S1536x4096.Idx → BitVec 32) (lo hi : BitVec 32)

/-- Before batch `b`: the tables, the buffer, the packed words, the semaphore at zero, and the output block with the first `64 b` tokens of the segment added. -/
def batchesAt (X : S640x4096.Idx → F .f32) (b : ℕ) (_ : Unit) : sProp 𝕄 :=
  iprop((ordM.view.loc (cc : Thread nD τ) ↦{fullShare} ord) ∗ (sidM.view.loc (cc : Thread nD τ) ↦{fullShare} sid)
    ∗ (arg9.view.loc (cc : Thread nD τ) ↦{fullShare} harg9.unread es) ∗ (∃ g, scrM.view.loc (cc : Thread nD τ) ↦{fullShare} g)
    ∗ (e32M.view.loc (cc : Thread nD τ) ↦{fullShare} e32) ∗ semVal ((cc : Thread nD τ), SemLoc.dma cc1_scratch1.sem) 0 ∗ (∃ W, owes (cc : Thread nD τ) 0 W)
    ∗ ∃ f, (arg10.view.loc (cc : Thread nD τ) ↦{fullShare} f)
      ∗ ⌜arg10.view.read (Elt F) f = accN (i 0).val ord sid es e32 lo.toNat X (min (64 * b) (hi.toNat - lo.toNat))⌝)

theorem batch_step [∀ e, Nonempty (Elt F e)] (k1_h2 : k1_cond2 i = 1#1) (hw : k1_chk1 i lo hi) (T : Tab (i 0).val ord sid lo hi)
    (X : S640x4096.Idx → F .f32) (b : Fin (k1_t1_loop lo hi).trips) (a : Unit) :
    batchesAt (F := F) cc i arg9 harg9 arg10 ord sid es e32 lo hi X b a
      ⊢ wp frame (wpE (defs₀ (F := F)) Variants.none (cc : Thread nD τ) none) Set.univ
        (Gen.k1_t1_body i ordM (Memref.isWhole_whole _) sidM (Memref.isWhole_whole _) offM (Memref.isWhole_whole _) arg5 harg5 arg6 harg6 arg7 harg7
          e32M (Memref.isWhole_whole _) arg9 harg9 arg10 harg10 scrM (Memref.isWhole_whole _) cc1_scratch1 arg0 k1_h2 lo hi hw b a)
        (batchesAt (F := F) cc i arg9 harg9 arg10 ord sid es e32 lo hi X (b.val + 1)) := by
  have hb : lo.toNat + 64 * b.val < hi.toNat := batch_lt lo hi T.seg b
  have hseg := T.seg.2
  obtain ⟨n, hn⟩ : ∃ n, n = min (hi.toNat - lo.toNat - 64 * b.val) 64 := ⟨_, rfl⟩
  obtain ⟨m, hm⟩ : ∃ m, m = b.val := ⟨_, rfl⟩
  rw [← hm] at hb hn
  have hn64 : n ≤ 64 := by omega
  have hn0 : 0 < n := by omega
  obtain ⟨p₀, hp₀⟩ : ∃ p, p = lo.toNat + 64 * m := ⟨_, rfl⟩
  have hpn : p₀ + n ≤ 6144 := by omega
  have ht2 : (k1_t2_loop lo hi b).trips = n := (t2_trips lo hi T.seg b).trans (by rw [hn, hm])
  have ht4 : (k1_t4_loop lo hi b).trips = n := (t4_trips lo hi T.seg b).trans (by rw [hn, hm])
  have ht6 : (k1_t6_loop lo hi b).trips = n := (t6_trips lo hi T.seg b).trans (by rw [hn, hm])
  have hm0 : min (64 * m) (hi.toNat - lo.toNat) = 64 * m + 0 := by omega
  have hm1 : min (64 * (m + 1)) (hi.toNat - lo.toNat) = 64 * m + n := by omega
  unfold batchesAt
  rw [← hm, hm0, hm1]
  iintro ⟨Hord, Hsid, Hes, ⟨%g, Hscr⟩, He32, Hsem, ⟨%W, HO⟩, ⟨%f, Hout, %hf⟩⟩
  ihave Hopen := (rows_open (F := F) cc e32 n hn64 g) $$ [Hscr He32]
  · isplitl [Hscr]; · iexact Hscr
    iexact He32
  icases Hopen with ⟨Hbef, Hrest, Hdrop⟩
  imod (Transfers.batch_alloc' (Lvl := ℕ) (countersEmb (U := Pipeline.UC sig nD τ)) (cc : Thread nD τ) () NN (deliv (F := F) cc ord e32 T.ord_lt p₀ n hn64) (sm := .dma cc1_scratch1.sem) (E := Set.univ)) $$ Hsem with HB
  unfold Gen.k1_t1_body
  sl_exec
  sl_for (issueAt (F := F) cc ord e32 T.ord_lt p₀ n hn64 g) $$ [Hord HB Hbef]
  · intro k acc
    exact issue_step (F := F) cc i arg5 harg5 arg6 harg6 arg7 harg7 arg9 harg9 arg10 harg10 ord e32 lo hi T.ord_lt p₀ n hn64 hpn k1_h2 hw T.seg b (by rw [hp₀, hm]) ht2 g 1#32 0#32 0#32 1#32 k acc
  · unfold issueAt
    isplitl [Hord]; · iexact Hord
    isplitl [HB]; · iexact HB
    isplitl [Hbef]; · iexact Hbef
    rw [Ring.bigSep_rangeSet_empty (le_refl _)]
    iempintro
  iintro %acc HL
  ihave HL := (show issueAt (F := F) cc ord e32 T.ord_lt p₀ n hn64 g (k1_t2_loop lo hi b).trips acc ⊢
      iprop((ordM.view.loc (cc : Thread nD τ) ↦{fullShare} ord) ∗ batchAt (F := F) cc ord e32 T.ord_lt p₀ n hn64 n 0
        ∗ bigSep (Ring.rangeSet n 0 n) (stays (F := F) cc ord e32 T.ord_lt p₀ n)) from by
    rw [ht2]; unfold issueAt
    iintro ⟨H1, H2, H3, H4⟩
    isplitl [H1]; · iexact H1
    isplitl [H2]; · iexact H2
    iexact H4) $$ HL
  icases HL with ⟨Hord, HB, Hstay⟩
  sl_exec
  sl_for (drainAt (F := F) cc ord e32 T.ord_lt p₀ n hn64) $$ [HO HB]
  · intro k acc
    exact drain_step (F := F) cc i arg5 harg5 arg6 harg6 arg7 harg7 arg9 harg9 arg10 harg10 ord e32 lo hi T.ord_lt p₀ n hn64 k1_h2 hw b ht4 1#32 0#32 0#32 1#32 k acc
  · unfold drainAt
    rw [if_pos hn0, Nat.zero_mul]
    isplitr; · ipureintro; omega
    isplitl [HO]; · iexists _; iexact HO
    iexact HB
  iintro %acc' HL
  ihave HL := (show drainAt (F := F) cc ord e32 T.ord_lt p₀ n hn64 (k1_t4_loop lo hi b).trips acc' ⊢
      iprop((∃ W, owes (cc : Thread nD τ) 0 W) ∗ semVal ((cc : Thread nD τ), SemLoc.dma cc1_scratch1.sem) 0
        ∗ bigSep Finset.univ (deliv (F := F) cc ord e32 T.ord_lt p₀ n hn64)) from by
    rw [ht4]; unfold drainAt; rw [if_neg (Nat.lt_irrefl _)]
    iintro ⟨-, H2, H3, H4⟩
    isplitl [H2]; · iexact H2
    isplitl [H3]; · iexact H3
    iexact H4) $$ HL
  icases HL with ⟨⟨%W', HO⟩, Hsem, Hall⟩
  ihave Hback := (rows_close (F := F) cc ord e32 T.ord_lt p₀ n hn64 g) $$ [Hall Hstay Hrest Hdrop]
  · isplitl [Hall]; · iexact Hall
    isplitl [Hstay]; · iexact Hstay
    isplitl [Hrest]; · iexact Hrest
    iexact Hdrop
  icases Hback with ⟨⟨%g', %hg', Hscr⟩, He32⟩
  sl_exec
  have hrows : Rows ord e32 g' (lo.toNat + 64 * b.val) (cnt lo hi b) := by
    have e1 : lo.toNat + 64 * b.val = p₀ := by rw [hp₀, hm]
    have e2 : cnt lo hi b = n := by rw [hn, hm]
    rw [e1, e2]; exact hg'
  sl_for (accAt (F := F) cc i arg9 harg9 arg10 ord sid es e32 lo g' X m) $$ [Hord Hsid Hes Hscr Hout]
  · intro k acc
    rw [hm]
    exact acc_step (F := F) cc i arg5 harg5 arg6 harg6 arg7 harg7 arg9 harg9 arg10 harg10 arg0 ord sid es e32 lo hi k1_h2 hw T b g' hrows X _ _ k acc
  · unfold accAt
    isplitl [Hord]; · iexact Hord
    isplitl [Hsid]; · iexact Hsid
    isplitl [Hes]; · iexact Hes
    isplitl [Hscr]; · iexact Hscr
    iexists f
    isplitl [Hout]; · iexact Hout
    ipureintro; exact hf
  iintro %acc'' HL
  ihave HL := (show accAt (F := F) cc i arg9 harg9 arg10 ord sid es e32 lo g' X m (k1_t6_loop lo hi b).trips acc'' ⊢
      accAt (F := F) cc i arg9 harg9 arg10 ord sid es e32 lo g' X m n acc'' from by rw [ht6]) $$ HL
  unfold accAt
  icases HL with ⟨Hord, Hsid, Hes, Hscr, ⟨%f', Hout, %hf'⟩⟩
  sl_exec
  sl_step
  isplitl [Hord]; · iexact Hord
  isplitl [Hsid]; · iexact Hsid
  isplitl [Hes]; · iexact Hes
  isplitl [Hscr]; · iexists g'; iexact Hscr
  isplitl [He32]; · iexact He32
  isplitl [Hsem]; · iexact Hsem
  isplitl [HO]; · iexists _; iexact HO
  iexists f'
  isplitl [Hout]; · iexact Hout
  ipureintro; exact hf'

end Cert.KernelIdeal.Hand
-- ==== Proof.KI.Body.lean ====
/-
  The second call's body at one grid point: what it leaves in the output block, from the blocks of its operands and the tables.
-/
module

public import proofs.«01_k».proof.Proof.KI.Tokens

@[expose] public section

set_option maxRecDepth 8192

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UC sig nD τ) ℕ

/-- Position `c` of the table of segment bounds, and the bound there. -/
def at51 (c : ℕ) : S51.Idx := fun a => ⟨c % 51, by fin_cases a; exact Nat.mod_lt _ (by decide)⟩
def bound (offs : S51.Idx → BitVec 32) (c : ℕ) : BitVec 32 := offs (at51 c)

/-- The block after a step's matrix product. -/
def mulStep (k : ℕ) (C : S1024x640.Idx → Elt F .fp8e5m2) (G : S1x1024x1.Idx → F .f32) (H : S1024x4096.Idx → F .bf16) (X : S640x4096.Idx → F .f32) :
    S640x4096.Idx → F .f32 := Gen.k1_pay2 C G (if k = 0 then Gen.k1_pay1 else X) H

/-- The block after a step: the product, and after the last one the tokens of the block's segment. -/
def blkStep (c k : ℕ) (ord sid : S6144.Idx → BitVec 32) (offs : S51.Idx → BitVec 32) (es : S6144.Idx → F .f32) (e32 : S1536x4096.Idx → BitVec 32)
    (C : S1024x640.Idx → Elt F .fp8e5m2) (G : S1x1024x1.Idx → F .f32) (H : S1024x4096.Idx → F .bf16) (X : S640x4096.Idx → F .f32) : S640x4096.Idx → F .f32 :=
  if k = 5 then accN c ord sid es e32 (bound offs c).toNat (mulStep k C G H X) ((bound offs (c + 1)).toNat - (bound offs c).toNat) else mulStep k C G H X

section Reads
variable {κ : Kind} {sp : Space} {Val : EltTy → Type} {e : EltTy}

theorem readAt_bound (v : View sig κ sp S51 e) (f : v.ty.Contents Val) {o : Fin 1 → ℕ} {p : ℕ} (eo : o = ![p]) (hp : p < 51) (h) (h') :
    View.readAt Val v (Rect.unit (s := S51) o S1.size h).toLoadRect f (Shape.Idx.first (s := S1) h') = v.read Val f (at51 p) := by
  subst eo
  refine congrArg (v.read Val f) (funext fun a => Fin.ext ?_)
  fin_cases a
  show p + 1 * _ = p % 51
  rw [Nat.mod_eq_of_lt hp]; rfl

/-- A whole block loaded is its contents; -/
theorem full_read {s : Shape} (v : View sig κ sp s e) (f : v.ty.Contents Val) (o : Fin s.rank → ℕ) (h0 : ∀ a, o a = 0) (h) :
    View.readAt Val v (Rect.unit (s := s) o s.size h).toLoadRect f = v.read Val f := by
  funext x
  refine congrArg (v.read Val f) (funext fun a => Fin.ext ?_)
  show o a + 1 * (x a).val = (x a).val
  rw [h0]; omega

/-- a whole block stored reads as what was stored. -/
theorem full_write {s : Shape} (v : View sig κ sp s e) (f : v.ty.Contents Val) (o : Fin s.rank → ℕ) (h0 : ∀ a, o a = 0) (h) (w : s.Idx → Val e) :
    v.read Val (v.writes Val f [⟨Rect.unit (s := s) o s.size h, w⟩]) = w := by
  funext y
  rw [View.read_writes_cons_unit (heq := rfl), dif_pos (fun a => by have := (y a).isLt; rw [h0]; omega)]
  refine congrArg w (funext fun a => Fin.ext ?_)
  show (y a).val - o a = (y a).val
  rw [h0]; omega

end Reads

theorem zero2 : ∀ a : Fin 2, (![0, 0] : Fin 2 → ℕ) a = 0 := by decide
theorem zero3 : ∀ a : Fin 3, (![0, 0, 0] : Fin 3 → ℕ) a = 0 := by decide

theorem first_iff (k : ℕ) (hk : k < 6) : Scalar.cmpi .ne (Scalar.extui (Scalar.cmpi .eq (BitVec.ofNat 32 k) 0#32) : BitVec 32) 0#32 = 1#1 ↔ k = 0 := by
  have h : ∀ k : Fin 6, Scalar.cmpi .ne (Scalar.extui (Scalar.cmpi .eq (BitVec.ofNat 32 k.val) 0#32) : BitVec 32) 0#32 = 1#1 ↔ k.val = 0 := by decide
  exact h ⟨k, hk⟩
theorem last_iff (i : grid1.Coords) : k1_cond2 i = 1#1 ↔ (i 1).val = 5 := by
  have h : ∀ k : Fin 6, Scalar.cmpi .ne (Scalar.extui (Scalar.cmpi .eq (BitVec.ofNat 32 k.val) 5#32) : BitVec 32) 0#32 = 1#1 ↔ k.val = 5 := by decide
  exact h (i 1)

variable (cc : Dev nD) (i : grid1.Coords)
variable (arg5 : Memref sig .tc .vmem S1024x640 .fp8e5m2) (harg5 : arg5.IsWhole) (arg6 : Memref sig .tc .vmem S1x1024x1 .f32) (harg6 : arg6.IsWhole)
  (arg7 : Memref sig .tc .vmem S1024x4096 .bf16) (harg7 : arg7.IsWhole) (arg9 : Memref sig .tc .smem S6144 .f32) (harg9 : arg9.IsWhole)
  (arg10 : Memref sig .tc .vmem S640x4096 .f32) (harg10 : arg10.IsWhole)
variable (ord sid : S6144.Idx → BitVec 32) (offs : S51.Idx → BitVec 32) (es : S6144.Idx → F .f32) (e32 : S1536x4096.Idx → BitVec 32)
variable (C : S1024x640.Idx → Elt F .fp8e5m2) (G : S1x1024x1.Idx → F .f32) (H : S1024x4096.Idx → F .bf16)

/-- What the body neither reads from a block nor leaves in one: the tables, the packed words, the row buffer, the semaphore at zero. -/
def tabs : sProp 𝕄 :=
  iprop((ordM.view.loc (cc : Thread nD τ) ↦{fullShare} ord) ∗ (sidM.view.loc (cc : Thread nD τ) ↦{fullShare} sid) ∗ (offM.view.loc (cc : Thread nD τ) ↦{fullShare} offs)
    ∗ (∃ g, scrM.view.loc (cc : Thread nD τ) ↦{fullShare} g) ∗ (e32M.view.loc (cc : Thread nD τ) ↦{fullShare} e32)
    ∗ semVal ((cc : Thread nD τ), SemLoc.dma cc1_scratch1.sem) 0)

theorem body_step [∀ e, Nonempty (Elt F e)] (T : Tab (i 0).val ord sid (bound offs (i 0).val) (bound offs ((i 0).val + 1))) (f : Buf (Elt F) (arg10.view.loc (cc : Thread nD τ)))
    (W : Waits sig Unit) :
    iprop(tabs (F := F) cc ord sid offs e32 ∗ owes (cc : Thread nD τ) 0 W
      ∗ (arg5.view.loc (cc : Thread nD τ) ↦{fullShare} harg5.unread C) ∗ (arg6.view.loc (cc : Thread nD τ) ↦{fullShare} harg6.unread G)
      ∗ (arg7.view.loc (cc : Thread nD τ) ↦{fullShare} harg7.unread H) ∗ (arg9.view.loc (cc : Thread nD τ) ↦{fullShare} harg9.unread es)
      ∗ (arg10.view.loc (cc : Thread nD τ) ↦{fullShare} f))
      ⊢ wp frame (wpE (defs₀ (F := F)) Variants.none (cc : Thread nD τ) none) Set.univ
        (cc1_dw i ordM (Memref.isWhole_whole _) sidM (Memref.isWhole_whole _) offM (Memref.isWhole_whole _) arg5 harg5 arg6 harg6 arg7 harg7
          e32M (Memref.isWhole_whole _) arg9 harg9 arg10 harg10 scrM (Memref.isWhole_whole _) cc1_scratch1)
        (fun _ => iprop(tabs (F := F) cc ord sid offs e32 ∗ (∃ W, owes (cc : Thread nD τ) 0 W)
          ∗ (arg5.view.loc (cc : Thread nD τ) ↦{fullShare} harg5.unread C) ∗ (arg6.view.loc (cc : Thread nD τ) ↦{fullShare} harg6.unread G)
          ∗ (arg7.view.loc (cc : Thread nD τ) ↦{fullShare} harg7.unread H) ∗ (arg9.view.loc (cc : Thread nD τ) ↦{fullShare} harg9.unread es)
          ∗ ∃ f', (arg10.view.loc (cc : Thread nD τ) ↦{fullShare} f')
            ∗ ⌜arg10.view.read (Elt F) f' = blkStep (i 0).val (i 1).val ord sid offs es e32 C G H (arg10.view.read (Elt F) f)⌝)) := by
  unfold tabs
  iintro ⟨⟨Hord, Hsid, Hoff, ⟨%g, Hscr⟩, He32, Hsem⟩, HO, H5, H6, H7, H9, Hout⟩
  rw [Gen.cc1_dw_eq_skeleton]
  unfold Gen.cc1_dw_skel
  sl_exec
  ihave Hout := (show iprop(arg10.view.loc (cc : Thread nD τ) ↦{fullShare} _) ⊢ iprop(∃ f1, (arg10.view.loc (cc : Thread nD τ) ↦{fullShare} f1)
      ∗ ⌜arg10.view.read (Elt F) f1 = mulStep (i 1).val C G H (arg10.view.read (Elt F) f)⌝) from by
    iintro H
    iexists _
    isplitl [H]; · iexact H
    ipureintro
    rw [full_write _ _ _ zero2, full_read _ _ _ zero2, full_read _ _ _ zero3, full_read _ _ _ zero2, harg5.read_unread, harg6.read_unread, harg7.read_unread]
    unfold mulStep
    have hv : body_step.sl.v10 i = 1#1 ↔ (i 1).val = 0 := first_iff (i 1).val (i 1).isLt
    have e11 : body_step.sl.v11 cc i arg10 f = if (i 1).val = 0 then Gen.k1_pay1 else arg10.view.read (Elt F) f := by
      unfold body_step.sl.v11
      rw [full_read _ _ _ zero2]
      by_cases h0 : (i 1).val = 0
      · rw [dif_pos (hv.mpr h0), if_pos h0, full_write _ _ _ zero2]
      · rw [dif_neg (fun h => h0 (hv.mp h)), if_neg h0]
    rw [e11]) $$ Hout
  icases Hout with ⟨%f1, Hout, %hf1⟩
  by_cases h2 : k1_cond2 i = 1#1
  · have h5 := (last_iff i).mp h2
    sl_exec
    have hi0 : (i 0).val < 50 := (i 0).isLt
    have e2 : body_step.sl.r_2 (F := F) i offs h2 = bound offs (i 0).val :=
      readAt_bound (Val := Elt F) offM.view offs (off1_eq i) (by omega) _ _
    have e3 : body_step.sl.r_3 (F := F) i offs h2 = bound offs ((i 0).val + 1) :=
      readAt_bound (Val := Elt F) offM.view offs (off2_eq i) (by omega) _ _
    have T' : Tab (i 0).val ord sid (body_step.sl.r_2 (F := F) i offs h2) (body_step.sl.r_3 (F := F) i offs h2) := by rw [e2, e3]; exact T
    have hw := chk1_of i _ _ T'.seg
    iapply (wp_assume _ _ _ _ hw)
    sl_exec
    sl_for (batchesAt (F := F) cc i arg9 harg9 arg10 ord sid es e32 (body_step.sl.r_2 (F := F) i offs h2) (body_step.sl.r_3 (F := F) i offs h2)
      (mulStep (i 1).val C G H (arg10.view.read (Elt F) f))) $$ [Hord Hsid H9 Hscr He32 Hsem HO Hout]
    · intro k acc
      exact batch_step (F := F) cc i arg5 harg5 arg6 harg6 arg7 harg7 arg9 harg9 arg10 harg10 _ ord sid es e32 _ _ h2 hw T' _ k acc
    · unfold batchesAt
      isplitl [Hord]; · iexact Hord
      isplitl [Hsid]; · iexact Hsid
      isplitl [H9]; · iexact H9
      isplitl [Hscr]; · iexists g; iexact Hscr
      isplitl [He32]; · iexact He32
      isplitl [Hsem]; · iexact Hsem
      isplitl [HO]; · iexists _; iexact HO
      iexists f1
      isplitl [Hout]; · iexact Hout
      ipureintro; rw [Nat.mul_zero, Nat.zero_min]; exact hf1
    iintro %acc HL
    unfold batchesAt
    icases HL with ⟨Hord, Hsid, H9, ⟨%g', Hscr⟩, He32, Hsem, ⟨%W', HO⟩, ⟨%f', Hout, %hf'⟩⟩
    have hlast : arg10.view.read (Elt F) f' = blkStep (i 0).val (i 1).val ord sid offs es e32 C G H (arg10.view.read (Elt F) f) := by
      refine hf'.trans ?_
      unfold blkStep
      rw [if_pos h5, show Scf.trips _ _ _ = _ from t1_trips _ _ T'.seg, e2, e3]
      congr 1
      omega
    sl_exec
    sl_step
    isplitl [Hord Hsid Hoff Hscr He32 Hsem]
    · isplitl [Hord]; · iexact Hord
      isplitl [Hsid]; · iexact Hsid
      isplitl [Hoff]; · iexact Hoff
      isplitl [Hscr]; · iexists g'; iexact Hscr
      isplitl [He32]; · iexact He32
      iexact Hsem
    isplitl [HO]; · iexists _; iexact HO
    isplitl [H5]; · iexact H5
    isplitl [H6]; · iexact H6
    isplitl [H7]; · iexact H7
    isplitl [H9]; · iexact H9
    iexists f'
    isplitl [Hout]; · iexact Hout
    ipureintro; exact hlast
  · have h5 : ¬(i 1).val = 5 := fun h => h2 ((last_iff i).mpr h)
    sl_exec
    sl_step
    isplitl [Hord Hsid Hoff Hscr He32 Hsem]
    · isplitl [Hord]; · iexact Hord
      isplitl [Hsid]; · iexact Hsid
      isplitl [Hoff]; · iexact Hoff
      isplitl [Hscr]; · iexists g; iexact Hscr
      isplitl [He32]; · iexact He32
      iexact Hsem
    isplitl [HO]; · iexists _; iexact HO
    isplitl [H5]; · iexact H5
    isplitl [H6]; · iexact H6
    isplitl [H7]; · iexact H7
    isplitl [H9]; · iexact H9
    iexists f1
    isplitl [Hout]; · iexact Hout
    ipureintro; unfold blkStep; rw [if_neg h5]; exact hf1

end Cert.KernelIdeal.Hand
-- ==== Proof.KI.Region1.lean ====
/-
  The second call over its 300 grid points: the contents of its windows' blocks, and its body's obligation at every point.
-/
module

public import proofs.«01_k».proof.Proof.KI.Body
public import proofs.«01_k».proof.Proof.Gen.KernelIdeal.Regions

@[expose] public section

set_option maxRecDepth 8192

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UC sig nD τ) ℕ

variable (Vb : Dev nD → Valuation τ sig (Elt F))

/-- The tables' contents when the call begins. -/
def tbl : pre1.Contents (Elt F) := fun k => Vb 0 (Proc.devRef .tc (pre1.ref k))
/-- The configurations of the two calls at these tables. -/
abbrev adm1 : (pcfg1 (F := F)).Adm := ⟨tbl Vb, trivial⟩
def adm : (p : Fin 2) → (pcfgs (F := F) p).Adm
  | ⟨0, _⟩ => cfg0.toPCfg_adm
  | ⟨1, _⟩ => adm1 Vb

/-- Window `w`'s block at point `t`, as the call finds its array. -/
def iblk (c : Dev nD) (w : Fin 5) (t : Fin (cfg1 (adm1 Vb)).N) :
    (((cfg1 (adm1 Vb)).win w).xblock ((cfg1 (adm1 Vb)).grid.coords t)).Idx → Elt F ((cfg1 (adm1 Vb)).win w).elt :=
  (((cfg1 (adm1 Vb)).win w).blk t).view.read (Elt F) (Vb c (Proc.devRef .tc (Pipeline.arrRef spec1 w)))

/-- The output block after point `n`, from the block before it. -/
def stepAt (c : Dev nD) (n : ℕ) (X : S640x4096.Idx → F .f32) : S640x4096.Idx → F .f32 :=
  if h : n < grid1.N then
    blkStep (n / 6) (n % 6) (Vb 0 main_v4) (Vb 0 main_v11) (Vb 0 main_v15) (iblk Vb c 3 ⟨n, h⟩) (Vb c main_v30)
      (iblk Vb c 0 ⟨n, h⟩) (iblk Vb c 1 ⟨n, h⟩) (iblk Vb c 2 ⟨n, h⟩) X
  else X

/-- The output block after point `n`. -/
def outAt (c : Dev nD) : ℕ → S640x4096.Idx → F .f32
  | 0 => stepAt Vb c 0 Gen.k1_pay1
  | n + 1 => stepAt Vb c (n + 1) (outAt c n)

/-- The first step of a block forgets what the block held. -/
theorem stepAt_first (c : Dev nD) (n : ℕ) (h : n % 6 = 0) (X Y : S640x4096.Idx → F .f32) : stepAt Vb c n X = stepAt Vb c n Y ∨ grid1.N ≤ n := by
  by_cases hn : n < grid1.N
  · left
    unfold stepAt
    rw [dif_pos hn, dif_pos hn]
    unfold blkStep mulStep
    rw [h, if_neg (by decide : ¬ (0 : ℕ) = 5), if_neg (by decide : ¬ (0 : ℕ) = 5), if_pos rfl, if_pos rfl]
  · right; omega

def Phi1 (c : Dev nD) : sProp 𝕄 :=
  iprop(iprop(Pipeline.scopedRest (Ix := Unit) (Name := ℕ) (U := Pipeline.UC sig nD τ) (Lvl := ℕ) (Val := Elt F) spec1 c ∗ (∃ r, prngReg c r)
    ∗ Pipeline.ownSems0 (Ix := Unit) (Name := ℕ) (U := Pipeline.UC sig nD τ) (Lvl := ℕ) (Val := Elt F) (τ := τ) (fun _ : Unit => SemLoc.dma cc1_scratch1.sem) c
    ∗ (bigSep {main_v30} fun b => ((c.tc : Thread nD τ).loc b) ↦{fullShare} Vb c (Proc.devRef .tc b)))
    ∗ Pipeline.prefHeld pre1 c (fun _ => fullShare) (tbl Vb))

/-- The second call's contents, point by point. -/
def dat1 (c : Dev nD) : Dat τ (Elt F) Unit ℕ (Pipeline.UC sig nD τ) ℕ (cfg1 (adm1 Vb)) c where
  A w := Vb c (Proc.devRef .tc (Pipeline.arrRef spec1 w))
  after w t := match w with
    | ⟨0, _⟩ => iblk Vb c 0 t
    | ⟨1, _⟩ => iblk Vb c 1 t
    | ⟨2, _⟩ => iblk Vb c 2 t
    | ⟨3, _⟩ => iblk Vb c 3 t
    | ⟨4, _⟩ => outAt Vb c t.val
  Φ _ := Phi1 Vb c
  q _ := fullShare
  owed _ := 0

theorem before1_0 (c : Dev nD) (t : Fin (cfg1 (adm1 Vb)).N) (d) : (dat1 Vb c).before 0 t d = iblk Vb c 0 t :=
  ((dat1 Vb c).before_in_eq_fetched 0 rfl (fun _ => rfl) (fun _ _ _ => rfl) (fun t => rfl) t d).trans rfl
theorem before1_1 (c : Dev nD) (t : Fin (cfg1 (adm1 Vb)).N) (d) : (dat1 Vb c).before 1 t d = iblk Vb c 1 t :=
  ((dat1 Vb c).before_in_eq_fetched 1 rfl (fun _ => rfl) (fun _ _ _ => rfl) (fun t => rfl) t d).trans rfl
theorem before1_2 (c : Dev nD) (t : Fin (cfg1 (adm1 Vb)).N) (d) : (dat1 Vb c).before 2 t d = iblk Vb c 2 t :=
  ((dat1 Vb c).before_in_eq_fetched 2 rfl (fun _ => rfl) (fun _ _ _ => rfl) (fun t => rfl) t d).trans rfl
theorem before1_3 (c : Dev nD) (t : Fin (cfg1 (adm1 Vb)).N) (d) : (dat1 Vb c).before 3 t d = iblk Vb c 3 t :=
  ((dat1 Vb c).before_in_eq_fetched 3 rfl (fun _ => rfl) (fun _ _ _ => rfl) (fun t => rfl) t d).trans rfl

theorem coords1_0 : ∀ t : Fin grid1.N, (grid1.coords t 0).val = t.val / 6 := by decide +kernel
theorem coords1_1 : ∀ t : Fin grid1.N, (grid1.coords t 1).val = t.val % 6 := by decide +kernel
/-- The output block is written back after a block's last step, and only then. -/
theorem flush1 (t : Fin (cfg1 (adm1 Vb)).N) : ((cfg1 (adm1 Vb)).win 4).flush t = decide (t.val % 6 = 5) := by
  have h : ∀ t : Fin grid1.N, Pipeline.Window.flushOf grid1 true cc1_transform_5 t = decide (t.val % 6 = 5) := by decide +kernel
  exact h t

/-- The output block before a point that is no block's first is what the point before left. -/
theorem before1_4 (c : Dev nD) (t : Fin (cfg1 (adm1 Vb)).N) (h : t.val % 6 ≠ 0) (d) : (dat1 Vb c).before 4 t d = outAt Vb c (t.val - 1) := by
  rw [Dat.before_of_pos _ 4 t (by omega) rfl, flush1, if_neg (by simp only [decide_eq_true_eq]; omega)]
  rfl

theorem outAt_eq (c : Dev nD) (t : Fin (cfg1 (adm1 Vb)).N) (d) : outAt Vb c t.val = stepAt Vb c t.val ((dat1 Vb c).before 4 t d) := by
  have ht : t.val < grid1.N := t.isLt
  have hN : grid1.N = 300 := Gen.N_1
  by_cases h : t.val % 6 = 0
  · rcases hn : t.val with _ | n
    · rw [outAt]; exact (stepAt_first Vb c 0 rfl _ _).resolve_right (by omega)
    · rw [outAt]; exact (stepAt_first Vb c (n + 1) (by omega) _ _).resolve_right (by omega)
  · rw [before1_4 Vb c t h]
    obtain ⟨n, hn⟩ : ∃ n, t.val = n + 1 := ⟨t.val - 1, by omega⟩
    rw [hn, outAt, Nat.add_sub_cancel]

theorem owns_in (c : Dev nD) {sp : Space} {sh : Shape} {e : EltTy} (M : Memref sig .tc sp sh e) (h : M.IsWhole) (X Y : sh.Idx → Elt F e)
    (e : X = Y) : (owns (c : Thread nD τ) M fullShare X : sProp 𝕄) ⊢ M.view.loc (c : Thread nD τ) ↦{fullShare} h.unread Y := by
  subst e
  unfold owns
  rw [h.set_eq_univ]
  iintro ⟨%f, %hf, H⟩
  obtain rfl := h.eq_unread hf
  iexact H

theorem owns_out (c : Dev nD) {sp : Space} {sh : Shape} {e : EltTy} (M : Memref sig .tc sp sh e) (h : M.IsWhole) (X : sh.Idx → Elt F e)
    (f : Buf (Elt F) (M.view.loc (c : Thread nD τ))) (hf : M.view.read (Elt F) f = X) :
    (M.view.loc (c : Thread nD τ) ↦{fullShare} f) ⊢ (owns (c : Thread nD τ) M fullShare X : sProp 𝕄) := by
  unfold owns
  rw [h.set_eq_univ]
  iintro H
  iexists f; isplitr; · ipureintro; exact hf
  iexact H

/-- Every block's tables are as its tokens need them. -/
def TabAll : Prop := ∀ c < 50, Tab c (Vb 0 main_v4) (Vb 0 main_v11) (bound (Vb 0 main_v15) c) (bound (Vb 0 main_v15) (c + 1))

/-- What the body needs of `Phi1`, and what rides along. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ r, prngReg c r))

theorem prefHeld1 (c : Dev nD) (X : pre1.Contents (Elt F)) :
    (Pipeline.prefHeld pre1 c (fun _ => fullShare) X : sProp 𝕄)
      = iprop((((c.tc : Thread nD τ).loc main_v4) ↦{fullShare} X 0) ∗ (((c.tc : Thread nD τ).loc main_v11) ↦{fullShare} X 1)
        ∗ (((c.tc : Thread nD τ).loc main_v15) ↦{fullShare} X 2)) := by
  unfold Pipeline.prefHeld
  exact bigSep_univ_eq_bigSepL [(0 : Fin 3), (1 : Fin 3), (2 : Fin 3)] (by decide) (by decide) _

theorem ownSems1 (c : Dev nD) :
    (Pipeline.ownSems0 (Ix := Unit) (Name := ℕ) (U := Pipeline.UC sig nD τ) (Lvl := ℕ) (Val := Elt F) (τ := τ) (fun _ : Unit => SemLoc.dma cc1_scratch1.sem) c : sProp 𝕄)
      = semVal ((c : Thread nD τ), SemLoc.dma cc1_scratch1.sem) 0 :=
  (Pipeline.ownSems0_eq_of_list c _ [()] (by decide) (by decide)).trans rfl

theorem Phi1_open (c : Dev nD) : Phi1 Vb c ⊢ iprop(tabs (F := F) c (Vb 0 main_v4) (Vb 0 main_v11) (Vb 0 main_v15) (Vb c main_v30) ∗ rest1 c) := by
  unfold Phi1 tabs rest1
  rw [Gen.scopedRest1_eq, ownSems1, BI.bigSep_singleton, prefHeld1]
  iintro ⟨⟨⟨G0, G1, G2, G3, G4, G5, Hs⟩, Hp, Hsem, He⟩, ⟨Ho, Hi, Hf⟩⟩
  isplitl [Ho Hi Hf Hs He Hsem]
  · isplitl [Ho]; · iexact Ho
    isplitl [Hi]; · iexact Hi
    isplitl [Hf]; · iexact Hf
    isplitl [Hs]; · iexact Hs
    isplitl [He]; · iexact He
    iexact Hsem
  isplitl [G0]; · iexact G0
  isplitl [G1]; · iexact G1
  isplitl [G2]; · iexact G2
  isplitl [G3]; · iexact G3
  isplitl [G4]; · iexact G4
  isplitl [G5]; · iexact G5
  iexact Hp

theorem Phi1_close (c : Dev nD) : iprop(tabs (F := F) c (Vb 0 main_v4) (Vb 0 main_v11) (Vb 0 main_v15) (Vb c main_v30) ∗ rest1 c) ⊢ Phi1 Vb c := by
  unfold Phi1 tabs rest1
  rw [Gen.scopedRest1_eq, ownSems1, BI.bigSep_singleton, prefHeld1]
  iintro ⟨⟨Ho, Hi, Hf, Hs, He, Hsem⟩, G0, G1, G2, G3, G4, G5, Hp⟩
  isplitl [G0 G1 G2 G3 G4 G5 Hs Hp Hsem He]
  · isplitl [G0 G1 G2 G3 G4 G5 Hs]
    · isplitl [G0]; · iexact G0
      isplitl [G1]; · iexact G1
      isplitl [G2]; · iexact G2
      isplitl [G3]; · iexact G3
      isplitl [G4]; · iexact G4
      isplitl [G5]; · iexact G5
      iexact Hs
    isplitl [Hp]; · iexact Hp
    isplitl [Hsem]; · iexact Hsem
    iexact He
  isplitl [Ho]; · iexact Ho
  isplitl [Hi]; · iexact Hi
  iexact Hf

set_option backward.isDefEq.respectTransparency.types false in
/-- The call's body keeps its contents' promise at every point. -/
theorem body1 [∀ e, Nonempty (Elt F e)] (T : TabAll Vb) (c : Dev nD) : BodyObligation (dat1 Vb c) (defs₀ (F := F)) Variants.none () Set.univ := fun t => by
  obtain rfl : c = 0 := Subsingleton.elim _ _
  have h0 := coords1_0 t
  have h1 := coords1_1 t
  have hN : grid1.N = 300 := Gen.N_1
  have ht : t.val < grid1.N := t.isLt
  rw [Gen.bigSep_W1, Gen.bigSep_W1]
  rw [show (dat1 Vb 0).Φ t.castSucc = Phi1 Vb 0 from rfl, show (dat1 Vb 0).Φ t.succ = Phi1 Vb 0 from rfl]
  unfold Dat.owesAt Pipeline.owesWithin
  rw [show (dat1 Vb 0).owed t.castSucc = 0 from rfl, show (dat1 Vb 0).owed t.succ = 0 from rfl]
  let s := (cfg1 (adm1 Vb)).slots t
  let w0 := Facts₀.hstage1_0 ((s 0).cast Facts₀.nbuf1_0)
  let w1 := Facts₀.hstage1_1 ((s 1).cast Facts₀.nbuf1_1)
  let w2 := Facts₀.hstage1_2 ((s 2).cast Facts₀.nbuf1_2)
  let w3 := Facts₀.hstage1_3 ((s 3).cast Facts₀.nbuf1_3)
  let w4 := Facts₀.hstage1_4 ((s 4).cast Facts₀.nbuf1_4)
  have T' : Tab (grid1.coords t 0).val (Vb 0 main_v4) (Vb 0 main_v11) (bound (Vb 0 main_v15) (grid1.coords t 0).val) (bound (Vb 0 main_v15) ((grid1.coords t 0).val + 1)) :=
    T _ (by rw [h0]; omega)
  iintro ⟨HΦ, ⟨%W, %hW, HO⟩, ⟨%d0, H0⟩, ⟨%d1, H1⟩, ⟨%d2, H2⟩, ⟨%d3, H3⟩, ⟨%d4, H4⟩⟩
  ihave HΦ := Phi1_open Vb 0 $$ HΦ
  icases HΦ with ⟨HT, HR⟩
  ihave H0 := (owns_in 0 (spec1_0.stage (s 0)) w0 _ _ (before1_0 Vb 0 t d0)) $$ H0
  ihave H1 := (owns_in 0 (spec1_1.stage (s 1)) w1 _ _ (before1_1 Vb 0 t d1)) $$ H1
  ihave H2 := (owns_in 0 (spec1_2.stage (s 2)) w2 _ _ (before1_2 Vb 0 t d2)) $$ H2
  ihave H3 := (owns_in 0 (spec1_3.stage (s 3)) w3 _ _ (before1_3 Vb 0 t d3)) $$ H3
  ihave H4 := (owns_in 0 (spec1_4.stage (s 4)) w4 _ ((dat1 Vb 0).before 4 t d4) rfl) $$ H4
  ihave Hw := (body_step (F := F) 0 (grid1.coords t) (spec1_0.stage (s 0)) w0 (spec1_1.stage (s 1)) w1 (spec1_2.stage (s 2)) w2
    (spec1_3.stage (s 3)) w3 (spec1_4.stage (s 4)) w4 (Vb 0 main_v4) (Vb 0 main_v11) (Vb 0 main_v15) (iblk Vb 0 3 t) (Vb 0 main_v30)
    (iblk Vb 0 0 t) (iblk Vb 0 1 t) (iblk Vb 0 2 t) T' (w4.unread ((dat1 Vb 0).before 4 t d4)) W) $$ [HT HO H0 H1 H2 H3 H4]
  · isplitl [HT]; · iexact HT
    isplitl [HO]; · iexact HO
    isplitl [H0]; · iexact H0
    isplitl [H1]; · iexact H1
    isplitl [H2]; · iexact H2
    isplitl [H3]; · iexact H3
    iexact H4
  iapply (wp_wand _ _) $$ Hw
  iintro %_ ⟨HT, ⟨%W', HO⟩, H0, H1, H2, H3, ⟨%f', H4, %hf'⟩⟩
  isplitl [HT HR]
  · iapply (Phi1_close Vb 0); isplitl [HT]; · iexact HT
    iexact HR
  isplitl [HO]
  · iexists W'; isplitr; · ipureintro; exact fun _ _ => Or.inl trivial
    iexact HO
  isplitl [H0]; · iapply (owns_out 0 (spec1_0.stage (s 0)) w0 _ _ (w0.read_unread _)); iexact H0
  isplitl [H1]; · iapply (owns_out 0 (spec1_1.stage (s 1)) w1 _ _ (w1.read_unread _)); iexact H1
  isplitl [H2]; · iapply (owns_out 0 (spec1_2.stage (s 2)) w2 _ _ (w2.read_unread _)); iexact H2
  isplitl [H3]; · iapply (owns_out 0 (spec1_3.stage (s 3)) w3 _ _ (w3.read_unread _)); iexact H3
  have he : (spec1_4.stage (s 4)).view.read (Elt F) f' = (dat1 Vb 0).after 4 t := by
    refine (hf'.trans (congrArg _ (w4.read_unread _))).trans ?_
    rw [h0, h1]
    refine Eq.trans ?_ (outAt_eq Vb 0 t d4).symm
    unfold stepAt
    rw [dif_pos ht]
  iapply (owns_out 0 (spec1_4.stage (s 4)) w4 _ _ he)
  iexact H4

end Cert.KernelIdeal.Hand

end
-- ==== Proof.KI.Region0.lean ====
/-
  The first call: every block of activations multiplied by its scales, point by point.
-/
module

public import proofs.«01_k».proof.Proof.KI.Region1
public import proofs.«01_k».proof.Proof.Gen.KernelIdeal.Points

@[expose] public section

set_option maxRecDepth 8192

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (Pipeline.UC sig nD τ) ℕ

variable (Va : Dev nD → Valuation τ sig (Elt F))

/-- Window `w`'s block at point `t`, as the first call finds its array. -/
def iblk0 (c : Dev nD) (w : Fin 3) (t : Fin cfg0.N) : ((cfg0.win w).xblock (cfg0.grid.coords t)).Idx → Elt F (cfg0.win w).elt :=
  ((cfg0.win w).blk t).view.read (Elt F) (Va c (Proc.devRef .tc (Pipeline.arrRef spec0 w)))

/-- The first call's contents, point by point. -/
def dat0 (c : Dev nD) : Dat τ (Elt F) Unit ℕ (Pipeline.UC sig nD τ) ℕ cfg0 c where
  A w := Va c (Proc.devRef .tc (Pipeline.arrRef spec0 w))
  after w t := match w with
    | ⟨0, _⟩ => iblk0 Va c 0 t
    | ⟨1, _⟩ => iblk0 Va c 1 t
    | ⟨2, _⟩ => Gen.k0_pay1 (iblk0 Va c 0 t) (iblk0 Va c 1 t)
  Φ _ := Pipeline.scopedRest (Ix := Unit) (Name := ℕ) (U := Pipeline.UC sig nD τ) (Lvl := ℕ) (Val := Elt F) spec0 c
  q _ := fullShare
  owed _ := 0

theorem before0_0 (c : Dev nD) (t : Fin cfg0.N) (d) : (dat0 Va c).before 0 t d = iblk0 Va c 0 t :=
  ((dat0 Va c).before_in_eq_fetched 0 rfl (fun _ => rfl) (fun _ _ _ => rfl) (fun t => rfl) t d).trans rfl
theorem before0_1 (c : Dev nD) (t : Fin cfg0.N) (d) : (dat0 Va c).before 1 t d = iblk0 Va c 1 t :=
  ((dat0 Va c).before_in_eq_fetched 1 rfl (fun _ => rfl) (fun _ _ _ => rfl) (fun t => rfl) t d).trans rfl

/-- The first call's body: the output block becomes the activations times their scales. -/
theorem body_step0 (c : Dev nD) (i : grid0.Coords) (arg1 : Memref sig .tc .vmem S512x4096 .fp8e4m3) (harg1 : arg1.IsWhole)
    (arg2 : Memref sig .tc .vmem S512x1 .f32) (harg2 : arg2.IsWhole) (arg3 : Memref sig .tc .vmem S512x4096 .bf16) (harg3 : arg3.IsWhole)
    (X : S512x4096.Idx → Elt F .fp8e4m3) (S : S512x1.Idx → F .f32) (f : Buf (Elt F) (arg3.view.loc (c : Thread nD τ))) :
    iprop((arg1.view.loc (c : Thread nD τ) ↦{fullShare} harg1.unread X) ∗ (arg2.view.loc (c : Thread nD τ) ↦{fullShare} harg2.unread S)
      ∗ (arg3.view.loc (c : Thread nD τ) ↦{fullShare} f) : sProp 𝕄)
      ⊢ wp frame (wpE (defs₀ (F := F)) Variants.none (c : Thread nD τ) none) Set.univ (cc0_hx i arg1 harg1 arg2 harg2 arg3 harg3)
        (fun _ => iprop((arg1.view.loc (c : Thread nD τ) ↦{fullShare} harg1.unread X) ∗ (arg2.view.loc (c : Thread nD τ) ↦{fullShare} harg2.unread S)
          ∗ ∃ f', (arg3.view.loc (c : Thread nD τ) ↦{fullShare} f') ∗ ⌜arg3.view.read (Elt F) f' = Gen.k0_pay1 X S⌝)) := by
  iintro ⟨H1, H2, H3⟩
  rw [Gen.cc0_hx_eq_skeleton]
  unfold Gen.cc0_hx_skel
  sl_exec
  sl_step
  isplitl [H1]; · iexact H1
  isplitl [H2]; · iexact H2
  iexists _
  isplitl [H3]; · iexact H3
  ipureintro
  rw [full_write _ _ _ zero2, full_read _ _ _ zero2, full_read _ _ _ zero2, harg1.read_unread, harg2.read_unread]

set_option backward.isDefEq.respectTransparency.types false in
/-- The first call's body keeps its contents' promise at every point. -/
theorem body0 (c : Dev nD) : BodyObligation (dat0 Va c) (defs₀ (F := F)) Variants.none () Set.univ := fun t => by
  rw [Gen.bigSep_W0, Gen.bigSep_W0]
  rw [show (dat0 Va c).Φ t.succ = (dat0 Va c).Φ t.castSucc from rfl, show (dat0 Va c).owesAt () t.succ = (dat0 Va c).owesAt () t.castSucc from rfl]
  let s := cfg0.slots t
  let w0 := Facts₀.hstage0_0 ((s 0).cast Facts₀.nbuf0_0)
  let w1 := Facts₀.hstage0_1 ((s 1).cast Facts₀.nbuf0_1)
  let w2 := Facts₀.hstage0_2 ((s 2).cast Facts₀.nbuf0_2)
  iintro ⟨HΦ, HO, ⟨%d0, H0⟩, ⟨%d1, H1⟩, ⟨%d2, H2⟩⟩
  ihave H0 := (owns_in c (win0_0.stage (s 0)) w0 _ _ (before0_0 Va c t d0)) $$ H0
  ihave H1 := (owns_in c (win0_1.stage (s 1)) w1 _ _ (before0_1 Va c t d1)) $$ H1
  ihave H2 := (owns_in c (win0_2.stage (s 2)) w2 _ ((dat0 Va c).before 2 t d2) rfl) $$ H2
  ihave Hw := (body_step0 (F := F) c (grid0.coords t) (win0_0.stage (s 0)) w0 (win0_1.stage (s 1)) w1 (win0_2.stage (s 2)) w2
    (iblk0 Va c 0 t) (iblk0 Va c 1 t) (w2.unread ((dat0 Va c).before 2 t d2))) $$ [H0 H1 H2]
  · isplitl [H0]; · iexact H0
    isplitl [H1]; · iexact H1
    iexact H2
  iapply (wp_wand _ _) $$ Hw
  iintro %_ ⟨H0, H1, ⟨%f', H2, %hf'⟩⟩
  isplitl [HΦ]; · iexact HΦ
  isplitl [HO]; · iexact HO
  isplitl [H0]; · iapply (owns_out c (win0_0.stage (s 0)) w0 _ _ (w0.read_unread _)); iexact H0
  isplitl [H1]; · iapply (owns_out c (win0_1.stage (s 1)) w1 _ _ (w1.read_unread _)); iexact H1
  have he : (win0_2.stage (s 2)).view.read (Elt F) f' = (dat0 Va c).after 2 t := hf'
  iapply (owns_out c (win0_2.stage (s 2)) w2 _ _ he)
  iexact H2

end Cert.KernelIdeal.Hand

end
-- ==== Proof.KI.Decode.lean ====
/-
  The kernel's decoding of a packed eight-bit code: what it computes from a word of four codes is the code's own value, for every code whose
  exponent is not all ones.
-/
module

public import proofs.«01_k».proof.Proof.KI.Acc
public import Idealize.ShloMosaic.Lib.Pointwise
public import Mathlib.Tactic.Ring

@[expose] public section

set_option maxRecDepth 8192

noncomputable section

namespace Cert.KernelIdeal.Hand

open Idealize.ShloMosaic

/-- A finite pattern's value in units of the format's smallest step. -/
def steps (e m : ℕ) {w : ℕ} (b : BitVec w) : ℤ :=
  (if b.extractLsb' (e + m) 1 == 1#1 then -1 else 1)
    * (if (b.extractLsb' m e).toNat = 0 then ((b.extractLsb' 0 m).toNat : ℤ)
        else ((2 ^ m + (b.extractLsb' 0 m).toNat) * 2 ^ ((b.extractLsb' m e).toNat - 1) : ℕ))

/-- A pattern whose exponent is not all ones denotes that many steps. -/
theorem ieee_eq_steps (e m : ℕ) {w : ℕ} (b : BitVec w) (h : (b.extractLsb' m e).toNat ≠ 2 ^ e - 1) :
    Ideal.ieee e m b = (((steps e m b : ℤ) * (2 : ℝ) ^ (1 - (2 ^ (e - 1) - 1) - m : ℤ) : ℝ) : EReal) := by
  unfold Ideal.ieee steps
  simp only [h, if_false]
  by_cases h0 : (b.extractLsb' m e).toNat = 0
  · simp only [h0, if_true]
    congr 1
    split <;> push_cast <;> ring
  · simp only [h0, if_false]
    congr 1
    have : (2 : ℝ) ^ (((b.extractLsb' m e).toNat : ℤ) - (2 ^ (e - 1) - 1) - m)
        = (2 : ℝ) ^ ((b.extractLsb' m e).toNat - 1) * (2 : ℝ) ^ (1 - (2 ^ (e - 1) - 1) - m : ℤ) := by
      rw [← zpow_natCast, ← zpow_add₀ (two_ne_zero)]
      congr 1
      have : 1 ≤ (b.extractLsb' m e).toNat := Nat.one_le_iff_ne_zero.2 h0
      rw [Nat.cast_sub this]
      push_cast; ring
    rw [this]
    split <;> push_cast <;> ring

/-- A code's sign bit on top and its seven other bits under four zeros, as the kernel spreads them. -/
def spread (b : BitVec 8) : BitVec 32 := BitVec.sshiftRight (b ++ 0#24) 3 &&& 2413821952#32

/-- The code of token `w` in a word of four. -/
def codeOf (w : BitVec 32) (x : BitVec 32) : BitVec 8 := x.extractLsb' (8 * (w.toNat % 4)) 8

/-- The spread bits, from a word with the code shifted to its top. -/
theorem spread_of (x : BitVec 32) (q : Fin 4) :
    BitVec.sshiftRight (x <<< (24 - 8 * q.val)) 3 &&& 2413821952#32 = spread (x.extractLsb' (8 * q.val) 8) := by
  unfold spread
  refine BitVec.eq_of_getLsbD_eq fun i hi => ?_
  have key : ∀ i : Fin 32, (2413821952#32).getLsbD i.val = (decide (i.val = 31) || decide (21 ≤ i.val ∧ i.val ≤ 27)) := by decide
  rw [BitVec.getLsbD_and, BitVec.getLsbD_and, key ⟨i, hi⟩]
  by_cases hm : i = 31 ∨ (21 ≤ i ∧ i ≤ 27)
  swap
  · have : (decide (i = 31) || decide (21 ≤ i ∧ i ≤ 27)) = false := by
      simp only [Bool.or_eq_false_iff, decide_eq_false_iff_not]; omega
    simp only [this, Bool.and_false]
  congr 1
  have hq := q.isLt
  rw [BitVec.getLsbD_sshiftRight, BitVec.getLsbD_sshiftRight, BitVec.msb_eq_getLsbD_last, BitVec.msb_eq_getLsbD_last]
  simp only [BitVec.getLsbD_shiftLeft, BitVec.getLsbD_append, BitVec.getLsbD_extractLsb']
  rcases hm with rfl | hm
  · have e1 : 32 - 1 - (24 - 8 * q.val) = 8 * q.val + (32 - 1 - 24) := by omega
    simp [e1]; omega
  · have h1 : 3 + i < 32 := by omega
    have e1 : 3 + i - (24 - 8 * q.val) = 8 * q.val + (3 + i - 24) := by omega
    have h2 : ¬ 3 + i < 24 := by omega
    have h3 : ¬ (3 + i < 24 - 8 * q.val) := by omega
    have h4 : ¬ 32 ≤ i := by omega
    have h5 : 3 + i - 24 < 8 := by omega
    simp [h1, e1, h2, h3, h4, h5, hi]

/-- What the kernel computes from the spread bits: magnitude by a shift of the exponent, or a difference for a subnormal code, then the sign. -/
def decoded (u : BitVec 32) : EReal :=
  let mag := u &&& 266338304#32
  let v := if mag.slt 8388608#32 then Ideal.ofBits .f32 (mag + 947912704#32) - Ideal.ofBits .f32 0x38800000#32
    else Ideal.ofBits .f32 (mag + 939524096#32)
  if u &&& 2147483648#32 = 0#32 then v else 0 - v

/-- The same in whole steps of binary32. -/
def decodedSteps (u : BitVec 32) : ℤ :=
  let mag := u &&& 266338304#32
  let v := if mag.slt 8388608#32 then steps 8 23 (mag + 947912704#32) - steps 8 23 0x38800000#32
    else steps 8 23 (mag + 939524096#32)
  if u &&& 2147483648#32 = 0#32 then v else 0 - v

theorem decode_table : ∀ k : Fin 256, BitVec.ofFin (w := 8) k &&& 0x7C#8 ≠ 0x7C#8 →
    decodedSteps (spread (BitVec.ofFin k)) = steps 5 2 (BitVec.ofFin (w := 8) k) * 2 ^ 133
      ∧ ((BitVec.ofFin (w := 8) k).extractLsb' 2 5).toNat ≠ 2 ^ 5 - 1
      ∧ (((spread (BitVec.ofFin k) &&& 266338304#32) + 947912704#32).extractLsb' 23 8).toNat ≠ 2 ^ 8 - 1
      ∧ (((spread (BitVec.ofFin k) &&& 266338304#32) + 939524096#32).extractLsb' 23 8).toNat ≠ 2 ^ 8 - 1 := by
  decide +kernel

/-- Decoding gives the code's own value. -/
theorem decoded_spread (b : BitVec 8) (hb : b &&& 0x7C#8 ≠ 0x7C#8) : decoded (spread b) = Ideal.ofBits .fp8e5m2 b := by
  obtain ⟨h1, h2, h3, h4⟩ := decode_table b.toFin hb
  have hv : decoded (spread b) = (((decodedSteps (spread b) : ℤ) * (2 : ℝ) ^ (1 - (2 ^ (8 - 1) - 1) - (23 : ℕ) : ℤ) : ℝ) : EReal) := by
    unfold decoded decodedSteps
    simp only [Ideal.ofBits]
    rw [ieee_eq_steps 8 23 _ h3, ieee_eq_steps 8 23 _ h4, ieee_eq_steps 8 23 0x38800000#32 (by decide)]
    generalize (2 : ℝ) ^ (1 - (2 ^ (8 - 1) - 1) - (23 : ℕ) : ℤ) = z
    have e0 : (0 : EReal) = ((0 : ℝ) : EReal) := rfl
    split <;> split <;> simp only [← EReal.coe_sub, e0] <;> congr 1 <;> push_cast <;> ring
  rw [hv]
  rw [show Ideal.ofBits .fp8e5m2 b = Ideal.ieee 5 2 b from rfl, ieee_eq_steps 5 2 b h2, show decodedSteps (spread b) = _ from h1]
  congr 1
  rw [show (steps 5 2 (BitVec.ofFin (w := 8) b.toFin)) = steps 5 2 b from rfl]
  have : (2 : ℝ) ^ (1 - (2 ^ (5 - 1) - 1) - (2 : ℕ) : ℤ) = (2 : ℝ) ^ (133 : ℕ) * (2 : ℝ) ^ (1 - (2 ^ (8 - 1) - 1) - (23 : ℕ) : ℤ) := by
    rw [← zpow_natCast, ← zpow_add₀ two_ne_zero]; congr 1
  rw [this]; push_cast; ring

end Cert.KernelIdeal.Hand

end
-- ==== Proof.KI.Value.lean ====
/-
  What the two calls' bodies compute on extended reals, element by element: the first call's product of a value and its scale, one product step
  of the second call, and one segment of token rows added to the output block.
-/
module

public import proofs.«01_k».proof.Proof.KI.Body
public import proofs.«01_k».proof.Proof.KI.Decode
public import Idealize.ShloMosaic.Lib.StableHlo.Predicate

@[expose] public section

set_option maxRecDepth 8192

noncomputable section

namespace Cert.KernelIdeal.Hand

open Idealize.ShloMosaic
open scoped BigOperators

/-- The first call's block: the value times its row's scale. -/
theorem k0_pay1_apply (X : S512x4096.Idx → EReal) (S : S512x1.Idx → EReal) (p : Fin 512) (x : Fin 4096) :
    Gen.k0_pay1 (F := Ideal) X S (ix2 p x) = X (ix2 p x) * S (ix2 p 0) := by
  pointwise [Gen.k0_pay1]

/-- One product step of the second call: the block plus the sum over the step's 1024 tokens. -/
theorem k1_pay2_apply (C : S1024x640.Idx → EReal) (G : S1x1024x1.Idx → EReal) (X : S640x4096.Idx → EReal) (H : S1024x4096.Idx → EReal)
    (r : Fin 640) (x : Fin 4096) :
    Gen.k1_pay2 (F := Ideal) C G X H (ix2 r x) = X (ix2 r x) + ∑ t : Fin 1024, C (ix2 t r) * G (ix3 0 t 0) * H (ix2 t x) := by
  pointwise [Gen.k1_pay2]

theorem k1_pay1_apply (y : S640x4096.Idx) : Gen.k1_pay1 (F := Ideal) y = 0 := by
  pointwise [Gen.k1_pay1]

/-- The spread bits of a token's code. -/
theorem k1_pay8_apply (w : BitVec 32) (row : S1x4096.Idx → BitVec 32) (y : S1x4096.Idx) :
    Gen.k1_pay8 (F := Ideal) w row y = spread (codeOf w (row y)) := by
  have hq : w.toNat % 4 < 4 := Nat.mod_lt _ (by decide)
  have hs : (24#32 - 8#32 * (w &&& 3#32)) = BitVec.ofNat 32 (24 - 8 * (w.toNat % 4)) := by
    have e : w &&& 3#32 = BitVec.ofNat 32 (w.toNat % 4) := by
      apply BitVec.eq_of_toNat_eq
      rw [BitVec.toNat_and, BitVec.toNat_ofNat, BitVec.toNat_ofNat, Nat.mod_eq_of_lt (by omega : w.toNat % 4 < 2 ^ 32)]
      exact Nat.and_two_pow_sub_one_eq_mod _ 2
    rw [e]
    have : ∀ q : Fin 4, (24#32 - 8#32 * BitVec.ofNat 32 q.val) = BitVec.ofNat 32 (24 - 8 * q.val) := by decide
    exact this ⟨_, hq⟩
  have hn : (BitVec.ofNat 32 (24 - 8 * (w.toNat % 4))).toNat = 24 - 8 * (w.toNat % 4) := by
    rw [BitVec.toNat_ofNat, Nat.mod_eq_of_lt (by omega)]
  show IntOp.andi (IntOp.shrsi .vector (IntOp.shli .vector (row y) (24#32 - 8#32 * (w &&& 3#32))) 3#32) 2413821952#32 = _
  rw [hs]
  unfold IntOp.andi IntOp.shrsi IntOp.shli
  rw [if_pos (by decide), if_pos (by rw [hn]; omega)]
  rw [show ∀ a b : BitVec 32, a <<< b = a <<< b.toNat from fun _ _ => rfl, hn]
  exact spread_of (row y) ⟨_, hq⟩

section Generic

variable {F : FTy → Type} [FloatOps F]

/-- The decoding of the spread bits, over any floats. -/
def decodedF (u : BitVec 32) : F .f32 :=
  Scalar.select (IntOp.cmpi .eq (IntOp.andi u 2147483648#32) 0#32)
    (Scalar.select (IntOp.cmpi .slt (IntOp.andi u 266338304#32) 8388608#32)
      (FloatOps.subf (FloatOps.ofBits .f32 (IntOp.addi (IntOp.andi u 266338304#32) 947912704#32)) (FloatOps.ofBits .f32 0x38800000#32))
      (FloatOps.ofBits .f32 (IntOp.addi (IntOp.andi u 266338304#32) 939524096#32)))
    (FloatOps.subf (FloatOps.ofBits .f32 0x00000000#32)
      (Scalar.select (IntOp.cmpi .slt (IntOp.andi u 266338304#32) 8388608#32)
        (FloatOps.subf (FloatOps.ofBits .f32 (IntOp.addi (IntOp.andi u 266338304#32) 947912704#32)) (FloatOps.ofBits .f32 0x38800000#32))
        (FloatOps.ofBits .f32 (IntOp.addi (IntOp.andi u 266338304#32) 939524096#32))))

theorem added_eq (w : BitVec 32) (row : S1x4096.Idx → BitVec 32) (s : F .f32) (base : S1x4096.Idx → F .f32) (y : S1x4096.Idx) :
    added w row s base y = FloatOps.addf (base y) (FloatOps.mulf (decodedF (Gen.k1_pay8 (F := F) w row y)) s) := by
  unfold added
  rw [show Gen.k1_pay7 (F := F) base = base from by unfold Gen.k1_pay7; exact shapeCast_self _ _]
  rfl

end Generic

theorem decodedF_ideal (u : BitVec 32) : decodedF (F := Ideal) u = decoded u := by
  unfold decodedF decoded
  simp only [Ideal.subf_def, Ideal.ofBits_def, Ideal.ofBits_zero_f32]
  generalize Ideal.ofBits .f32 0x38800000#32 = z
  unfold Scalar.select IntOp.cmpi IntOp.andi IntOp.addi
  have hb : ∀ b : Bool, (BitVec.ofBool b = 1) ↔ b = true := by decide
  simp only [hb, beq_iff_eq]

/-- A row of the block with a token's row added. -/
theorem added_apply (w : BitVec 32) (row : S1x4096.Idx → BitVec 32) (s : EReal) (base : S1x4096.Idx → EReal) (y : S1x4096.Idx) :
    added (F := Ideal) w row s base y = base y + decoded (spread (codeOf w (row y))) * s := by
  rw [added_eq, decodedF_ideal, k1_pay8_apply, Ideal.addf_def, Ideal.mulf_def]

/-- One token's contribution to element `y` of the block, when its id falls on `y`'s row. -/
def tokTerm (c : ℕ) (ord sid : S6144.Idx → BitVec 32) (es : S6144.Idx → EReal) (e32 : S1536x4096.Idx → BitVec 32) (y : S640x4096.Idx) (p : ℕ) : EReal :=
  if (y 0).val = (sid (pos p)).toNat - 640 * c then
    decoded (spread (codeOf (ord (pos p)) (packed e32 (ord (pos p)) (col (y 1))))) * es (pos p) else 0

/-- The block after `n` tokens: what it held plus the tokens' contributions. -/
theorem accN_apply (c : ℕ) (ord sid : S6144.Idx → BitVec 32) (es : S6144.Idx → EReal) (e32 : S1536x4096.Idx → BitVec 32) (lo : ℕ)
    (X : S640x4096.Idx → EReal) (n : ℕ) (y : S640x4096.Idx) :
    accN (F := Ideal) c ord sid es e32 lo X n y = X y + ∑ i : Fin n, tokTerm c ord sid es e32 y (lo + i.val) := by
  induction n with
  | zero => rw [accN]; simp
  | succ n ih =>
    rw [Fin.sum_univ_castSucc, ← add_assoc]
    rw [show (∑ i : Fin n, tokTerm c ord sid es e32 y (lo + (Fin.castSucc i).val)) = ∑ i : Fin n, tokTerm c ord sid es e32 y (lo + i.val) from rfl, ← ih]
    rw [accN]
    unfold tokStep
    show _ = _ + tokTerm c ord sid es e32 y (lo + n)
    unfold tokTerm
    by_cases h : (y 0).val = (sid (pos (lo + n))).toNat - 640 * c
    · rw [if_pos h, if_pos h, added_apply]
      congr 2
      funext a; fin_cases a <;> rfl
    · rw [if_neg h, if_neg h, add_zero]

end Cert.KernelIdeal.Hand

end
-- ==== Proof.KI.Blocks.lean ====
/-
  What the blocks of both calls hold of their arrays, and what the calls' output arrays end up holding.
-/
module

public import proofs.«01_k».proof.Proof.KI.Region0
public import proofs.«01_k».proof.Proof.KI.Value

@[expose] public section

set_option maxRecDepth 8192

noncomputable section

namespace Cert.KernelIdeal.Hand

open Idealize.ShloMosaic Idealize.ShloMosaic.TcCoe
open Idealize.ShloMosaic.Pipeline (Dat)

variable {F : FTy → Type} [FloatOps F]
variable (Va Vb : Dev nD → Valuation τ sig (Elt F))

theorem lt1 (t : Fin (cfg1 (adm1 Vb)).N) : t.val < 300 := by
  have := t.isLt; have h : (cfg1 (adm1 Vb)).N = 300 := Gen.N_1; omega

/-- The first operand's block at a point: 1024 tokens by 640 vocabulary rows. -/
theorem iblk_0 (c : Dev nD) (t : Fin (cfg1 (adm1 Vb)).N) (p : Fin 1024) (r : Fin 640) :
    iblk Vb c 0 t (ix2 p r) = Vb c main_v27 (ix2 (⟨t.val % 6 * 1024 + p.val, by omega⟩ : Fin 6144)
      (⟨t.val / 6 * 640 + r.val, by have := lt1 Vb t; omega⟩ : Fin 32000)) := by
  have h0 := coords1_0 t
  have h1 := coords1_1 t
  refine congrArg (Vb c main_v27) (funext fun a => Fin.ext ?_)
  refine (Pipeline.Window.rect_emb_val ((cfg1 (adm1 Vb)).win 0) t (ix2 p r) a rfl).trans ?_
  have := lt1 Vb t
  fin_cases a
  · show (BitVec.ofNat 32 (grid1.coords t 1).val).toNat * 1024 + p.val = _
    rw [h1, BitVec.toNat_ofNat, Nat.mod_eq_of_lt (by omega : t.val % 6 < 2 ^ 32)]; rfl
  · show (BitVec.ofNat 32 (grid1.coords t 0).val).toNat * 640 + r.val = _
    rw [h0, BitVec.toNat_ofNat, Nat.mod_eq_of_lt (by omega : t.val / 6 < 2 ^ 32)]; rfl

/-- The scales' block at a point: one block of the vocabulary's scale of each of 1024 tokens. -/
theorem iblk_1 (c : Dev nD) (t : Fin (cfg1 (adm1 Vb)).N) (p : Fin 1024) :
    iblk Vb c 1 t (ix3 0 p 0) = Vb c main_v26 (ix3 (⟨t.val / 6, by have := lt1 Vb t; omega⟩ : Fin 50)
      (⟨t.val % 6 * 1024 + p.val, by omega⟩ : Fin 6144) (0 : Fin 1)) := by
  have h0 := coords1_0 t
  have h1 := coords1_1 t
  refine congrArg (Vb c main_v26) (funext fun a => Fin.ext ?_)
  refine (Pipeline.Window.rect_emb_val ((cfg1 (adm1 Vb)).win 1) t (ix3 0 p 0) a rfl).trans ?_
  have := lt1 Vb t
  fin_cases a
  · show (BitVec.ofNat 32 (grid1.coords t 0).val).toNat * 1 + 0 = t.val / 6
    rw [h0, BitVec.toNat_ofNat, Nat.mod_eq_of_lt (by omega : t.val / 6 < 2 ^ 32)]; omega
  · show (BitVec.ofNat 32 (grid1.coords t 1).val).toNat * 1024 + p.val = _
    rw [h1, BitVec.toNat_ofNat, Nat.mod_eq_of_lt (by omega : t.val % 6 < 2 ^ 32)]; rfl
  · rfl

/-- The scaled activations' block at a point. -/
theorem iblk_2 (c : Dev nD) (t : Fin (cfg1 (adm1 Vb)).N) (p : Fin 1024) (x : Fin 4096) :
    iblk Vb c 2 t (ix2 p x) = Vb c main_v2 (ix2 (⟨t.val % 6 * 1024 + p.val, by omega⟩ : Fin 6144) x) := by
  have h1 := coords1_1 t
  refine congrArg (Vb c main_v2) (funext fun a => Fin.ext ?_)
  refine (Pipeline.Window.rect_emb_val ((cfg1 (adm1 Vb)).win 2) t (ix2 p x) a rfl).trans ?_
  have := lt1 Vb t
  fin_cases a
  · show (BitVec.ofNat 32 (grid1.coords t 1).val).toNat * 1024 + p.val = _
    rw [h1, BitVec.toNat_ofNat, Nat.mod_eq_of_lt (by omega : t.val % 6 < 2 ^ 32)]; rfl
  · show 0 * 4096 + x.val = x.val
    omega

/-- The sorted tokens' scales are read whole. -/
theorem iblk_3 (c : Dev nD) (t : Fin (cfg1 (adm1 Vb)).N) : iblk Vb c 3 t = Vb c main_v23 := by
  funext y
  refine congrArg (Vb c main_v23) (funext fun a => Fin.ext ?_)
  refine (Pipeline.Window.rect_emb_val ((cfg1 (adm1 Vb)).win 3) t y a rfl).trans ?_
  have e : ((cfg1 (adm1 Vb)).win 3).index t a = 0 := by fin_cases a; rfl
  rw [e, Nat.zero_mul, Nat.zero_add]

/-- Where an element of the output block of a point sits in the output array. -/
theorem emb4 (t : Fin (cfg1 (adm1 Vb)).N) (y : S640x4096.Idx) :
    ((((cfg1 (adm1 Vb)).win 4).blk t).view.emb y : S32000x4096.Idx)
      = ix2 (⟨t.val / 6 * 640 + (y 0).val, by have := lt1 Vb t; have : (y 0).val < 640 := (y 0).isLt; omega⟩ : Fin 32000)
          (⟨(y 1).val, (y 1).isLt⟩ : Fin 4096) := by
  have h0 := coords1_0 t
  have ht := lt1 Vb t
  refine funext fun a => Fin.ext ?_
  refine (Pipeline.Window.rect_emb_val ((cfg1 (adm1 Vb)).win 4) t y a rfl).trans ?_
  fin_cases a
  · show (BitVec.ofNat 32 (grid1.coords t 0).val).toNat * 640 + (y 0).val = t.val / 6 * 640 + (y 0).val
    rw [h0, BitVec.toNat_ofNat, Nat.mod_eq_of_lt (by omega : t.val / 6 < 2 ^ 32)]
  · show 0 * 4096 + (y 1).val = (y 1).val
    omega

/-- The output array of the second call, element by element: row `640 * b + r` is row `r` of what block `b`'s last point leaves. -/
def final1 (c : Dev nD) (i : S32000x4096.Idx) : F .f32 :=
  outAt Vb c ((i 0).val / 640 * 6 + 5) (ix2 (⟨(i 0).val % 640, Nat.mod_lt _ (by decide)⟩ : Fin 640) (⟨(i 1).val, (i 1).isLt⟩ : Fin 4096))

theorem arr1 (c : Dev nD) : (dat1 Vb c).arrAt 4 (cfg1 (adm1 Vb)).N = final1 Vb c := by
  refine (dat1 Vb c).arrAt_eq_of_cover 4 (final1 Vb c) (fun t hf => ?_) (fun i => ?_)
  · have hf' : t.val % 6 = 5 := by
      have := flush1 Vb t; rw [hf] at this; exact of_decide_eq_true this.symm
    have ht := lt1 Vb t
    refine funext fun (y : S640x4096.Idx) => ?_
    show outAt Vb c t.val y = final1 Vb c ((((cfg1 (adm1 Vb)).win 4).blk t).view.emb y)
    refine Eq.trans ?_ (congrArg (final1 Vb c) (emb4 Vb t y).symm)
    have hy : (y 0).val < 640 := (y 0).isLt
    have e1 : (t.val / 6 * 640 + (y 0).val) / 640 * 6 + 5 = t.val := by omega
    have e2 : (t.val / 6 * 640 + (y 0).val) % 640 = (y 0).val := by omega
    show _ = outAt Vb c ((t.val / 6 * 640 + (y 0).val) / 640 * 6 + 5)
      (ix2 (⟨(t.val / 6 * 640 + (y 0).val) % 640, _⟩ : Fin 640) (⟨(y 1).val, _⟩ : Fin 4096))
    simp only [e1, e2]
    refine congrArg (outAt Vb c t.val) (funext fun a => ?_)
    fin_cases a <;> rfl
  · change S32000x4096.Idx at i
    have hi : (i 0).val < 32000 := (i 0).isLt
    have hN : (cfg1 (adm1 Vb)).N = 300 := Gen.N_1
    let t : Fin (cfg1 (adm1 Vb)).N := ⟨(i 0).val / 640 * 6 + 5, by omega⟩
    refine ⟨t, ?_, ?_⟩
    · rw [flush1]; exact decide_eq_true (by show ((i 0).val / 640 * 6 + 5) % 6 = 5; omega)
    · let y : S640x4096.Idx := ix2 (⟨(i 0).val % 640, Nat.mod_lt _ (by decide)⟩ : Fin 640) (⟨(i 1).val, (i 1).isLt⟩ : Fin 4096)
      refine Finset.mem_map.mpr ⟨y, Finset.mem_univ _, ?_⟩
      refine (emb4 Vb t y).trans (funext fun a => Fin.ext ?_)
      fin_cases a
      · show ((i 0).val / 640 * 6 + 5) / 6 * 640 + (i 0).val % 640 = (i 0).val
        omega
      · rfl

theorem coords0_0 : ∀ t : Fin grid0.N, (grid0.coords t 0).val = t.val := by decide +kernel
theorem flush0 : ∀ t : Fin cfg0.N, (cfg0.win 2).flush t = true := by decide +kernel

theorem iblk0_0 (c : Dev nD) (t : Fin cfg0.N) (p : Fin 512) (x : Fin 4096) (h : t.val * 512 + p.val < 6144) :
    iblk0 Va c 0 t (ix2 p x) = Va c main_v0 (ix2 (⟨t.val * 512 + p.val, h⟩ : Fin 6144) x) := by
  have h0 := coords0_0 t
  refine congrArg (Va c main_v0) (funext fun a => Fin.ext ?_)
  refine (Pipeline.Window.rect_emb_val (cfg0.win 0) t (ix2 p x) a rfl).trans ?_
  fin_cases a
  · show (BitVec.ofNat 32 (grid0.coords t 0).val).toNat * 512 + p.val = _
    rw [h0, BitVec.toNat_ofNat, Nat.mod_eq_of_lt (by omega : t.val < 2 ^ 32)]; rfl
  · show 0 * 4096 + x.val = x.val
    omega

theorem iblk0_1 (c : Dev nD) (t : Fin cfg0.N) (p : Fin 512) (h : t.val * 512 + p.val < 6144) :
    iblk0 Va c 1 t (ix2 p 0) = Va c main_v1 (ix2 (⟨t.val * 512 + p.val, h⟩ : Fin 6144) (0 : Fin 1)) := by
  have h0 := coords0_0 t
  refine congrArg (Va c main_v1) (funext fun a => Fin.ext ?_)
  refine (Pipeline.Window.rect_emb_val (cfg0.win 1) t (ix2 p 0) a rfl).trans ?_
  fin_cases a
  · show (BitVec.ofNat 32 (grid0.coords t 0).val).toNat * 512 + p.val = _
    rw [h0, BitVec.toNat_ofNat, Nat.mod_eq_of_lt (by omega : t.val < 2 ^ 32)]; rfl
  · rfl

/-- Where an element of the first call's output block of a point sits in its array. -/
theorem emb2 (t : Fin cfg0.N) (y : S512x4096.Idx) (h : t.val * 512 + (y 0).val < 6144) :
    (((cfg0.win 2).blk t).view.emb y : S6144x4096.Idx) = ix2 (⟨t.val * 512 + (y 0).val, h⟩ : Fin 6144) (⟨(y 1).val, (y 1).isLt⟩ : Fin 4096) := by
  have h0 := coords0_0 t
  refine funext fun a => Fin.ext ?_
  refine (Pipeline.Window.rect_emb_val (cfg0.win 2) t y a rfl).trans ?_
  fin_cases a
  · show (BitVec.ofNat 32 (grid0.coords t 0).val).toNat * 512 + (y 0).val = t.val * 512 + (y 0).val
    rw [h0, BitVec.toNat_ofNat, Nat.mod_eq_of_lt (by omega : t.val < 2 ^ 32)]
  · show 0 * 4096 + (y 1).val = (y 1).val
    omega

theorem ix2_eta {a b : ℕ} (y : (⟨2, ![a, b]⟩ : Shape).Idx) : y = ix2 (⟨(y 0).val, (y 0).isLt⟩ : Fin a) (⟨(y 1).val, (y 1).isLt⟩ : Fin b) := by
  funext d; fin_cases d <;> rfl

/-- Every value times its row's scale. -/
def scaled (X : S6144x4096.Idx → EReal) (S : S6144x1.Idx → EReal) (i : S6144x4096.Idx) : EReal :=
  X (ix2 (⟨(i 0).val, (i 0).isLt⟩ : Fin 6144) (⟨(i 1).val, (i 1).isLt⟩ : Fin 4096)) * S (ix2 (⟨(i 0).val, (i 0).isLt⟩ : Fin 6144) (0 : Fin 1))

/-- The first call's output array: the value times its token's scale. -/
theorem arr0 (Wa : Dev nD → Valuation τ sig (Elt Ideal)) (c : Dev nD) :
    (dat0 Wa c).arrAt 2 cfg0.N = scaled (Wa c main_v0) (Wa c main_v1) := by
  have hN : cfg0.N = 12 := by decide
  refine (dat0 Wa c).arrAt_eq_of_cover 2 (scaled (Wa c main_v0) (Wa c main_v1)) (fun t hf => ?_) (fun i => ?_)
  · have ht : t.val < 12 := hN ▸ t.isLt
    refine funext fun (y : S512x4096.Idx) => ?_
    obtain ⟨p, x, rfl⟩ : ∃ (p : Fin 512) (x : Fin 4096), y = ix2 p x := ⟨_, _, ix2_eta y⟩
    have h : t.val * 512 + p.val < 6144 := by omega
    refine Eq.trans ?_ (congrArg (scaled (Wa c main_v0) (Wa c main_v1)) (emb2 t (ix2 p x) h).symm)
    show Gen.k0_pay1 (F := Ideal) (iblk0 Wa c 0 t) (iblk0 Wa c 1 t) (ix2 p x) = _
    rw [k0_pay1_apply, iblk0_0 Wa c t _ _ h, iblk0_1 Wa c t _ h]
    rfl
  · change S6144x4096.Idx at i
    have hi : (i 0).val < 6144 := (i 0).isLt
    let t : Fin cfg0.N := ⟨(i 0).val / 512, by omega⟩
    refine ⟨t, flush0 t, ?_⟩
    let y : S512x4096.Idx := ix2 (⟨(i 0).val % 512, Nat.mod_lt _ (by decide)⟩ : Fin 512) (⟨(i 1).val, (i 1).isLt⟩ : Fin 4096)
    have h : t.val * 512 + (y 0).val < 6144 := by show (i 0).val / 512 * 512 + (i 0).val % 512 < 6144; omega
    refine Finset.mem_map.mpr ⟨y, Finset.mem_univ _, ?_⟩
    refine (emb2 t y h).trans (funext fun a => Fin.ext ?_)
    fin_cases a
    · show (i 0).val / 512 * 512 + (i 0).val % 512 = (i 0).val
      omega
    · rfl

end Cert.KernelIdeal.Hand
-- ==== Proof.KI.Sums.lean ====
/-
  The output block after the last step of a vocabulary block: a sum over all tokens plus the contributions of the block's segment.
-/
module

public import proofs.«01_k».proof.Proof.KI.Blocks

@[expose] public section

set_option maxRecDepth 8192

noncomputable section

namespace Cert.KernelIdeal.Hand

open Idealize.ShloMosaic Idealize.ShloMosaic.TcCoe
open scoped BigOperators

/-- One token's product at a row and a column of a vocabulary block, of the three operands. -/
def prod3 (C : S6144x32000.Idx → EReal) (G : S50x6144x1.Idx → EReal) (H : S6144x4096.Idx → EReal) (b : Fin 50) (r : Fin 640) (x : Fin 4096)
    (p : Fin 6144) : EReal :=
  C (ix2 p (⟨b.val * 640 + r.val, by omega⟩ : Fin 32000)) * G (ix3 b p (0 : Fin 1)) * H (ix2 p x)

variable (Vb : Dev nD → Valuation τ sig (Elt Ideal)) (c : Dev nD)

/-- The same of the operands the second call finds. -/
def prodTerm (b : Fin 50) (r : Fin 640) (x : Fin 4096) (p : Fin 6144) : EReal :=
  prod3 (Vb c main_v27) (Vb c main_v26) (Vb c main_v2) b r x p

/-- The products of the tokens of one step. -/
def stepSum (b : Fin 50) (r : Fin 640) (x : Fin 4096) (k : ℕ) : EReal :=
  if h : k < 6 then ∑ t : Fin 1024, prodTerm Vb c b r x (⟨k * 1024 + t.val, by omega⟩ : Fin 6144) else 0

theorem mulStep_apply (b : Fin 50) (k : ℕ) (hk : k < 6) (h : b.val * 6 + k < grid1.N) (X : S640x4096.Idx → EReal) (r : Fin 640) (x : Fin 4096) :
    mulStep (F := Ideal) k (iblk Vb c 0 ⟨b.val * 6 + k, h⟩) (iblk Vb c 1 ⟨b.val * 6 + k, h⟩) (iblk Vb c 2 ⟨b.val * 6 + k, h⟩) X (ix2 r x)
      = (if k = 0 then 0 else X (ix2 r x)) + stepSum Vb c b r x k := by
  unfold mulStep stepSum
  refine (k1_pay2_apply _ _ _ _ r x).trans ?_
  rw [dif_pos hk]
  refine congrArg₂ (· + ·) ?_ (Finset.sum_congr rfl fun t _ => ?_)
  · by_cases h0 : k = 0
    · rw [if_pos h0, if_pos h0, k1_pay1_apply]
    · rw [if_neg h0, if_neg h0]
  · have e1 : (b.val * 6 + k) / 6 = b.val := by omega
    have e2 : (b.val * 6 + k) % 6 = k := by omega
    rw [iblk_0, iblk_1, iblk_2]
    simp only [e1, e2]
    rfl

theorem outAt_step (n : ℕ) (h0 : n % 6 ≠ 0) : outAt Vb c n = stepAt Vb c n (outAt Vb c (n - 1)) := by
  obtain ⟨q, rfl⟩ : ∃ q, n = q + 1 := ⟨n - 1, by omega⟩
  rfl

theorem outAt_first (n : ℕ) : ∃ X, outAt Vb c n = stepAt Vb c n X := by
  cases n with
  | zero => exact ⟨_, rfl⟩
  | succ n => exact ⟨_, rfl⟩

theorem stepAt_lt (b : Fin 50) (k : ℕ) (hk : k < 5) (X : S640x4096.Idx → EReal) (r : Fin 640) (x : Fin 4096) :
    stepAt (F := Ideal) Vb c (b.val * 6 + k) X (ix2 r x) = (if k = 0 then 0 else X (ix2 r x)) + stepSum Vb c b r x k := by
  have h : b.val * 6 + k < grid1.N := by rw [Gen.N_1]; omega
  have e2 : (b.val * 6 + k) % 6 = k := by omega
  unfold stepAt blkStep
  rw [dif_pos h, e2, if_neg (by omega)]
  exact mulStep_apply Vb c b k (by omega) h X r x

/-- After step `k` of a block, `k < 5`: the products of the tokens so far. -/
theorem outAt_lt (b : Fin 50) (r : Fin 640) (x : Fin 4096) (k : ℕ) (hk : k < 5) :
    outAt (F := Ideal) Vb c (b.val * 6 + k) (ix2 r x) = ∑ q ∈ Finset.range (k + 1), stepSum Vb c b r x q := by
  induction k with
  | zero =>
    obtain ⟨X, hX⟩ := outAt_first Vb c (b.val * 6 + 0)
    rw [hX, stepAt_lt Vb c b 0 hk, if_pos rfl, zero_add, Finset.sum_range_one]
  | succ k ih =>
    rw [outAt_step Vb c _ (by omega), stepAt_lt Vb c b (k + 1) hk, if_neg (by omega), Finset.sum_range_succ, ← ih (by omega)]
    rfl

theorem sum_steps (b : Fin 50) (r : Fin 640) (x : Fin 4096) :
    ∑ q ∈ Finset.range 6, stepSum Vb c b r x q = ∑ p : Fin 6144, prodTerm Vb c b r x p := by
  rw [Finset.sum_range]
  refine Eq.trans ?_ (Fin.sum_univ_tiles 6 1024 (N := 6144) (by decide) (prodTerm Vb c b r x)).symm
  refine Finset.sum_congr rfl fun q _ => ?_
  unfold stepSum
  rw [dif_pos q.isLt]

theorem stepAt_last (b : Fin 50) (X : S640x4096.Idx → EReal) (h : b.val * 6 + 5 < grid1.N) :
    stepAt (F := Ideal) Vb c (b.val * 6 + 5) X
      = accN b.val (Vb 0 main_v4) (Vb 0 main_v11) (Vb c main_v23) (Vb c main_v30) (bound (Vb 0 main_v15) b.val).toNat
          (mulStep (F := Ideal) 5 (iblk Vb c 0 ⟨b.val * 6 + 5, h⟩) (iblk Vb c 1 ⟨b.val * 6 + 5, h⟩) (iblk Vb c 2 ⟨b.val * 6 + 5, h⟩) X)
          ((bound (Vb 0 main_v15) (b.val + 1)).toNat - (bound (Vb 0 main_v15) b.val).toNat) := by
  have e1 : (b.val * 6 + 5) / 6 = b.val := by omega
  have e2 : (b.val * 6 + 5) % 6 = 5 := by omega
  unfold stepAt blkStep
  rw [dif_pos h, e1, e2, if_pos rfl, iblk_3]

/-- After the last step of a block: the products of all tokens, and the contributions of the segment's tokens. -/
theorem outAt_last (b : Fin 50) (r : Fin 640) (x : Fin 4096) :
    outAt (F := Ideal) Vb c (b.val * 6 + 5) (ix2 r x) = (∑ p : Fin 6144, prodTerm Vb c b r x p)
      + ∑ i : Fin ((bound (Vb 0 main_v15) (b.val + 1)).toNat - (bound (Vb 0 main_v15) b.val).toNat),
          tokTerm b.val (Vb 0 main_v4) (Vb 0 main_v11) (Vb c main_v23) (Vb c main_v30) (ix2 r x) ((bound (Vb 0 main_v15) b.val).toNat + i.val) := by
  have h : b.val * 6 + 5 < grid1.N := by rw [Gen.N_1]; omega
  rw [outAt_step Vb c _ (by omega), stepAt_last Vb c b _ h]
  refine (accN_apply _ _ _ _ _ _ _ _ _).trans (congrArg (· + _) ?_)
  refine (mulStep_apply Vb c b 5 (by omega) h _ r x).trans ?_
  rw [if_neg (by decide), show b.val * 6 + 5 - 1 = b.val * 6 + 4 from rfl, outAt_lt Vb c b r x 4 (by omega),
    ← Finset.sum_range_succ (fun q => stepSum Vb c b r x q) 5]
  exact sum_steps Vb c b r x

end Cert.KernelIdeal.Hand
-- ==== Proof.KI.Run.lean ====
/-
  The whole program's run: the two calls between the host's lines, and what the buffers hold at the end.
-/
module

public import proofs.«01_k».proof.Proof.KI.Region0
public import Idealize.ShloMosaic.Lib.Pipeline.RegionArraysS
public import Idealize.ShloMosaic.Lib.Pipeline.RegionArraysDT
public import Idealize.ShloMosaic.Adequacy
public import Idealize.ShloMosaic.Init

@[expose] public section

set_option maxRecDepth 8192

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation RegionSeg HostSeg Seg ucRefs arrRefs tblRefs arrRef afterRegion)

variable {F : FTy → Type} [FloatOps F]

local notation "𝕄" => MT nD τ sig Unit (Elt F) ℕ (Pipeline.UC sig nD τ) ℕ

variable (m : (ℓ : Loc nD τ sig) → Buf (Elt F) ℓ)

set_option maxHeartbeats 4000000 in
set_option backward.isDefEq.respectTransparency.types false in
/-- Given the two calls' records, entered from and left at the host lines' buffers, every run of the program ends with the arguments as
    launched and the result at what the second call leaves. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 2) → (pcfgs (F := F) p).Adm)
    (pdats : (p : Fin 2) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_v31) = V8 m outs c main_v31)
      ∧ r.2.sem = fun _ => 0) := by
  refine Pipeline.θ_run_regions_kit_dev_sems (pcfgs (F := F)) a pdats ι (cellOf_inj a) EP defs₀ 𝒱₀ L lv m ρ main
    (segs m outs 𝒱₀ L lv E ι a pdats R0 R1)
    (fun c Q => by
      rewrite [main_chain c, Seg.run_eq_chain,
        show (segs m outs 𝒱₀ L lv E ι a pdats R0 R1 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()) ] from rfl]
      dsimp (config := { failIfUnchanged := false }) only
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V8 m outs c))
    (hch := fun c => ⟨.rfl, hpre0 c, hpost0 c, .rfl, .rfl, .rfl, .rfl, hpre1 c, (hpost1 c).trans (sep_mono .rfl (hE2 c))⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_v31) = V8 m outs c main_v31)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V8 m outs c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V8_main_arg0 m outs c),
        (h (Proc.devRef .tc main_arg1) (Finset.mem_filter.mpr ⟨StableHlo.devRef_mem_tcRefs main_arg1, by decide⟩)).trans (V8_main_arg1 m outs c),
        (h (Proc.devRef .tc main_arg2) (Finset.mem_filter.mpr ⟨StableHlo.devRef_mem_tcRefs main_arg2, by decide⟩)).trans (V8_main_arg2 m outs c),
        (h (Proc.devRef .tc main_arg3) (Finset.mem_filter.mpr ⟨StableHlo.devRef_mem_tcRefs main_arg3, by decide⟩)).trans (V8_main_arg3 m outs c),
        (h (Proc.devRef .tc main_arg4) (Finset.mem_filter.mpr ⟨StableHlo.devRef_mem_tcRefs main_arg4, by decide⟩)).trans (V8_main_arg4 m outs c),
        (h (Proc.devRef .tc main_arg5) (Finset.mem_filter.mpr ⟨StableHlo.devRef_mem_tcRefs main_arg5, by decide⟩)).trans (V8_main_arg5 m outs c),
        (h (Proc.devRef .tc main_arg6) (Finset.mem_filter.mpr ⟨StableHlo.devRef_mem_tcRefs main_arg6, by decide⟩)).trans (V8_main_arg6 m outs c),
        h (Proc.devRef .tc main_v31) (Finset.mem_filter.mpr ⟨StableHlo.devRef_mem_tcRefs main_v31, by decide⟩)⟩
    · iexact HSI

/-! ## What the calls leave -/

abbrev V1t : Dev nD → Valuation τ sig (Elt F) := fun c => V1 m c
/-- After the first call. -/
def outs0 : Outs (F := F) := fun _ r c => afterRegion (dat0 (V1t m) c) (V1 m c) (Proc.devRef .tc r)
/-- The buffers when the second call begins. -/
abbrev V7t : Dev nD → Valuation τ sig (Elt F) := fun c => V7 m (outs0 m) c
/-- After either call. -/
def outs : Outs (F := F) := fun j r c => if j = 8 then afterRegion (dat1 (V7t m) c) (V7t m c) (Proc.devRef .tc r) else outs0 m j r c

theorem V2_eq (c : Dev nD) : V2 m (outs m) c = V2 m (outs0 m) c := rfl
theorem V7_eq (c : Dev nD) : V7 m (outs m) c = V7t m c := rfl

theorem out0 : ∀ w : Fin 3, arrRef spec0 w ≠ main_v2 → (spec0 w).isOut = false := by decide
theorem out1 : ∀ w : Fin 5, arrRef spec1 w ≠ main_v31 → (spec1 w).isOut = false := by decide

/-- The buffers after the first call. -/
theorem V2_after (c : Dev nD) : V2 m (outs m) c = afterRegion (dat0 (V1t m) c) (V1 m c) := by
  funext b
  by_cases hb : b = Proc.devRef .tc main_v2
  · subst hb
    exact Function.update_self ..
  · refine (Function.update_of_ne hb ..).trans ?_
    by_cases hw : b ∈ arrRefs (τ := τ) spec0
    · obtain ⟨r, hr, rfl⟩ := Finset.mem_map.mp hw
      obtain ⟨w, -, rfl⟩ := Finset.mem_image.mp hr
      refine (Pipeline.afterRegion_keeps (dat0 (V1t m) c) (V1 m c) (launch0 (F := F)).win.arr_inj (fun _ => rfl) _ fun w' hw' => ?_).symm
      exact out0 w' fun h => hb (congrArg _ (hw'.symm.trans h))
    · exact (Pipeline.afterRegion_off (dat0 (V1t m) c) (V1 m c) Finset.univ b (Finset.mem_sdiff.mpr ⟨Finset.mem_univ _, hw⟩)).symm

/-- The buffers after the second call. -/
theorem V8_after (c : Dev nD) : V8 m (outs m) c = afterRegion (dat1 (V7t m) c) (V7t m c) := by
  funext b
  by_cases hb0 : b = Proc.devRef .tc main_v30
  · subst hb0
    exact Function.update_self ..
  · refine (Function.update_of_ne hb0 ..).trans ?_
    by_cases hb : b = Proc.devRef .tc main_v31
    · subst hb
      exact Function.update_self ..
    · refine (Function.update_of_ne hb ..).trans ?_
      by_cases hw : b ∈ arrRefs (τ := τ) spec1
      · obtain ⟨r, hr, rfl⟩ := Finset.mem_map.mp hw
        obtain ⟨w, -, rfl⟩ := Finset.mem_image.mp hr
        refine (Pipeline.afterRegion_keeps (dat1 (V7t m) c) (V7t m c) winFacts1.arr_inj (fun _ => rfl) _ fun w' hw' => ?_).symm
        exact out1 w' fun h => hb (congrArg _ (hw'.symm.trans h))
      · exact (Pipeline.afterRegion_off (dat1 (V7t m) c) (V7t m c) Finset.univ b (Finset.mem_sdiff.mpr ⟨Finset.mem_univ _, hw⟩)).symm

/-! ## The calls' records -/

/-- No core owes another anything. -/
def Lv : GSem nD τ sig → Finset Unit := fun g => if g.1.2 = .tc then {()} else ∅
abbrev lv : GSem nD τ sig → Unit → ℕ := fun _ _ => 0

abbrev admm : (p : Fin 2) → (pcfgs (F := F) p).Adm := adm (V7t m)

/-- The two calls' contents. -/
def pdats : (p : Fin 2) → (c : Dev nD) → Dat τ (Elt F) Unit ℕ (Pipeline.UC sig nD τ) ℕ (Pipeline.pin (pcfgs (F := F)) (admm m) p) c
  | ⟨0, _⟩ => fun c => dat0 (V1t m) c
  | ⟨1, _⟩ => fun c => dat1 (V7t m) c

/-- What a core carries beside the buffers. -/
def Ej (_ : Fin 3) (c : Dev nD) : sProp 𝕄 :=
  iprop((∃ Wd, owes (c : Thread nD τ) (0 : CellTallies nD τ sig Unit) Wd) ∗ emp ∗ (∃ r, prngReg c r))

theorem cut (p : Fin 2) : Pipeline.LevelCut (pcfgs (F := F)) (admm m) () Lv lv p (fun _ => 0) (fun _ => 0) where
  hι c w s := by unfold Lv; rw [if_pos rfl]; exact Finset.mem_singleton_self _
  hιb c w s := le_refl _
  hD c g i h := absurd h (lt_irrefl _)

theorem hS0 : arrRefs (τ := τ) spec0 ⊆ ucRefs τ sig := Pipeline.arrRefs_sub_ucRefs spec0 (by decide)
theorem hS1 : arrRefs (τ := τ) spec1 ⊆ ucRefs τ sig := Pipeline.arrRefs_sub_ucRefs spec1 winFacts1.arr_unscoped
theorem hT1 : tblRefs (τ := τ) pre1 ⊆ ucRefs τ sig \ arrRefs spec1 :=
  Pipeline.tblRefs_sub_ucRefs_sdiff spec1 pre1 preFacts1.unscoped preFacts1.disj

set_option backward.isDefEq.respectTransparency.types false in
/-- The first call's record. -/
def R0 : RegionSeg (pcfgs (F := F)) (admm m) (pdats m) () defs₀ Variants.none Lv lv 0 :=
  RegionSeg.ofHeldIn (pcfgs (F := F)) (admm m) (pdats m) () defs₀ Variants.none Lv lv 0 (fun _ => 0) (ucRefs τ sig) (fun _ => BI.emp) (fun _ => BI.emp)
    launch0 rfl (fun c => (body0 (V1t m) c).loose) (fun _ _ => rfl) (fun _ => rfl) (fun c w => (dat0 (V1t m) c).share_full (fun _ => rfl) w)
    (fun c => by show iprop(_ ∗ emp) ⊢ Pipeline.scopedRest spec0 c; iintro ⟨H, -⟩; iexact H)
    (fun c => by show Pipeline.scopedRest spec0 c ⊢ iprop(_ ∗ emp); iintro H; isplitl [H]; (· iexact H); iempintro)
    (fun _ => 0) (cut m 0) (fun c => iprop(∃ r, prngReg c r)) (V1t m) (fun c w => rfl)

theorem pre0 (c : Dev nD) : iprop(StableHlo.held (c : Thread nD τ) (ucRefs τ sig) (V1 m c) ∗ Ej 0 c) ⊢ (R0 m).pre c :=
by
  show _ ⊢ iprop(StableHlo.held (c.tc : Thread nD τ) (arrRefs spec0) (V1t m c) ∗ BI.emp
    ∗ (StableHlo.held (c.tc : Thread nD τ) (ucRefs τ sig \ arrRefs spec0) (V1t m c) ∗ ∃ r, prngReg c r)
    ∗ ∃ Wd, owes (c : Thread nD τ) (0 : CellTallies nD τ sig Unit) Wd)
  unfold Ej
  rw [StableHlo.held_sub_split (c.tc : Thread nD τ) hS0 (V1t m c)]
  iintro ⟨⟨Ha, Hs⟩, HO, -, Hp⟩
  isplitl [Ha]; · iexact Ha
  isplitr; · iempintro
  isplitl [Hs Hp]
  · isplitl [Hs]; · iexact Hs
    iexact Hp
  iexact HO
theorem post0 (c : Dev nD) : (R0 m).post c ⊢ iprop(StableHlo.held (c : Thread nD τ) (ucRefs τ sig) (V2 m (outs m) c) ∗ Ej 1 c) := by
  show iprop(StableHlo.held (c.tc : Thread nD τ) (arrRefs spec0) (afterRegion (dat0 (V1t m) c) (V1t m c)) ∗ BI.emp
    ∗ (StableHlo.held (c.tc : Thread nD τ) (ucRefs τ sig \ arrRefs spec0) (V1t m c) ∗ ∃ r, prngReg c r)
    ∗ ∃ Wd, owes (c : Thread nD τ) (0 : CellTallies nD τ sig Unit) Wd) ⊢ _
  rw [V2_after]
  unfold Ej
  rw [StableHlo.held_sub_split (c.tc : Thread nD τ) hS0 (afterRegion (dat0 (V1t m) c) (V1t m c)),
    StableHlo.held_congr (c.tc : Thread nD τ) (S := ucRefs τ sig \ arrRefs spec0) (V := afterRegion (dat0 (V1t m) c) (V1t m c)) (V' := V1t m c)
      (fun b hb => Pipeline.afterRegion_off (dat0 (V1t m) c) (V1t m c) _ b hb)]
  iintro ⟨Ha, -, ⟨Hs, Hp⟩, HO⟩
  isplitl [Ha Hs]
  · isplitl [Ha]; · iexact Ha
    iexact Hs
  isplitl [HO]; · iexact HO
  isplitr; · iempintro
  iexact Hp

/-- The buffers that the second call neither stages nor reads as a table. -/
abbrev Sr : Finset (DevRef τ sig) := (ucRefs τ sig \ arrRefs spec1) \ tblRefs pre1

theorem v30_in : Pipeline.hbmRefs (τ := τ) {main_v30} ⊆ Sr := by
  intro b hb
  obtain ⟨r, hr, rfl⟩ := Finset.mem_map.mp hb
  obtain rfl := Finset.mem_singleton.mp hr
  refine Finset.mem_sdiff.mpr ⟨Finset.mem_sdiff.mpr ⟨Finset.mem_filter.mpr ⟨StableHlo.devRef_mem_tcRefs main_v30, by decide⟩, fun h => ?_⟩, fun h => ?_⟩
  · obtain ⟨r, hr, e⟩ := Finset.mem_map.mp h
    obtain ⟨w, -, rfl⟩ := Finset.mem_image.mp hr
    exact (by decide : ∀ w : Fin 5, arrRef spec1 w ≠ main_v30) w (Proc.devRef_injective _ e)
  · obtain ⟨r, hr, e⟩ := Finset.mem_map.mp h
    obtain ⟨w, -, rfl⟩ := Finset.mem_image.mp hr
    exact (by decide : ∀ w : Fin 3, pre1.ref w ≠ main_v30) w (Proc.devRef_injective _ e)

theorem own1 : Pipeline.OwnSemFacts spec1 (fun _ : Unit => SemLoc.dma cc1_scratch1.sem) := by decide

variable [∀ e, Nonempty (Elt F e)] (T : TabAll (V7t m))

theorem tbl_after (c : Dev nD) (k : Fin 3) : tbl (V7t m) k = afterRegion (dat1 (V7t m) c) (V7t m c) (Proc.devRef .tc (pre1.ref k)) := by
  obtain rfl : c = 0 := Subsingleton.elim _ _
  refine (Pipeline.afterRegion_off (dat1 (V7t m) 0) (V7t m 0) Finset.univ _ (Finset.mem_sdiff.mpr ⟨Finset.mem_univ _, fun h => ?_⟩)).symm
  obtain ⟨r, hr, e⟩ := Finset.mem_map.mp h
  obtain ⟨w, -, rfl⟩ := Finset.mem_image.mp hr
  exact preFacts1.disj k w (Proc.devRef_injective _ e).symm

set_option backward.isDefEq.respectTransparency.types false in
/-- The second call's record. -/
def R1 : RegionSeg (pcfgs (F := F)) (admm m) (pdats m) () defs₀ Variants.none Lv lv 1 :=
  RegionSeg.ofHeldDHT (pcfgs (F := F)) (admm m) (pdats m) () defs₀ Variants.none Lv lv 1 (fun _ => 0) () (fun _ : Unit => SemLoc.dma cc1_scratch1.sem)
    own1 {main_v30} Sr v30_in launch1 (fun c => (body1 (V7t m) T c).loose) (fun _ _ => rfl) (fun _ => rfl)
    (fun c w => (dat1 (V7t m) c).share_full (fun _ => rfl) w)
    (fun c => by iintro -; iapply (Transfers.MayWaits.zero (c : Thread nD τ) ()); iempintro)
    (V7t m) (fun c => afterRegion (dat1 (V7t m) c) (V7t m c))
    (fun c => by
      show _ ⊢ Phi1 (V7t m) c
      unfold Phi1
      iintro ⟨⟨Hr, Hp, Hs, Hh, -⟩, Ht⟩
      isplitr [Ht]
      · isplitl [Hr]; · iexact Hr
        isplitl [Hp]; · iexact Hp
        isplitl [Hs]; · iexact Hs
        iexact Hh
      iexact Ht)
    (fun c => BI.Entails.refl _)
    (fun _ => 0) (cut m 1) (fun _ => BI.emp) (fun c w => rfl)
    (fun c k => by obtain rfl : c = 0 := Subsingleton.elim _ _; rfl)
    (fun c w => (Pipeline.afterRegion_arr (dat1 (V7t m) c) (V7t m c) winFacts1.arr_inj w).symm)
    (fun c k => tbl_after m c k)

theorem pre1' (c : Dev nD) : iprop(StableHlo.held (c : Thread nD τ) (ucRefs τ sig) (V7 m (outs m) c) ∗ Ej 1 c) ⊢ (R1 m T).pre c := by
  show _ ⊢ iprop(StableHlo.held (c.tc : Thread nD τ) (arrRefs spec1) (V7t m c) ∗ StableHlo.held (c.tc : Thread nD τ) (tblRefs pre1) (V7t m c) ∗ (∃ r, prngReg c r)
    ∗ (StableHlo.held (c.tc : Thread nD τ) Sr (V7t m c) ∗ BI.emp) ∗ ∃ Wd, owes (c : Thread nD τ) (0 : CellTallies nD τ sig Unit) Wd)
  rw [V7_eq]
  unfold Ej
  rw [StableHlo.held_sub_split (c.tc : Thread nD τ) hS1 (V7t m c), StableHlo.held_sub_split (c.tc : Thread nD τ) hT1 (V7t m c)]
  iintro ⟨⟨Ha, Ht, Hs⟩, HO, -, Hp⟩
  isplitl [Ha]; · iexact Ha
  isplitl [Ht]; · iexact Ht
  isplitl [Hp]; · iexact Hp
  isplitl [Hs]
  · isplitl [Hs]; · iexact Hs
    iempintro
  iexact HO

theorem post1 (c : Dev nD) : (R1 m T).post c ⊢ iprop(StableHlo.held (c : Thread nD τ) (ucRefs τ sig) (V8 m (outs m) c) ∗ Ej 2 c) := by
  show iprop(StableHlo.held (c.tc : Thread nD τ) (arrRefs spec1) (afterRegion (dat1 (V7t m) c) (V7t m c))
    ∗ StableHlo.held (c.tc : Thread nD τ) (tblRefs pre1) (afterRegion (dat1 (V7t m) c) (V7t m c)) ∗ (∃ r, prngReg c r)
    ∗ (StableHlo.held (c.tc : Thread nD τ) Sr (V7t m c) ∗ BI.emp) ∗ ∃ Wd, owes (c : Thread nD τ) (0 : CellTallies nD τ sig Unit) Wd) ⊢ _
  rw [V8_after]
  unfold Ej
  rw [StableHlo.held_sub_split (c.tc : Thread nD τ) hS1 (afterRegion (dat1 (V7t m) c) (V7t m c)),
    StableHlo.held_sub_split (c.tc : Thread nD τ) hT1 (afterRegion (dat1 (V7t m) c) (V7t m c)),
    StableHlo.held_congr (c.tc : Thread nD τ) (S := Sr) (V := afterRegion (dat1 (V7t m) c) (V7t m c)) (V' := V7t m c)
      (fun b hb => Pipeline.afterRegion_off (dat1 (V7t m) c) (V7t m c) _ b (Finset.mem_sdiff.mp hb).1)]
  iintro ⟨Ha, Ht, Hp, ⟨Hs, -⟩, HO⟩
  isplitl [Ha Ht Hs]
  · isplitl [Ha]; · iexact Ha
    isplitl [Ht]; · iexact Ht
    iexact Hs
  isplitl [HO]; · iexact HO
  isplitr; · iempintro
  iexact Hp

variable (ρ : Dev nD → PrngReg)

/-- The launch element: the staging cells' rounds and the pipeline's transfers; no counter yet. -/
def u₀ : Pipeline.UC sig nD τ :=
  (initOf (Pipeline.cells (Pipeline.pin (pcfgs (F := F)) (admm m)) (cellOf_inj (admm m))) (Pipeline.launchToks (Pipeline.pin (pcfgs (F := F)) (admm m)) (cellOf_inj (admm m))), 1)

set_option backward.isDefEq.respectTransparency.types false in
/-- Every run of the program ends with the arguments as launched and the result at what the second call leaves, once the tables are as the
    tokens need them. -/
theorem run (T : TabAll (V7t m)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_v31) = V8 m (outs m) c main_v31)
      ∧ r.2.sem = fun _ => 0) :=
  run_cond m embL () Variants.none Lv lv (fun g h => if_neg h) ρ (outs m) (admm m) (pdats m) 0 (fun _ => BI.emp) (u₀ m)
    (by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    Ej
    (by
      iintro ⟨H, -⟩
      imodintro
      iapply (show (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ BI.emp))
          ⊢ (bigSep Finset.univ (Ej 0) : sProp 𝕄) from bigSep_mono (fun c _ => show iprop(unscopedSems0 c ∗ owes (c : Thread nD τ) ((0 : Dev nD → CellTallies nD τ sig Unit) c) ∅ ∗ Pipeline.launchCred (0 : Dev nD → CellTallies nD τ sig Unit) c ∗ prngReg c (ρ c) ∗ BI.emp) ⊢ (Ej 0 c : sProp 𝕄) from by
        unfold Ej
        iintro ⟨-, HO, -, Hp, -⟩
        isplitl [HO]; · iexists ∅; iexact HO
        isplitr; · iempintro
        iexists _; iexact Hp))
      iexact H)
    (fun c => by unfold Ej; iintro ⟨HO, -⟩; iexact HO)
    (R0 m) (pre0 m) (post0 m) (R1 m T) (pre1' m T) (post1 m T)

end Cert.KernelIdeal.Hand

end
-- ==== Proof.KI.Host.lean ====
/-
  What the host operations between the two calls leave in the buffers the second call reads, as functions of the arguments.
-/
module

public import proofs.«01_k».proof.Proof.KI.Run
public import Idealize.ShloMosaic.Lib.StableHlo.RunRead
public import Idealize.ShloMosaic.Lib.StableHlo.Predicate

@[expose] public section

set_option maxRecDepth 8192

noncomputable section

namespace Cert.KernelIdeal.Hand

open Idealize.ShloMosaic Idealize.ShloMosaic.TcCoe Idealize.ShloMosaic.Tactic
open Cert.KernelIdeal.Gen

variable {F : FTy → Type} [FloatOps F]

/-- The positions sorted by their ids. -/
def ordOf (ids : S6144.Idx → BitVec 32) : S6144.Idx → BitVec 32 :=
  (Host.sort2 S6144 0 comparator_i32_i32_d0 ids (iotaInDim S6144 32 0)).2

/-- Indices wrapped once: a negative one counts from the end. -/
def wrapped (ord : S6144.Idx → BitVec 32) : S6144.Idx → BitVec 32 :=
  select (cmpi .slt ord (broadcastInDim S6144 ![] bcast_S_S6144 (constantI S_ 32 0#32)))
    (addi ord (broadcastInDim S6144 ![] bcast_S_S6144 (constantI S_ 32 6144#32))) ord

/-- The table read in the sorted order. -/
def taken {α : Type} (x : S6144.Idx → α) (ord : S6144.Idx → BitVec 32) : S6144.Idx → α :=
  Host.gather gather_S6144_S6144x1_S6144_n_0_n_n_0_1_1 x (broadcastInDim S6144x1 ![0] bcast_S6144_S6144x1_0 (wrapped ord))

/-- The 51 multiples of 640. -/
def limits : S51.Idx → BitVec 32 :=
  muli (iotaInDim S51 32 0) (broadcastInDim S51 ![] bcast_S_S51 (constantI S_ 32 640#32))

/-- How many of the sorted ids lie below each limit. -/
def offsOf (sid : S6144.Idx → BitVec 32) (lim : S51.Idx → BitVec 32) : S51.Idx → BitVec 32 :=
  Host.reduce IntOp.addi (extui 32 (cmpi .slt
    (broadcastInDim S6144x51 ![0, 1] bcast_S6144x1_S6144x51_0_1 (broadcastInDim S6144x1 ![0] bcast_S6144_S6144x1_0 sid))
    (broadcastInDim S6144x51 ![0, 1] bcast_S1x51_S6144x51_0_1 (broadcastInDim S1x51 ![1] bcast_S51_S1x51_1 lim))) natLt_1_32)
    (constantI S_ 32 0#32) reducesTo_S6144x51_S51_d0 h_S_

variable (V : Valuation τ sig (Elt F))

theorem read_v3 : StableHlo.after hostOps1 V main_v3 = shapeCast S6144 (V main_arg6 : S2x3072.Idx → BitVec 32) shapeCasts_S2x3072_S6144 := by
  after_reads_simp
  rfl
theorem read_v4 : StableHlo.after hostOps1_1 V main_v4 = ordOf (V main_v3) := by
  after_reads_simp
  rfl
theorem read_v11 : StableHlo.after hostOps1_2 V main_v11 = taken (V main_v3 : S6144.Idx → BitVec 32) (V main_v4) := by
  after_reads_simp
  rfl
theorem read_v14 : StableHlo.after hostOps1_2 V main_v14 = limits := by
  after_reads_simp
  rfl
theorem read_v15 : StableHlo.after hostOps1_3 V main_v15 = offsOf (V main_v11) (V main_v14) := by
  after_reads_simp
  simp only [StableHlo.TRef.ofBuf_toBuf]
  have k15 : ∀ X : (⟨S51, .i32⟩ : BufTy).Contents (Elt F), (StableHlo.TRef.of main_v15 : StableHlo.TRef sig ⟨S51, .i32⟩).toBuf X = X := fun _ => rfl
  have k14 : ∀ X, (StableHlo.TRef.of main_v14 : StableHlo.TRef sig ⟨S51, .i32⟩).ofBuf X = (X : (⟨S51, .i32⟩ : BufTy).Contents (Elt F)) := fun _ => rfl
  have k11 : ∀ X, (StableHlo.TRef.of main_v11 : StableHlo.TRef sig ⟨S6144, .i32⟩).ofBuf X = (X : (⟨S6144, .i32⟩ : BufTy).Contents (Elt F)) := fun _ => rfl
  refine (k15 _).trans ?_
  rw [k14, k11]
  unfold offsOf
  with_reducible rfl
theorem read_v23 : StableHlo.after hostOps1_4 V main_v23
    = taken (shapeCast S6144 (V main_arg5 : S2x3072.Idx → F .f32) shapeCasts_S2x3072_S6144) (V main_v4) := by
  after_reads_simp
  rfl
theorem read_v26 : StableHlo.after hostOps1_4 V main_v26
    = shapeCast S50x6144x1 (transpose S50x6144 [1, 0] (shapeCast S6144x50 (V main_arg1 : S2x3072x50.Idx → F .f32) shapeCasts_S2x3072x50_S6144x50)
        transposes_S6144x50_S50x6144_1_0) shapeCasts_S50x6144_S50x6144x1 := by
  after_reads_simp
  rfl
theorem read_v27 : StableHlo.after hostOps1_4 V main_v27
    = shapeCast S6144x32000 (V main_arg0 : S2x3072x32000.Idx → Elt F .fp8e5m2) shapeCasts_S2x3072x32000_S6144x32000 := by
  after_reads_simp
  rfl
theorem read_v30 : StableHlo.after hostOps1_4 V main_v30
    = Host.bitcastConvertWiden S1536x4096 32 (transpose S1536x4096x4 [0, 2, 1]
        (shapeCast S1536x4x4096 (V main_arg4 : S2x3072x4096.Idx → BitVec 8) shapeCasts_S2x3072x4096_S1536x4x4096)
        transposes_S1536x4x4096_S1536x4096x4_0_2_1) splits_S1536x4096_w32_S1536x4096x4_w8 := by
  after_reads_simp
  rfl

variable (m : (ℓ : Loc nD τ sig) → Buf (Elt F) ℓ) (c : Dev nD)

/-- The ids in one row. -/
abbrev idsOf : S6144.Idx → BitVec 32 :=
  shapeCast S6144 (m ((c : Thread nD τ).loc main_arg6) : S2x3072.Idx → BitVec 32) shapeCasts_S2x3072_S6144

theorem V_v3 (outs : Outs (F := F)) : V3 m outs c main_v3 = idsOf m c := by
  refine (read_v3 _).trans ?_
  rw [V2_of m outs c main_arg6 (by decide), V1_of m c main_arg6 (by decide)]
theorem V_v4 : V7t m c main_v4 = ordOf (idsOf m c) := by
  refine (V7_of m _ c main_v4 (by decide)).trans ((V6_of m _ c main_v4 (by decide)).trans ((V5_of m _ c main_v4 (by decide)).trans ?_))
  refine (read_v4 _).trans ?_
  rw [V_v3]
theorem V_v11 : V7t m c main_v11 = taken (idsOf m c) (ordOf (idsOf m c)) := by
  refine (V7_of m _ c main_v11 (by decide)).trans ((V6_of m _ c main_v11 (by decide)).trans ?_)
  refine (read_v11 _).trans ?_
  rw [V4_of m _ c main_v3 (by decide), V_v3]
  exact congrArg _ ((read_v4 _).trans (by rw [V_v3]))
theorem V_v15 : V7t m c main_v15 = offsOf (taken (idsOf m c) (ordOf (idsOf m c))) limits := by
  refine (V7_of m _ c main_v15 (by decide)).trans ?_
  refine (read_v15 _).trans ?_
  rw [show V5 m (outs0 m) c main_v14 = limits from read_v14 _]
  rw [← V_v11]
  exact congrArg (offsOf · limits) ((V7_of m _ c main_v11 (by decide)).trans (V6_of m _ c main_v11 (by decide))).symm

end Cert.KernelIdeal.Hand
-- ==== Proof.KI.Tables.lean ====
/-
  The tables the second call walks: a sorting permutation, the ids in that order, and the 51 bounds of their runs.
-/
module

public import proofs.«01_k».proof.Proof.KI.Host
public import proofs.«01_k».proof.Proof.Sorted

@[expose] public section

set_option maxRecDepth 8192

noncomputable section

namespace Cert.KernelIdeal.Hand

open Idealize.ShloMosaic Idealize.ShloMosaic.TcCoe Idealize.ShloMosaic.Tactic
open Cert.KernelIdeal.Gen

variable {F : FTy → Type} [FloatOps F]

/-- Place `p` of a row of 6144. -/
def place (p : Fin 6144) : S6144.Idx := Shape.Idx.ofFin p
/-- Bound `q` of the 51. -/
def place51 (q : Fin 51) : S51.Idx := Shape.Idx.ofFin q

theorem eq_place (i : S6144.Idx) : ∃ p, i = place p := ⟨i 0, Shape.Idx.eq_ofFin (n := 6144) i⟩

/-- The row's words by position. -/
abbrev words (ids : S6144.Idx → BitVec 32) : Fin 6144 → BitVec 32 := fun k => ids (place k)

/-- The position of the word at sorted place `p`. -/
abbrev src (ids : S6144.Idx → BitVec 32) : Fin 6144 → Fin 6144 := Sorted.src (words ids)

theorem ordOf_apply (ids : S6144.Idx → BitVec 32) (p : Fin 6144) :
    ordOf ids (place p) = BitVec.ofNat 32 (src ids p).val :=
  Sorted.argsort_apply (n := 6144) comparator_i32_i32_d0 (fun _ _ => rfl) ids p

theorem ordOf_toNat (ids : S6144.Idx → BitVec 32) (p : Fin 6144) : (ordOf ids (place p)).toNat = (src ids p).val := by
  rw [ordOf_apply, BitVec.toNat_ofNat]
  have := (src ids p).isLt
  omega

theorem ordOf_lt (ids : S6144.Idx → BitVec 32) (i : S6144.Idx) : (ordOf ids i).toNat < 6144 := by
  obtain ⟨p, rfl⟩ := eq_place i
  rw [ordOf_toNat]
  exact Fin.isLt _

theorem wrapped_eq (ord : S6144.Idx → BitVec 32) (h : ∀ i, (ord i).toNat < 6144) : wrapped ord = ord := by
  funext i
  have e : IntOp.cmpi .slt (ord i) 0#32 ≠ 1#1 := Sorted.not_neg (lt_trans (h i) (by decide))
  show (if IntOp.cmpi .slt (ord i) 0#32 = 1#1 then IntOp.addi (ord i) 6144#32 else ord i) = ord i
  exact if_neg e

theorem wrapped_ordOf (ids : S6144.Idx → BitVec 32) : wrapped (ordOf ids) = ordOf ids := wrapped_eq _ (ordOf_lt ids)

theorem taken_ordOf {α : Type} (x : S6144.Idx → α) (ids : S6144.Idx → BitVec 32) (p : Fin 6144) :
    taken x (ordOf ids) (place p) = x (place (src ids p)) := by
  unfold taken
  rw [wrapped_ordOf]
  exact Sorted.take_apply (n := 6144) _ rfl rfl rfl rfl _ (by decide) x (ordOf ids) p (src ids p) (ordOf_toNat ids p)

theorem limits_toInt (q : Fin 51) : (limits (place51 q)).toInt = 640 * (q.val : ℤ) := by
  show (BitVec.ofNat 32 q.val * 640#32).toInt = _
  have := q.isLt
  have e : (BitVec.ofNat 32 q.val * 640#32).toNat = 640 * q.val := by
    rw [BitVec.toNat_mul, BitVec.toNat_ofNat, BitVec.toNat_ofNat, Nat.mod_eq_of_lt (by omega : q.val < 2 ^ 32)]
    omega
  rw [StableHlo.Predicate.toInt_eq_toNat_of_lt (by omega), e]
  push_cast
  rfl

theorem offsOf_toNat (sid : S6144.Idx → BitVec 32) (q : Fin 51) :
    (offsOf sid limits (place51 q)).toNat
      = (Finset.univ.filter fun p : Fin 6144 => (sid (place p)).toInt < 640 * (q.val : ℤ)).card := by
  unfold offsOf
  refine (StableHlo.Predicate.toNat_reduce_count_rows (n := 6144) (m := 51) (by decide) _ _ _ _ _).trans ?_
  refine congrArg Finset.card (Finset.filter_congr fun p _ => ?_)
  show BitVec.ofBool ((broadcastInDim S6144x51 ![0, 1] _ (broadcastInDim S6144x1 ![0] _ sid) (StableHlo.Predicate.ij p q)).slt
    (broadcastInDim S6144x51 ![0, 1] _ (broadcastInDim S1x51 ![1] _ limits) (StableHlo.Predicate.ij p q))) = 1#1 ↔ _
  rw [StableHlo.Predicate.ofBool_eq_one_iff, BitVec.slt_iff_toInt_lt]
  refine iff_of_eq (congrArg₂ _ ?_ ?_)
  · exact congrArg BitVec.toInt (StableHlo.Predicate.bcast_rows (n := 6144) (m := 51) _ _ sid p q)
  · exact (congrArg BitVec.toInt (StableHlo.Predicate.bcast_cols (n := 6144) (m := 51) _ _ limits p q)).trans (limits_toInt q)

variable (ids : S6144.Idx → BitVec 32)

/-- The ids in sorted order. -/
abbrev sidOf : S6144.Idx → BitVec 32 := taken ids (ordOf ids)
/-- The bounds of the runs. -/
abbrev boundsOf : S51.Idx → BitVec 32 := offsOf (sidOf ids) limits

theorem at51_eq (c : ℕ) (hc : c ≤ 50) : at51 c = place51 ⟨c, by omega⟩ := by
  funext a
  apply Fin.ext
  have : a = 0 := Subsingleton.elim _ _
  subst this
  exact Nat.mod_eq_of_lt (by omega)

/-- A place lies before bound `c` exactly when its id is below `640 c`. -/
theorem lt_bound_iff (c : ℕ) (hc : c ≤ 50) (p : Fin 6144) :
    p.val < (bound (boundsOf ids) c).toNat ↔ (words ids (src ids p)).toInt < 640 * (c : ℤ) := by
  unfold bound
  rw [at51_eq c hc, offsOf_toNat]
  simp only [taken_ordOf]
  exact Sorted.lt_card_iff (fun q => (words ids (src ids q)).toInt) (fun i j h => Sorted.src_mono _ h) _ p

theorem bound_le (c : ℕ) (hc : c ≤ 50) : (bound (boundsOf ids) c).toNat ≤ 6144 := by
  by_contra h
  unfold bound at h
  rw [at51_eq c hc, offsOf_toNat] at h
  have := Finset.card_le_univ (Finset.univ.filter fun p : Fin 6144 => (sidOf ids (place p)).toInt < 640 * (c : ℤ))
  rw [Fintype.card_fin] at this
  exact h this

theorem pos_eq (p : Fin 6144) : pos p.val = place p := by
  funext a
  apply Fin.ext
  have : a = 0 := Subsingleton.elim _ _
  subst this
  exact Nat.mod_eq_of_lt p.isLt

/-- Tables whose bounds split the places by multiples of 640 are in order: in run `c` every id lies in the block's 640 rows. -/
theorem tab_of (B : ℕ → BitVec 32) (ord sid : S6144.Idx → BitVec 32) (hB : ∀ c ≤ 50, (B c).toNat ≤ 6144) (hord : ∀ i, (ord i).toNat < 6144)
    (hlt : ∀ c ≤ 50, ∀ p : Fin 6144, p.val < (B c).toNat ↔ (sid (place p)).toInt < 640 * (c : ℤ)) (c : ℕ) (hc : c < 50) :
    Tab c ord sid (B c) (B (c + 1)) where
  seg := by
    refine ⟨?_, hB _ (by omega)⟩
    by_contra h
    have h' := not_le.mp h
    have hp := lt_of_lt_of_le h' (hB c (by omega))
    have h1 := (hlt c (by omega) ⟨_, hp⟩).mp h'
    have h2 := (not_congr (hlt (c + 1) (by omega) ⟨_, hp⟩)).mp (lt_irrefl _)
    push_cast at h2
    omega
  ord_lt := hord
  sid_in := by
    intro p h1 h2
    have hp : p < 6144 := lt_of_lt_of_le h2 (hB (c + 1) (by omega))
    have h1' := (not_congr (hlt c (by omega) ⟨p, hp⟩)).mp (not_lt.mpr h1)
    have h2' := (hlt (c + 1) (by omega) ⟨p, hp⟩).mp h2
    rw [show pos p = place ⟨p, hp⟩ from pos_eq ⟨p, hp⟩]
    have hn := Sorted.toNat_of_le (K := 640 * c) (by push_cast; exact h1')
    push_cast at h2'
    exact ⟨(sid (place ⟨p, hp⟩)).toNat - 640 * c, by omega, by omega⟩

theorem tab (c : ℕ) (hc : c < 50) : Tab c (ordOf ids) (sidOf ids) (bound (boundsOf ids) c) (bound (boundsOf ids) (c + 1)) :=
  tab_of (bound (boundsOf ids)) (ordOf ids) (sidOf ids) (bound_le ids) (ordOf_lt ids)
    (fun c hc p => (lt_bound_iff ids c hc p).trans (iff_of_eq (congrArg (· < 640 * (c : ℤ)) (congrArg BitVec.toInt (taken_ordOf ids ids p).symm)))) c hc

/-- The tables are in order, whatever the arguments. -/
theorem tabAll (m : (ℓ : Loc nD τ sig) → Buf (Elt F) ℓ) : TabAll (V7t m) := by
  intro c hc
  rw [V_v4, V_v11, V_v15]
  exact tab _ c hc

end Cert.KernelIdeal.Hand
-- ==== Proof.KI.Segment.lean ====
/-
  The tokens of a vocabulary block's segment, counted by the tokens themselves: a row's contributions are those of the tokens with the row's id.
-/
module

public import proofs.«01_k».proof.Proof.KI.Sums
public import proofs.«01_k».proof.Proof.KI.Tables

@[expose] public section

set_option maxRecDepth 8192

noncomputable section

namespace Cert.KernelIdeal.Hand

open Idealize.ShloMosaic Idealize.ShloMosaic.TcCoe
open scoped BigOperators

/-- A sum over a run of positions, as a sum over all positions. -/
theorem sum_run (f : ℕ → EReal) (n lo hi : ℕ) (hhi : hi ≤ n) :
    ∑ i : Fin (hi - lo), f (lo + i.val) = ∑ p : Fin n, if lo ≤ p.val ∧ p.val < hi then f p.val else 0 := by
  rw [← Finset.sum_range (fun i => f (lo + i)), ← Finset.sum_Ico_eq_sum_range, ← Finset.sum_range (fun p => if lo ≤ p ∧ p < hi then f p else 0),
    ← Finset.sum_filter]
  refine Finset.sum_congr (Finset.ext fun p => ?_) fun _ _ => rfl
  rw [Finset.mem_filter, Finset.mem_Ico, Finset.mem_range]
  omega

theorem toInt_eq_iff (w : BitVec 32) (n : ℕ) (h : 0 ≤ w.toInt) : w.toInt = (n : ℤ) ↔ w.toNat = n := by
  rw [BitVec.toInt_eq_toNat_cond] at *
  have := w.isLt
  split at h <;> rename_i h2
  · rw [if_pos h2]; omega
  · omega

/-- What a token contributes to a column of its row. -/
def tokenAt (e32 : S1536x4096.Idx → BitVec 32) (s : Fin 6144 → EReal) (x : Fin 4096) (q : Fin 6144) : EReal :=
  decoded (spread (codeOf (BitVec.ofNat 32 q.val) (packed e32 (BitVec.ofNat 32 q.val) (col x)))) * s q

/-- The segment's contributions to a row are those of the tokens whose id is the row. -/
theorem segment_sum {c lo hi : ℕ} {ord sid : S6144.Idx → BitVec 32} {es : S6144.Idx → EReal} (e32 : S1536x4096.Idx → BitVec 32)
    (src : Fin 6144 → Fin 6144) (hbij : Function.Bijective src) (w : Fin 6144 → BitVec 32) (s : Fin 6144 → EReal) (hhi : hi ≤ 6144)
    (hlo : ∀ p : Fin 6144, p.val < lo ↔ (w (src p)).toInt < 640 * (c : ℤ))
    (hup : ∀ p : Fin 6144, p.val < hi ↔ (w (src p)).toInt < 640 * ((c + 1 : ℕ) : ℤ))
    (hord : ∀ p, ord (place p) = BitVec.ofNat 32 (src p).val) (hsid : ∀ p, sid (place p) = w (src p)) (hes : ∀ p, es (place p) = s (src p))
    (r : Fin 640) (x : Fin 4096) :
    ∑ i : Fin (hi - lo), tokTerm c ord sid es e32 (ix2 r x) (lo + i.val)
      = ∑ q : Fin 6144, if (w q).toInt = ((c * 640 + r.val : ℕ) : ℤ) then tokenAt e32 s x q else 0 := by
  rw [sum_run (tokTerm c ord sid es e32 (ix2 r x)) 6144 lo hi hhi]
  refine Eq.trans (Finset.sum_congr rfl fun p _ => ?_)
    (hbij.sum_comp (fun q => if (w q).toInt = ((c * 640 + r.val : ℕ) : ℤ) then tokenAt e32 s x q else 0))
  have h1 := hlo p
  have h2 := hup p
  have hr := r.isLt
  by_cases h : lo ≤ p.val ∧ p.val < hi
  · rw [if_pos h]
    have h3 : 640 * (c : ℤ) ≤ (w (src p)).toInt := by omega
    have h4 : (w (src p)).toInt = ((c * 640 + r.val : ℕ) : ℤ) ↔ (w (src p)).toNat = c * 640 + r.val := toInt_eq_iff _ _ (by omega)
    have h5 : (640 * c : ℕ) ≤ (w (src p)).toNat := by
      have := (toInt_eq_iff (w (src p)) (w (src p)).toInt.toNat (by omega)).mp (by omega)
      omega
    unfold tokTerm
    rw [pos_eq, hsid, hord, hes]
    refine if_congr ?_ rfl rfl
    rw [h4]
    show r.val = _ ↔ _
    omega
  · rw [if_neg h, if_neg]
    push_cast at h2 ⊢
    omega

end Cert.KernelIdeal.Hand
-- ==== Proof.Rows.lean ====
/-
  The result both programs compute, as one function of the seven arguments.
-/
module

public import Idealize.ShloMosaic.Lib.Pointwise

@[expose] public section

noncomputable section

namespace Cert.Rows

open Idealize.ShloMosaic
open scoped BigOperators

/-- Row `v`, column `j`: over all tokens, the scaled gradient at `v` times the scaled activation at `j`, plus the scaled embedding rows of
    the tokens whose id is `v`. -/
def rowsAt (G : (⟨3, ![2, 3072, 32000]⟩ : Shape).Idx → EReal) (gs : (⟨3, ![2, 3072, 50]⟩ : Shape).Idx → EReal)
    (X : (⟨3, ![2, 3072, 4096]⟩ : Shape).Idx → EReal) (xs : (⟨2, ![2, 3072]⟩ : Shape).Idx → EReal)
    (E : (⟨3, ![2, 3072, 4096]⟩ : Shape).Idx → BitVec 8) (es : (⟨2, ![2, 3072]⟩ : Shape).Idx → EReal)
    (ids : (⟨2, ![2, 3072]⟩ : Shape).Idx → BitVec 32) (v : Fin 32000) (j : Fin 4096) : EReal :=
  (∑ a : Fin 2, ∑ b : Fin 3072, G (ix3 a b v) * gs (ix3 a b (⟨v.val / 640, by omega⟩ : Fin 50)) * (X (ix3 a b j) * xs (ix2 a b)))
    + ∑ a : Fin 2, ∑ b : Fin 3072, if (ids (ix2 a b)).toInt = (v.val : Int) then Ideal.ofBits .fp8e5m2 (E (ix3 a b j)) * es (ix2 a b) else 0

end Cert.Rows
-- ==== Proof.KI.Args.lean ====
/-
  The second call's operands, element by element, as the program's arguments.
-/
module

public import proofs.«01_k».proof.Proof.KI.Segment
public import proofs.«01_k».proof.Proof.Rows
public import Idealize.ShloMosaic.Lib.BitcastConvert
public import Idealize.ShloMosaic.Lib.Pointwise

@[expose] public section

set_option maxRecDepth 8192

noncomputable section

namespace Cert.KernelIdeal.Hand

open Idealize.ShloMosaic Idealize.ShloMosaic.TcCoe
open Cert.KernelIdeal.Gen
open scoped BigOperators

/-- A table of the two rows of tokens, read as one row. -/
theorem flat2 {α : Type} (x : S2x3072.Idx → α) (a : Fin 2) (b : Fin 3072) (h : a.val * 3072 + b.val < 6144) :
    shapeCast S6144 x shapeCasts_S2x3072_S6144 (place (⟨a.val * 3072 + b.val, h⟩ : Fin 6144)) = x (ix2 a b) := by
  have e : place (⟨a.val * 3072 + b.val, h⟩ : Fin 6144) = Idealize.ShloMosaic.ix1 (⟨a.val * 3072 + b.val, h⟩ : Fin 6144) := by
    funext d; fin_cases d; rfl
  rw [e]
  pointwise

theorem flat_v27 {α : Type} (x : S2x3072x32000.Idx → α) (a : Fin 2) (b : Fin 3072) (v : Fin 32000) (h : a.val * 3072 + b.val < 6144) :
    shapeCast S6144x32000 x shapeCasts_S2x3072x32000_S6144x32000 (ix2 (⟨a.val * 3072 + b.val, h⟩ : Fin 6144) v) = x (ix3 a b v) := by
  pointwise

theorem flat_v26 {α : Type} (x : S2x3072x50.Idx → α) (a : Fin 2) (b : Fin 3072) (v : Fin 50) (h : a.val * 3072 + b.val < 6144) :
    shapeCast S50x6144x1 (transpose S50x6144 [1, 0] (shapeCast S6144x50 x shapeCasts_S2x3072x50_S6144x50)
        transposes_S6144x50_S50x6144_1_0) shapeCasts_S50x6144_S50x6144x1 (ix3 v (⟨a.val * 3072 + b.val, h⟩ : Fin 6144) (0 : Fin 1)) = x (ix3 a b v) := by
  pointwise

theorem flat_v0 {α : Type} (x : S2x3072x4096.Idx → α) (a : Fin 2) (b : Fin 3072) (v : Fin 4096) (h : a.val * 3072 + b.val < 6144) :
    shapeCast S6144x4096 x shapeCasts_S2x3072x4096_S6144x4096 (ix2 (⟨a.val * 3072 + b.val, h⟩ : Fin 6144) v) = x (ix3 a b v) := by
  pointwise

theorem flat_v1 {α : Type} (x : S2x3072.Idx → α) (a : Fin 2) (b : Fin 3072) (h : a.val * 3072 + b.val < 6144) :
    shapeCast S6144x1 x shapeCasts_S2x3072_S6144x1 (ix2 (⟨a.val * 3072 + b.val, h⟩ : Fin 6144) (0 : Fin 1)) = x (ix2 a b) := by
  pointwise

/-- A sum over the tokens, row by row. -/
theorem sum_rows (f : Fin 6144 → EReal) :
    ∑ q, f q = ∑ a : Fin 2, ∑ b : Fin 3072, f ⟨a.val * 3072 + b.val, by omega⟩ :=
  (Fin.sum_univ_tiles 2 3072 (N := 6144) (by decide) f)

theorem flat_codes {α : Type} (x : S2x3072x4096.Idx → α) (n : ℕ) (hn : n < 6144) (j : Fin 4096) :
    transpose S1536x4096x4 [0, 2, 1] (shapeCast S1536x4x4096 x shapeCasts_S2x3072x4096_S1536x4x4096)
        transposes_S1536x4x4096_S1536x4096x4_0_2_1 (ix3 (⟨n / 4, by omega⟩ : Fin 1536) j (⟨n % 4, by omega⟩ : Fin 4))
      = x (ix3 (⟨n / 3072, by omega⟩ : Fin 2) (⟨n % 3072, by omega⟩ : Fin 3072) j) := by
  pointwise
  congr 2
  · exact Fin.ext (show n / 4 / 768 = n / 3072 by omega)
  · exact Fin.ext (show n / 4 % 768 * 4 + n % 4 = n % 3072 by omega)

/-- The code of a token and a column, taken out of the packed words. -/
theorem code_apply (E : S2x3072x4096.Idx → BitVec 8) (n : ℕ) (hn : n < 6144) (j : Fin 4096) :
    codeOf (BitVec.ofNat 32 n) (packed (Host.bitcastConvertWiden S1536x4096 32 (transpose S1536x4096x4 [0, 2, 1]
        (shapeCast S1536x4x4096 E shapeCasts_S2x3072x4096_S1536x4x4096)
        transposes_S1536x4x4096_S1536x4096x4_0_2_1) splits_S1536x4096_w32_S1536x4096x4_w8) (BitVec.ofNat 32 n) (col j))
      = E (ix3 (⟨n / 3072, by omega⟩ : Fin 2) (⟨n % 3072, by omega⟩ : Fin 3072) j) := by
  have hw : (BitVec.ofNat 32 n).toNat = n := by rw [BitVec.toNat_ofNat, Nat.mod_eq_of_lt (by omega)]
  unfold codeOf packed
  rw [hw, ← flat_codes E n hn j]
  refine BitVec.eq_of_getLsbD_eq fun i hi => ?_
  rw [BitVec.getLsbD_extractLsb', Host.bitcastConvertWiden_getLsbD _ _ _ _ _ _ (by omega)]
  have e1 : (8 * (n % 4) + i) % 8 = i := by omega
  have e2 : (8 * (n % 4) + i) / 8 = n % 4 := by omega
  rw [e1]
  simp only [hi, decide_true, Bool.true_and]
  refine congrArg (fun y => (transpose S1536x4096x4 [0, 2, 1] (shapeCast S1536x4x4096 E shapeCasts_S2x3072x4096_S1536x4x4096)
        transposes_S1536x4x4096_S1536x4096x4_0_2_1 y).getLsbD i) (funext fun a => Fin.ext ?_)
  fin_cases a
  · show n / 4 % 1536 = n / 4
    omega
  · rfl
  · exact e2

/-- The packed words, from the codes. -/
abbrev packedOf (E : S2x3072x4096.Idx → BitVec 8) : S1536x4096.Idx → BitVec 32 :=
  Host.bitcastConvertWiden S1536x4096 32 (transpose S1536x4096x4 [0, 2, 1]
    (shapeCast S1536x4x4096 E shapeCasts_S2x3072x4096_S1536x4x4096)
    transposes_S1536x4x4096_S1536x4096x4_0_2_1) splits_S1536x4096_w32_S1536x4096x4_w8

/-- No code has all five exponent bits set. -/
def Codes (E : S2x3072x4096.Idx → BitVec 8) : Prop := ∀ i, E i &&& 0x7C#8 ≠ 0x7C#8

/-- A token's contribution, from the codes and the scales, when no code has all five exponent bits set. -/
theorem tokenAt_flat (E : S2x3072x4096.Idx → BitVec 8) (hE : Codes E) (es : S2x3072.Idx → EReal)
    (a : Fin 2) (b : Fin 3072) (h : a.val * 3072 + b.val < 6144) (j : Fin 4096) :
    tokenAt (packedOf E) (fun q => shapeCast S6144 es shapeCasts_S2x3072_S6144 (place q)) j ⟨a.val * 3072 + b.val, h⟩
      = Ideal.ofBits .fp8e5m2 (E (ix3 a b j)) * es (ix2 a b) := by
  unfold tokenAt packedOf
  rw [code_apply E _ h j, decoded_spread _ (hE _)]
  refine congrArg₂ (· * ·) ?_ (flat2 es a b h)
  have e1 : (a.val * 3072 + b.val) / 3072 = a.val := by omega
  have e2 : (a.val * 3072 + b.val) % 3072 = b.val := by omega
  exact congrArg (fun y => Ideal.ofBits .fp8e5m2 (E y)) (congrArg₂ (fun y z => ix3 y z j) (Fin.ext e1) (Fin.ext e2))

/-- The products' sum and the tokens' contributions to a row, from the arguments. -/
theorem rows_flat (G : S2x3072x32000.Idx → EReal) (gs : S2x3072x50.Idx → EReal) (X : S2x3072x4096.Idx → EReal) (xs : S2x3072.Idx → EReal)
    (E : S2x3072x4096.Idx → BitVec 8) (hE : Codes E) (es : S2x3072.Idx → EReal) (ids : S2x3072.Idx → BitVec 32)
    (b : Fin 50) (r : Fin 640) (v : Fin 32000) (hv : b.val * 640 + r.val = v.val) (j : Fin 4096) :
    (∑ p : Fin 6144, prod3 (shapeCast S6144x32000 G shapeCasts_S2x3072x32000_S6144x32000)
        (shapeCast S50x6144x1 (transpose S50x6144 [1, 0] (shapeCast S6144x50 gs shapeCasts_S2x3072x50_S6144x50)
          transposes_S6144x50_S50x6144_1_0) shapeCasts_S50x6144_S50x6144x1)
        (scaled (shapeCast S6144x4096 X shapeCasts_S2x3072x4096_S6144x4096) (shapeCast S6144x1 xs shapeCasts_S2x3072_S6144x1)) b r j p)
      + (∑ q : Fin 6144, if (words (shapeCast S6144 ids shapeCasts_S2x3072_S6144) q).toInt = ((b.val * 640 + r.val : ℕ) : ℤ)
          then tokenAt (packedOf E) (fun q => shapeCast S6144 es shapeCasts_S2x3072_S6144 (place q)) j q else 0)
      = Cert.Rows.rowsAt G gs X xs E es ids v j := by
  unfold Cert.Rows.rowsAt
  rw [sum_rows, sum_rows]
  refine congrArg₂ (· + ·) (Finset.sum_congr rfl fun a _ => Finset.sum_congr rfl fun t _ => ?_)
    (Finset.sum_congr rfl fun a _ => Finset.sum_congr rfl fun t _ => ?_)
  · unfold prod3
    rw [flat_v27, flat_v26]
    refine congrArg₂ (· * ·) (congrArg₂ (· * ·) ?_ ?_) ?_
    · exact congrArg (fun y => G (ix3 a t y)) (Fin.ext hv)
    · exact congrArg (fun y => gs (ix3 a t y)) (Fin.ext (show b.val = v.val / 640 by omega))
    · exact congrArg₂ (· * ·) (flat_v0 X a t j _) (flat_v1 xs a t _)
  · rw [tokenAt_flat E hE es a t _ j]
    unfold words
    rw [flat2 ids a t, hv]

end Cert.KernelIdeal.Hand
-- ==== Proof.KI.Final.lean ====
/-
  The kernel's result: what the second call's output array ends holding, at a row and a column, from the arguments.
-/
module

public import proofs.«01_k».proof.Proof.KI.Args

@[expose] public section

set_option maxRecDepth 8192

noncomputable section

namespace Cert.KernelIdeal.Hand

open Idealize.ShloMosaic Idealize.ShloMosaic.TcCoe Idealize.ShloMosaic.Tactic
open Idealize.ShloMosaic.Pipeline (afterRegion afterRegion_arr)
open Cert.KernelIdeal.Gen
open scoped BigOperators

section Reads
variable {F : FTy → Type} [FloatOps F]

variable (V : Valuation τ sig (Elt F))

theorem read_v0 : StableHlo.after hostOps0 V main_v0
    = shapeCast S6144x4096 (V main_arg2 : S2x3072x4096.Idx → Elt F .fp8e4m3) shapeCasts_S2x3072x4096_S6144x4096 := by
  after_reads_simp
  rfl
theorem read_v1 : StableHlo.after hostOps0 V main_v1
    = shapeCast S6144x1 (V main_arg3 : S2x3072.Idx → F .f32) shapeCasts_S2x3072_S6144x1 := by
  after_reads_simp
  rfl

variable (m : (ℓ : Loc nD τ sig) → Buf (Elt F) ℓ) (c : Dev nD)

/-- A buffer no host operation and no call writes holds, before the last host operations, what it held at the start. -/
theorem V6_start (outs : Outs (F := F)) (r : Ref sig .tc) (h0 : r ∉ hostOps0_W) (h1 : r ∉ ([main_v2] : List (Ref sig .tc))) (h2 : r ∉ hostOps1_W)
    (h3 : r ∉ hostOps1_1_W) (h4 : r ∉ hostOps1_2_W) (h5 : r ∉ hostOps1_3_W) : V6 m outs c r = V0 m c r :=
  (V6_of m outs c r h5).trans ((V5_of m outs c r h4).trans ((V4_of m outs c r h3).trans ((V3_of m outs c r h2).trans
    ((V2_of m outs c r h1).trans (V1_of m c r h0)))))

theorem V_v27 : V7t m c main_v27
    = shapeCast S6144x32000 (m ((c : Thread nD τ).loc main_arg0) : S2x3072x32000.Idx → Elt F .fp8e5m2) shapeCasts_S2x3072x32000_S6144x32000 := by
  refine (read_v27 _).trans ?_
  rw [V6_start m c _ main_arg0 (by decide) (by decide) (by decide) (by decide) (by decide) (by decide)]
theorem V_v26 : V7t m c main_v26
    = shapeCast S50x6144x1 (transpose S50x6144 [1, 0] (shapeCast S6144x50 (m ((c : Thread nD τ).loc main_arg1) : S2x3072x50.Idx → F .f32)
        shapeCasts_S2x3072x50_S6144x50) transposes_S6144x50_S50x6144_1_0) shapeCasts_S50x6144_S50x6144x1 := by
  refine (read_v26 _).trans ?_
  rw [V6_start m c _ main_arg1 (by decide) (by decide) (by decide) (by decide) (by decide) (by decide)]
theorem V_v30 : V7t m c main_v30 = packedOf (m ((c : Thread nD τ).loc main_arg4) : S2x3072x4096.Idx → BitVec 8) := by
  refine (read_v30 _).trans ?_
  rw [V6_start m c _ main_arg4 (by decide) (by decide) (by decide) (by decide) (by decide) (by decide)]
theorem V_v23 : V7t m c main_v23
    = taken (shapeCast S6144 (m ((c : Thread nD τ).loc main_arg5) : S2x3072.Idx → F .f32) shapeCasts_S2x3072_S6144) (ordOf (idsOf m c)) := by
  refine (read_v23 _).trans ?_
  rw [V6_start m c _ main_arg5 (by decide) (by decide) (by decide) (by decide) (by decide) (by decide)]
  exact congrArg _ ((V7_of m _ c main_v4 (by decide)).symm.trans (V_v4 m c))

end Reads

variable (m : (ℓ : Loc nD τ sig) → Buf (Elt Ideal) ℓ) (c : Dev nD)

theorem V1_v0 : V1t m c main_v0
    = shapeCast S6144x4096 (m ((c : Thread nD τ).loc main_arg2) : S2x3072x4096.Idx → EReal) shapeCasts_S2x3072x4096_S6144x4096 :=
  read_v0 _
theorem V1_v1 : V1t m c main_v1
    = shapeCast S6144x1 (m ((c : Thread nD τ).loc main_arg3) : S2x3072.Idx → EReal) shapeCasts_S2x3072_S6144x1 :=
  read_v1 _

/-- The first call's output, when the second call starts: the activations scaled. -/
theorem V_v2 : V7t m c main_v2
    = scaled (shapeCast S6144x4096 (m ((c : Thread nD τ).loc main_arg2) : S2x3072x4096.Idx → EReal) shapeCasts_S2x3072x4096_S6144x4096)
        (shapeCast S6144x1 (m ((c : Thread nD τ).loc main_arg3) : S2x3072.Idx → EReal) shapeCasts_S2x3072_S6144x1) := by
  refine (V7_of m _ c main_v2 (by decide)).trans ((V6_of m _ c main_v2 (by decide)).trans ((V5_of m _ c main_v2 (by decide)).trans
    ((V4_of m _ c main_v2 (by decide)).trans ((V3_of m _ c main_v2 (by decide)).trans ?_))))
  refine (congrFun ((V2_eq m c).symm.trans (V2_after m c)) _).trans ?_
  refine (afterRegion_arr (dat0 (V1t m) c) (V1 m c) (by decide) 2).trans ?_
  refine (arr0 (V1t m) c).trans ?_
  exact congrArg₂ scaled (V1_v0 m c) (V1_v1 m c)

/-- The result array when the program ends. -/
theorem V_v31 : V8 m (outs m) c main_v31 = final1 (V7t m) c := by
  refine (congrFun (V8_after m c) _).trans ?_
  refine (afterRegion_arr (dat1 (V7t m) c) (V7t m c) (show Function.Injective (Pipeline.arrRef spec1) by decide) 4).trans ?_
  exact arr1 (V7t m) c

/-- The tables the second call reads, at a row and a column: the sum of the products and of the row's tokens' contributions. -/
theorem out_sorted (Vb : Dev nD → Valuation τ sig (Elt Ideal)) (ids : S6144.Idx → BitVec 32) (s : S6144.Idx → EReal) (c : Dev nD)
    (h4 : Vb 0 main_v4 = ordOf ids) (h11 : Vb 0 main_v11 = taken ids (ordOf ids))
    (h15 : Vb 0 main_v15 = boundsOf ids) (h23 : Vb c main_v23 = taken s (ordOf ids)) (b : Fin 50) (r : Fin 640) (x : Fin 4096) :
    outAt (F := Ideal) Vb c (b.val * 6 + 5) (ix2 r x) = (∑ p : Fin 6144, prodTerm Vb c b r x p)
      + ∑ q : Fin 6144, if (words ids q).toInt = ((b.val * 640 + r.val : ℕ) : ℤ)
          then tokenAt (Vb c main_v30) (fun q => s (place q)) x q else 0 := by
  refine (outAt_last Vb c b r x).trans (congrArg (_ + ·) ?_)
  rw [h4, h11, h15, h23]
  exact segment_sum _ (src ids) (Sorted.src_bijective _) (words ids) (fun q => s (place q)) (bound_le ids (b.val + 1) (by omega))
    (lt_bound_iff ids b.val (by omega)) (lt_bound_iff ids (b.val + 1) (by omega)) (ordOf_apply ids) (taken_ordOf ids ids) (taken_ordOf s ids) r x

/-- The program's result at a row and a column, when no code has all five exponent bits set. -/
theorem result_apply (hE : Codes (m ((c : Thread nD τ).loc main_arg4)))
    (v : Fin 32000) (j : Fin 4096) :
    (V8 m (outs m) c main_v31 : S32000x4096.Idx → EReal) (ix2 v j)
      = Cert.Rows.rowsAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) v j := by
  have hc : c = 0 := Subsingleton.elim _ _
  rw [V_v31]
  refine (out_sorted (V7t m) (idsOf m c) (shapeCast S6144 (m ((c : Thread nD τ).loc main_arg5) : S2x3072.Idx → EReal) shapeCasts_S2x3072_S6144) c
    (by rw [hc]; exact V_v4 m 0) (by rw [hc]; exact V_v11 m 0) (by rw [hc]; exact V_v15 m 0) (V_v23 m c)
    ⟨v.val / 640, by omega⟩ ⟨v.val % 640, by omega⟩ j).trans ?_
  refine Eq.trans ?_ (rows_flat _ _ _ _ _ hE _ _ ⟨v.val / 640, by omega⟩ ⟨v.val % 640, by omega⟩ v (by show v.val / 640 * 640 + v.val % 640 = v.val; omega) j)
  refine congrArg₂ (· + ·) (Finset.sum_congr rfl fun p _ => ?_) ?_
  · unfold prodTerm
    rw [V_v27, V_v26, V_v2]
  · rw [V_v30]

end Cert.KernelIdeal.Hand
-- ==== Proof.RI.Value.lean ====
/-
  The reference's result, element by element: the product summed over all tokens, plus the rows of the tokens whose id is the row's.
-/
module

public import proofs.«01_k».proof.Proof.Gen.ReferenceIdeal.Frame
public import proofs.«01_k».proof.Proof.Rows
public import Idealize.ShloMosaic.Lib.StableHlo.RunRead
public import Idealize.ShloMosaic.Lib.Pipeline.ValueKit
public import Idealize.ShloMosaic.Lib.Pointwise
public import Idealize.ShloMosaic.Lib.Routing.OpsPair

@[expose] public section

set_option maxRecDepth 8192

noncomputable section

namespace Cert.ReferenceIdeal.Hand

open Idealize.ShloMosaic Idealize.ShloMosaic.TcCoe Idealize.ShloMosaic.Tactic
open Cert.ReferenceIdeal.Gen
open Idealize.ShloMosaic.Pipeline (Dat)
open scoped BigOperators

section Generic
variable {F : FTy → Type} [FloatOps F]

/-- What the operations after the casts compute of the cast arrays and the arguments. -/
def result (X : S2x3072x32000.Idx → F .bf16) (H : S2x3072x4096.Idx → F .bf16) (E : S2x3072x4096.Idx → F .f32)
    (gs : S2x3072x50.Idx → F .f32) (xs : S2x3072.Idx → F .f32) (es : S2x3072.Idx → F .f32) (ids : S2x3072.Idx → BitVec 32) :
    S32000x4096.Idx → F .f32 :=
  addf
    (Host.dotGeneral dot_S2x3072x32000_S2x3072x4096_S32000x4096_01_01_2_2_n_n none
      (shapeCast S2x3072x32000 (mulf (shapeCast S2x3072x50x640 X shapeCasts_S2x3072x32000_S2x3072x50x640)
        (broadcastInDim S2x3072x50x640 ![0, 1, 2, 3] bcast_S2x3072x50x1_S2x3072x50x640_0_1_2_3
          (broadcastInDim S2x3072x50x1 ![0, 1, 2] bcast_S2x3072x50_S2x3072x50x1_0_1_2 (truncf .bf16 gs bitsLt_bf16_f32))))
        shapeCasts_S2x3072x50x640_S2x3072x32000)
      (mulf H (broadcastInDim S2x3072x4096 ![0, 1, 2] bcast_S2x3072x1_S2x3072x4096_0_1_2
        (broadcastInDim S2x3072x1 ![0, 1] bcast_S2x3072_S2x3072x1_0_1 (truncf .bf16 xs bitsLt_bf16_f32)))))
    (Host.scatterAdd scatter_S32000x4096_S6144x1_S6144x4096_1_0_0_1
      (broadcastInDim S32000x4096 ![] bcast_S_S32000x4096 (constant S_ .f32 0x00000000#32))
      (broadcastInDim S6144x1 ![0] bcast_S6144_S6144x1_0 (shapeCast S6144 ids shapeCasts_S2x3072_S6144))
      (shapeCast S6144x4096 (mulf E (broadcastInDim S2x3072x4096 ![0, 1, 2] bcast_S2x3072x1_S2x3072x4096_0_1_2
        (broadcastInDim S2x3072x1 ![0, 1] bcast_S2x3072_S2x3072x1_0_1 es))) shapeCasts_S2x3072x4096_S6144x4096))

theorem read_v20 (V : Valuation τ sig (Elt F)) :
    StableHlo.after (hostOps1 (F := F)) V main_v20
      = result (V main_v0_0) (V main_v0_1) (V main_v0_2) (V main_arg1) (V main_arg3) (V main_arg5) (V main_arg6) := by
  after_reads_simp
  rfl

end Generic

theorem dot_apply (A : S2x3072x32000.Idx → EReal) (B : S2x3072x4096.Idx → EReal) (v : Fin 32000) (j : Fin 4096) :
    (Host.dotGeneral (F := Ideal) (φ₁ := .bf16) (φ₂ := .bf16) dot_S2x3072x32000_S2x3072x4096_S32000x4096_01_01_2_2_n_n none A B : S32000x4096.Idx → EReal) (ix2 v j)
      = ∑ a : Fin 2, ∑ b : Fin 3072, A (ix3 a b v) * B (ix3 a b j) := by
  pointwise

theorem lhs_apply (X : S2x3072x32000.Idx → EReal) (gs : S2x3072x50.Idx → EReal) (a : Fin 2) (b : Fin 3072) (v : Fin 32000) :
    (shapeCast S2x3072x32000 (mulf (F := Ideal) (φ := .bf16) (shapeCast S2x3072x50x640 X shapeCasts_S2x3072x32000_S2x3072x50x640)
        (broadcastInDim S2x3072x50x640 ![0, 1, 2, 3] bcast_S2x3072x50x1_S2x3072x50x640_0_1_2_3
          (broadcastInDim S2x3072x50x1 ![0, 1, 2] bcast_S2x3072x50_S2x3072x50x1_0_1_2 (truncf (F := Ideal) .bf16 (φ := .f32) gs bitsLt_bf16_f32))))
        shapeCasts_S2x3072x50x640_S2x3072x32000 : S2x3072x32000.Idx → EReal) (ix3 a b v)
      = X (ix3 a b v) * gs (ix3 a b (⟨v.val / 640, by omega⟩ : Fin 50)) := by
  pointwise

theorem rhs_apply (H : S2x3072x4096.Idx → EReal) (xs : S2x3072.Idx → EReal) (a : Fin 2) (b : Fin 3072) (j : Fin 4096) :
    (mulf (F := Ideal) (φ := .bf16) H (broadcastInDim S2x3072x4096 ![0, 1, 2] bcast_S2x3072x1_S2x3072x4096_0_1_2
        (broadcastInDim S2x3072x1 ![0, 1] bcast_S2x3072_S2x3072x1_0_1 (truncf (F := Ideal) .bf16 (φ := .f32) xs bitsLt_bf16_f32))) : S2x3072x4096.Idx → EReal) (ix3 a b j)
      = H (ix3 a b j) * xs (ix2 a b) := by
  pointwise

theorem upd_apply (E : S2x3072x4096.Idx → EReal) (es : S2x3072.Idx → EReal) (a : Fin 2) (b : Fin 3072) (j : Fin 4096) (h : a.val * 3072 + b.val < 6144) :
    (shapeCast S6144x4096 (mulf (F := Ideal) (φ := .f32) E (broadcastInDim S2x3072x4096 ![0, 1, 2] bcast_S2x3072x1_S2x3072x4096_0_1_2
        (broadcastInDim S2x3072x1 ![0, 1] bcast_S2x3072_S2x3072x1_0_1 es))) shapeCasts_S2x3072x4096_S6144x4096 : S6144x4096.Idx → EReal)
        (ix2 (⟨a.val * 3072 + b.val, h⟩ : Fin 6144) j)
      = E (ix3 a b j) * es (ix2 a b) := by
  pointwise

/-- Where an update row lands: at the row its id names, column by column. -/
theorem lands (idx : S6144x1.Idx → BitVec 32) (p : Fin 6144) (q : Fin 4096) (v : Fin 32000) (j : Fin 4096) :
    (scatter_S32000x4096_S6144x1_S6144x4096_1_0_0_1).resultIdx? (ix2 p q) idx = some (ix2 v j)
      ↔ (idx (ix2 p (0 : Fin 1))).toInt = (v.val : Int) ∧ q = j := by
  have hwin0 : (scatter_S32000x4096_S6144x1_S6144x4096_1_0_0_1).window (ix2 p q) 0 = 0 := rfl
  have hwin1 : (scatter_S32000x4096_S6144x1_S6144x4096_1_0_0_1).window (ix2 p q) 1 = q.val := rfl
  have hstart1 : (scatter_S32000x4096_S6144x1_S6144x4096_1_0_0_1).start (ix2 p q) idx 1 = 0 := rfl
  have hstart0 : (scatter_S32000x4096_S6144x1_S6144x4096_1_0_0_1).start (ix2 p q) idx 0 = (idx (ix2 p (0 : Fin 1))).toInt := by
    unfold ScatterDims.start
    rw [dif_pos (show (0 : Fin 2) ∈ (scatter_S32000x4096_S6144x1_S6144x4096_1_0_0_1).scatterDimsToOperandDims from List.mem_singleton.2 rfl)]
    refine congrArg (fun i => (idx i).toInt) (funext fun b => ?_)
    fin_cases b <;> rfl
  refine (Routing.resultIdx?_ix2 _ _ _ v j).trans ?_
  rw [hstart0, hwin0, hstart1, hwin1, Fin.ext_iff]
  omega

/-- The sum of the update rows landing at a row. -/
theorem scatter_apply (x : S32000x4096.Idx → EReal) (idx : S6144x1.Idx → BitVec 32) (upd : S6144x4096.Idx → EReal) (v : Fin 32000) (j : Fin 4096) :
    (Host.scatterAdd (F := Ideal) (φ := .f32) scatter_S32000x4096_S6144x1_S6144x4096_1_0_0_1 x idx upd : S32000x4096.Idx → EReal) (ix2 v j)
      = x (ix2 v j) + ∑ p : Fin 6144, if (idx (ix2 p (0 : Fin 1))).toInt = (v.val : Int) then upd (ix2 p j) else 0 := by
  show x (ix2 v j) + ∑ k ∈ Finset.univ.filter (fun k => (scatter_S32000x4096_S6144x1_S6144x4096_1_0_0_1).resultIdx? k idx = some (ix2 v j)), upd k = _
  refine congrArg (x (ix2 v j) + ·) ?_
  rw [Finset.sum_filter, sum_idx2]
  refine Finset.sum_congr rfl fun p _ => ?_
  simp only [lands]
  by_cases h : (idx (ix2 p (0 : Fin 1))).toInt = (v.val : Int)
  · simp only [h, true_and, if_true]
    rw [Finset.sum_ite_eq' Finset.univ j, if_pos (Finset.mem_univ _)]
  · simp only [h, false_and, if_false]
    exact Finset.sum_const_zero

/-- The reference's result at a row and a column. -/
theorem result_apply (X : S2x3072x32000.Idx → EReal) (H : S2x3072x4096.Idx → EReal) (E : S2x3072x4096.Idx → EReal)
    (gs : S2x3072x50.Idx → EReal) (xs : S2x3072.Idx → EReal) (es : S2x3072.Idx → EReal) (ids : S2x3072.Idx → BitVec 32) (v : Fin 32000) (j : Fin 4096) :
    result (F := Ideal) X H E gs xs es ids (ix2 v j)
      = (∑ a : Fin 2, ∑ b : Fin 3072, X (ix3 a b v) * gs (ix3 a b (⟨v.val / 640, by omega⟩ : Fin 50)) * (H (ix3 a b j) * xs (ix2 a b)))
        + ∑ a : Fin 2, ∑ b : Fin 3072, if (ids (ix2 a b)).toInt = (v.val : Int) then E (ix3 a b j) * es (ix2 a b) else 0 := by
  refine (addf_apply _ _ _).trans ?_
  rw [Ideal.addf_def]
  refine congrArg₂ (· + ·) ?_ ?_
  · refine (dot_apply _ _ v j).trans ?_
    exact Finset.sum_congr rfl fun a _ => Finset.sum_congr rfl fun b _ => congrArg₂ (· * ·) (lhs_apply X gs a b v) (rhs_apply H xs a b j)
  · refine (scatter_apply _ _ _ v j).trans ?_
    have h0 : (broadcastInDim S32000x4096 ![] bcast_S_S32000x4096 (constant (F := Ideal) S_ .f32 0x00000000#32) : S32000x4096.Idx → EReal) (ix2 v j) = 0 := by
      pointwise
    rw [h0, zero_add, Fin.sum_univ_tiles 2 3072 (by decide)]
    refine Finset.sum_congr rfl fun a _ => Finset.sum_congr rfl fun b _ => ?_
    have hi : (broadcastInDim S6144x1 ![0] bcast_S6144_S6144x1_0 (shapeCast S6144 ids shapeCasts_S2x3072_S6144) : S6144x1.Idx → BitVec 32)
        (ix2 (⟨a.val * 3072 + b.val, by omega⟩ : Fin 6144) (0 : Fin 1)) = ids (ix2 a b) := by
      pointwise
    rw [hi]
    exact if_congr Iff.rfl (upd_apply E es a b j _) rfl

section Arrays

variable {F : FTy → Type} [FloatOps F]
variable (m : (ℓ : Loc nD τ sig) → Buf (Elt F) ℓ) (c : Dev nD)

/-- Every window of the cast call is its whole array. -/
theorem emb_self (w : Fin 6) (t : Fin cfg0.N) (y : ((cfg0.win w).xblock (cfg0.grid.coords t)).Idx) (a : Fin (cfg0.win w).shape.rank) :
    (((cfg0.win w).rect t).emb y a : ℕ) = (y a).val := by
  refine Pipeline.Window.rect_emb_val_of_index_zero _ t a ?_ y
  fin_cases w <;> fin_cases a <;> rfl

theorem iblk_arg0 (t : Fin cfg0.N) : Gen.iblk m c 0 t = m ((c : Thread nD τ).loc main_arg0) := by
  funext y
  exact congrArg (m ((c : Thread nD τ).loc main_arg0)) (funext fun a => Fin.ext (emb_self 0 t y a))
theorem iblk_arg2 (t : Fin cfg0.N) : Gen.iblk m c 1 t = m ((c : Thread nD τ).loc main_arg2) := by
  funext y
  exact congrArg (m ((c : Thread nD τ).loc main_arg2)) (funext fun a => Fin.ext (emb_self 1 t y a))
theorem iblk_arg4 (t : Fin cfg0.N) : Gen.iblk m c 2 t = m ((c : Thread nD τ).loc main_arg4) := by
  funext y
  exact congrArg (m ((c : Thread nD τ).loc main_arg4)) (funext fun a => Fin.ext (emb_self 2 t y a))

theorem out3_eq [∀ e, Nonempty (Elt F e)] (X0 : S2x3072x32000.Idx → Elt F .fp8e5m2) (X1 : S2x3072x4096.Idx → Elt F .fp8e4m3)
    (X2 : S2x3072x4096.Idx → Elt F .i8) : Gen.out0_3 X0 X1 X2 = Gen.k0_pay1 X0 := by
  frame_out
theorem out4_eq [∀ e, Nonempty (Elt F e)] (X0 : S2x3072x32000.Idx → Elt F .fp8e5m2) (X1 : S2x3072x4096.Idx → Elt F .fp8e4m3)
    (X2 : S2x3072x4096.Idx → Elt F .i8) : Gen.out0_4 X0 X1 X2 = Gen.k0_pay2 X1 := by
  frame_out
theorem out5_eq [∀ e, Nonempty (Elt F e)] (X0 : S2x3072x32000.Idx → Elt F .fp8e5m2) (X1 : S2x3072x4096.Idx → Elt F .fp8e4m3)
    (X2 : S2x3072x4096.Idx → Elt F .i8) : Gen.out0_5 X0 X1 X2 = Gen.k0_pay3 X2 := by
  frame_out

theorem whole3 : ∀ t : Fin cfg0.N, (cfg0.win 3).WholeAt t := by decide +kernel
theorem whole4 : ∀ t : Fin cfg0.N, (cfg0.win 4).WholeAt t := by decide +kernel
theorem whole5 : ∀ t : Fin cfg0.N, (cfg0.win 5).WholeAt t := by decide +kernel
theorem point : Nonempty (Fin cfg0.N) := ⟨⟨0, by decide⟩⟩

/-- What the cast call leaves in its first output array. -/
theorem arr3 : (Gen.dats m 0 c).arrAt 3 cfg0.N = Gen.k0_pay1 (m ((c : Thread nD τ).loc main_arg0)) := by
  obtain ⟨t⟩ := point
  refine (Gen.dats m 0 c).arrAt_eq_of_after_last 3 t (whole3 t) _ fun j => ?_
  refine congrFun ((Gen.after0_3 m c t).trans ?_) j
  rw [out3_eq, iblk_arg0]
theorem arr4 : (Gen.dats m 0 c).arrAt 4 cfg0.N = Gen.k0_pay2 (m ((c : Thread nD τ).loc main_arg2)) := by
  obtain ⟨t⟩ := point
  refine (Gen.dats m 0 c).arrAt_eq_of_after_last 4 t (whole4 t) _ fun j => ?_
  refine congrFun ((Gen.after0_4 m c t).trans ?_) j
  rw [out4_eq, iblk_arg2]
theorem arr5 : (Gen.dats m 0 c).arrAt 5 cfg0.N = Gen.k0_pay3 (m ((c : Thread nD τ).loc main_arg4)) := by
  obtain ⟨t⟩ := point
  refine (Gen.dats m 0 c).arrAt_eq_of_after_last 5 t (whole5 t) _ fun j => ?_
  refine congrFun ((Gen.after0_5 m c t).trans ?_) j
  rw [out5_eq, iblk_arg4]

/-- What the reference ends holding. -/
theorem end_v20 (dats : (p : Fin 1) → (c : Dev nD) → Dat τ (Elt F) Unit ℕ (UR sig nD τ) ℕ (cfgs p) c) (c : Dev nD) :
    Pipeline.afterTail₀ cfgs dats 0 (Gen.V0 m) [hostOps1] c main_v20
      = result ((dats 0 c).arrAt 3 cfg0.N) ((dats 0 c).arrAt 4 cfg0.N) ((dats 0 c).arrAt 5 cfg0.N)
          (m ((c : Thread nD τ).loc main_arg1)) (m ((c : Thread nD τ).loc main_arg3)) (m ((c : Thread nD τ).loc main_arg5))
          (m ((c : Thread nD τ).loc main_arg6)) := by
  unfold Pipeline.afterTail₀
  rw [List.flatten_cons, List.flatten_nil, List.append_nil, read_v20]
  have hinj : Function.Injective (Pipeline.arrRef spec0) := by decide
  have h3 := Pipeline.withArrays_arr spec0 hinj c (Gen.V0 m c) (fun w => (dats 0 c).arrAt w (cfgs 0).N) 3
  have h4 := Pipeline.withArrays_arr spec0 hinj c (Gen.V0 m c) (fun w => (dats 0 c).arrAt w (cfgs 0).N) 4
  have h5 := Pipeline.withArrays_arr spec0 hinj c (Gen.V0 m c) (fun w => (dats 0 c).arrAt w (cfgs 0).N) 5
  have k1 := Pipeline.withArrays_of_ne spec0 c (Gen.V0 m c) (fun w => (dats 0 c).arrAt w (cfgs 0).N) main_arg1 (by decide)
  have k3 := Pipeline.withArrays_of_ne spec0 c (Gen.V0 m c) (fun w => (dats 0 c).arrAt w (cfgs 0).N) main_arg3 (by decide)
  have k5 := Pipeline.withArrays_of_ne spec0 c (Gen.V0 m c) (fun w => (dats 0 c).arrAt w (cfgs 0).N) main_arg5 (by decide)
  have k6 := Pipeline.withArrays_of_ne spec0 c (Gen.V0 m c) (fun w => (dats 0 c).arrAt w (cfgs 0).N) main_arg6 (by decide)
  exact congr (congr (congr (congr (congr (congr (congrArg result h3) h4) h5) k1) k3) k5) k6

end Arrays

theorem pay1_apply (X : S2x3072x32000.Idx → EReal) (i : S2x3072x32000.Idx) : (Gen.k0_pay1 (F := Ideal) X : S2x3072x32000.Idx → EReal) i = X i := by
  pointwise [Gen.k0_pay1]
theorem pay2_apply (X : S2x3072x4096.Idx → EReal) (i : S2x3072x4096.Idx) : (Gen.k0_pay2 (F := Ideal) X : S2x3072x4096.Idx → EReal) i = X i := by
  pointwise [Gen.k0_pay2]
theorem pay3_apply (X : S2x3072x4096.Idx → BitVec 8) (i : S2x3072x4096.Idx) :
    (Gen.k0_pay3 (F := Ideal) X : S2x3072x4096.Idx → EReal) i = Ideal.ofBits .fp8e5m2 (X i) := by
  pointwise [Gen.k0_pay3]

section Run

variable (m : (ℓ : Loc nD τ sig) → Buf (Elt Ideal) ℓ) (ρ : Dev nD → PrngReg)

/-- The result the reference ends holding, at a row and a column. -/
theorem end_apply (c : Dev nD) (v : Fin 32000) (j : Fin 4096) :
    (Pipeline.afterTail₀ cfgs (Gen.dats m) 0 (Gen.V0 m) [hostOps1] c main_v20 : S32000x4096.Idx → EReal) (ix2 v j)
      = Rows.rowsAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) v j := by
  rw [end_v20, arr3, arr4, arr5]
  refine (result_apply _ _ _ _ _ _ _ v j).trans ?_
  simp only [pay1_apply, pay2_apply, pay3_apply]
  rfl

/-- The reference's run: it ends with the result and its arguments unchanged. -/
theorem run : θ_run defs (onTc (τ := τ) (main (F := Ideal))) ⟨m, fun _ => 0, ρ⟩ (fun r => ∀ c : Dev nD,
      r.2.mem ((c.tc : Thread nD τ).loc main_v20) = (Pipeline.afterTail₀ cfgs (Gen.dats m) 0 (Gen.V0 m) [hostOps1] c main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h.1 c).2 main_v20 (Pipeline.mem_restRefs_of main_v20 (by decide) (by decide)), h.2 c⟩)
    (θ_run_and (Gen.run_main m ρ) (Gen.unchanged m ρ))

end Run

end Cert.ReferenceIdeal.Hand
-- ==== Proof.lean ====
/-
  The certificate: each program runs to its end, leaves its arguments as they were and every semaphore at zero; and over extended reals the
  kernel and the reference end with equal results, when no embedding code has all five exponent bits set.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_finite
public import proofs.«01_k».proof.Proof.K.Tables
public import proofs.«01_k».proof.Proof.KI.Final
public import proofs.«01_k».proof.Proof.RI.Value
public import Idealize.ShloMosaic.Lib.ReduceAll
public import Idealize.ShloMosaic.Adequacy
public import Idealize.ShloMosaic.Init

@[expose] public section

noncomputable section

namespace Cert.Proof

open Idealize.ShloMosaic Idealize.SL.Sem Idealize.ShloMosaic.TcCoe

/-- The kernel in bits runs and leaves its arguments. -/
theorem frame_kernel : Cert.quiescent_Kernel (hKernel := Cert.Kernel.Gen.facts) := fun m g _ =>
  (θ_run _ _ _).mono (fun _ h => ⟨fun c => ⟨(h.1 c).1, (h.1 c).2.1, (h.1 c).2.2.1, (h.1 c).2.2.2.1, (h.1 c).2.2.2.2.1, (h.1 c).2.2.2.2.2.1,
    (h.1 c).2.2.2.2.2.2.1⟩, h.2⟩) (Cert.Kernel.Hand.run m g (Cert.Kernel.Hand.tabAll m))

/-- The kernel over extended reals runs and leaves its arguments. -/
theorem frame_kernelIdeal : Cert.quiescent_KernelIdeal (hKernelIdeal := Cert.KernelIdeal.Gen.facts) := fun m g _ =>
  (θ_run _ _ _).mono (fun _ h => ⟨fun c => ⟨(h.1 c).1, (h.1 c).2.1, (h.1 c).2.2.1, (h.1 c).2.2.2.1, (h.1 c).2.2.2.2.1, (h.1 c).2.2.2.2.2.1,
    (h.1 c).2.2.2.2.2.2.1⟩, h.2⟩) (Cert.KernelIdeal.Hand.run m g (Cert.KernelIdeal.Hand.tabAll m))

/-- The reference over extended reals runs and leaves its arguments. -/
theorem frame_referenceIdeal : Cert.quiescent_ReferenceIdeal (hReferenceIdeal := Cert.ReferenceIdeal.Gen.facts) := fun m g _ =>
  Cert.ReferenceIdeal.Gen.frame m g

theorem code_of_word : ∀ b : BitVec 8, b.signExtend 32 &&& 124#32 ≠ 124#32 → b &&& 0x7C#8 ≠ 0x7C#8 := by decide +kernel

instance : Subsingleton Cert.Pre_finite.S_.Idx := ⟨fun i j => funext fun d => d.elim0⟩

/-- The precondition says of every embedding code that not all five exponent bits are set. -/
theorem codes_of_pre (m : (ℓ : Loc Cert.KernelIdeal.nD Cert.KernelIdeal.τ Cert.KernelIdeal.sig) → Buf (Elt Ideal) ℓ)
    (h : Cert.Pre_KernelIdeal_finite (hPre_finite := Cert.Pre_finite.Gen.facts) m) (c : Dev Cert.KernelIdeal.nD) :
    Cert.KernelIdeal.Hand.Codes (m ((c.tc : Thread Cert.KernelIdeal.nD Cert.KernelIdeal.τ).loc Cert.KernelIdeal.main_arg4)) := by
  intro i
  have e := Host.reduce_andi_all _ _ _ _ (fun d => d.elim0) (congrFun (h c) (fun d => d.elim0)) i
  exact code_of_word _ (IntOp.cmpi_ne.1 e)

/-- Over extended reals the kernel and the reference end with equal results, when no embedding code has all five exponent bits set. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨fun c => Cert.KernelIdeal.Gen.V8 m (Cert.KernelIdeal.Hand.outs m) c Cert.KernelIdeal.main_v31, ?_, ?_⟩
  · exact (θ_run _ _ _).mono (fun _ h c => ⟨(h.1 c).2.2.2.2.2.2.2, (h.1 c).1, (h.1 c).2.1, (h.1 c).2.2.1, (h.1 c).2.2.2.1, (h.1 c).2.2.2.2.1,
      (h.1 c).2.2.2.2.2.1, (h.1 c).2.2.2.2.2.2.1⟩) (Cert.KernelIdeal.Hand.run m g (Cert.KernelIdeal.Hand.tabAll m))
  · refine (θ_run _ _ _).mono (fun _ h c => ⟨(h c).1.trans ?_, (h c).2⟩) (Cert.ReferenceIdeal.Hand.run m' g')
    funext y
    obtain ⟨v, j, rfl⟩ : ∃ (v : Fin 32000) (j : Fin 4096), y = ix2 v j := ⟨_, _, Cert.KernelIdeal.Hand.ix2_eta y⟩
    refine (Cert.ReferenceIdeal.Hand.end_apply m' c v j).trans ?_
    refine Eq.trans ?_ (Cert.KernelIdeal.Hand.result_apply m c (codes_of_pre m hpre c) v j).symm
    obtain ⟨h0, h1, h2, h3, h4, h5, h6⟩ := hargs c
    rw [h0, h1, h2, h3, h4, h5, h6]

theorem claim : Cert.Claim :=
  ⟨Cert.Kernel.Gen.facts, Cert.KernelIdeal.Gen.facts, Cert.ReferenceIdeal.Gen.facts, Cert.Pre_finite.Gen.facts,
    frame_kernel, frame_kernelIdeal, fun m g _ => frame_kernelIdeal m g trivial, frame_referenceIdeal, fun m g _ => frame_referenceIdeal m g trivial,
    trivial, algebraic⟩

end Cert.Proof

end
